-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "neg_inf" .f32 0xF149F2CA#32 ⊥
  ∧ IdealRules.named_const.Statement Cert.KernelIdeal.κ "inv_l" .f32 0x3CA3D70A#32 ((50⁻¹ : ℝ) : EReal)

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S26x1024x50 : Shape := ⟨3, ![26, 1024, 50]⟩
abbrev S26x101x8 : Shape := ⟨3, ![26, 101, 8]⟩
abbrev S384x208 : Shape := ⟨2, ![384, 208]⟩
abbrev S384x128 : Shape := ⟨2, ![384, 128]⟩
abbrev S384 : Shape := ⟨1, ![384]⟩
abbrev S32x768 : Shape := ⟨2, ![32, 768]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S26x1024x50 : S_.BroadcastsInDim S26x1024x50 (![] : Fin 0 → Fin S26x1024x50.rank)
  reducesTo_S26x1024x50_S_d0_1_2 : S26x1024x50.ReducesTo [0, 1, 2] S_
  h_S_ : 0 < S_.numel

variable [Facts]

def fn {F : FTy → Type} [FloatOps F] (main_arg0 : IVec S26x1024x50 32) (main_arg1 : FVec F S26x101x8 .f32) (main_arg2 : FVec F S384x208 .f32) (main_arg3 : FVec F S384x128 .f32) (main_arg4 : FVec F S384 .f32) (main_arg5 : FVec F S384 .f32) (main_arg6 : FVec F S384x208 .f32) (main_arg7 : FVec F S384x128 .f32) (main_arg8 : FVec F S384 .f32) (main_arg9 : FVec F S384 .f32) (main_arg10 : FVec F S32x768 .f32) (main_arg11 : FVec F S32 .f32) (main_arg12 : FVec F S1x32 .f32) (main_arg13 : FVec F S1 .f32) : IVec S_ 1 :=
  let main_c : IVec S_ 32 := constantI S_ 32 0#32
  let main_v0 : IVec S26x1024x50 32 := broadcastInDim S26x1024x50 ![] bcast_S_S26x1024x50 main_c
  let main_v1 : IVec S26x1024x50 1 := cmpi .sge main_arg0 main_v0
  let main_c_0 : IVec S_ 32 := constantI S_ 32 100#32
  let main_v2 : IVec S26x1024x50 32 := broadcastInDim S26x1024x50 ![] bcast_S_S26x1024x50 main_c_0
  let main_v3 : IVec S26x1024x50 1 := cmpi .slt main_arg0 main_v2
  let main_v4 : IVec S26x1024x50 1 := andi main_v1 main_v3
  let main_c_1 : IVec S_ 1 := constantI S_ 1 1#1
  let main_v5 : IVec S_ 1 := (fun x v => Host.reduce IntOp.andi x v reducesTo_S26x1024x50_S_d0_1_2 h_S_) main_v4 main_c_1
  main_v5
-- ==== Kernel.lean ====
abbrev S26x1024x50 : Shape := ⟨3, ![26, 1024, 50]⟩
abbrev S26x101x8 : Shape := ⟨3, ![26, 101, 8]⟩
abbrev S384x208 : Shape := ⟨2, ![384, 208]⟩
abbrev S384x128 : Shape := ⟨2, ![384, 128]⟩
abbrev S384 : Shape := ⟨1, ![384]⟩
abbrev S32x768 : Shape := ⟨2, ![32, 768]⟩
abbrev S32 : Shape := ⟨1, ![32]⟩
abbrev S1x32 : Shape := ⟨2, ![1, 32]⟩
abbrev S1 : Shape := ⟨1, ![1]⟩
abbrev S50x1024x26 : Shape := ⟨3, ![50, 1024, 26]⟩
abbrev S51200x26 : Shape := ⟨2, ![51200, 26]⟩
abbrev S26 : Shape := ⟨1, ![26]⟩
abbrev S1x26 : Shape := ⟨2, ![1, 26]⟩
abbrev S_ : Shape := ⟨0, ![]⟩
abbrev S1331200 : Shape := ⟨1, ![1331200]⟩
abbrev S21008 : Shape := ⟨1, ![21008]⟩
abbrev S768x208 : Shape := ⟨2, ![768, 208]⟩
abbrev S208x768 : Shape := ⟨2, ![208, 768]⟩
abbrev S768 : Shape := ⟨1, ![768]⟩
abbrev S1x768 : Shape := ⟨2, ![1, 768]⟩
abbrev S128x384 : Shape := ⟨2, ![128, 384]⟩
abbrev S1x384 : Shape := ⟨2, ![1, 384]⟩
abbrev S768x32 : Shape := ⟨2, ![768, 32]⟩
abbrev S1x1 : Shape := ⟨2, ![1, 1]⟩
abbrev S10649600 : Shape := ⟨1, ![10649600]⟩
abbrev S5200 : Shape := ⟨1, ![5200]⟩
abbrev S41600 : Shape := ⟨1, ![41600]⟩
abbrev S16 : Shape := ⟨1, ![16]⟩
abbrev S51200x208 : Shape := ⟨2, ![51200, 208]⟩
abbrev S51200x768 : Shape := ⟨2, ![51200, 768]⟩
abbrev S3200x208 : Shape := ⟨2, ![3200, 208]⟩
abbrev S3200x768 : Shape := ⟨2, ![3200, 768]⟩
abbrev S1024x1 : Shape := ⟨2, ![1024, 1]⟩
abbrev S1024x384 : Shape := ⟨2, ![1024, 384]⟩
abbrev S1024x128 : Shape := ⟨2, ![1024, 128]⟩
abbrev S1024x768 : Shape := ⟨2, ![1024, 768]⟩
abbrev S1024x32 : Shape := ⟨2, ![1024, 32]⟩
abbrev S1024 : Shape := ⟨1, ![1024]⟩

abbrev nBuf : Table → Nat
  | .hbm => 40
  | .local .tc .vmem => 25
  | .local .scVector .vmem => 3
  | _ => 0

abbrev bufTy : (tb : Table) → Fin (nBuf tb) → BufTy
  | .hbm, ⟨0, _⟩ => ⟨S26x1024x50, .i32⟩
  | .hbm, ⟨1, _⟩ => ⟨S26x101x8, .f32⟩
  | .hbm, ⟨2, _⟩ => ⟨S384x208, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S384x208, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S32x768, .f32⟩
  | .hbm, ⟨11, _⟩ => ⟨S32, .f32⟩
  | .hbm, ⟨12, _⟩ => ⟨S1x32, .f32⟩
  | .hbm, ⟨13, _⟩ => ⟨S1, .f32⟩
  | .hbm, ⟨14, _⟩ => ⟨S50x1024x26, .i32⟩
  | .hbm, ⟨15, _⟩ => ⟨S51200x26, .i32⟩
  | .hbm, ⟨16, _⟩ => ⟨S26, .i32⟩
  | .hbm, ⟨17, _⟩ => ⟨S1x26, .i32⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S51200x26, .i32⟩
  | .hbm, ⟨22, _⟩ => ⟨S51200x26, .i32⟩
  | .hbm, ⟨23, _⟩ => ⟨S1331200, .i32⟩
  | .hbm, ⟨24, _⟩ => ⟨S21008, .f32⟩
  | .hbm, ⟨25, _⟩ => ⟨S768x208, .f32⟩
  | .hbm, ⟨26, _⟩ => ⟨S208x768, .f32⟩
  | .hbm, ⟨27, _⟩ => ⟨S768, .f32⟩
  | .hbm, ⟨28, _⟩ => ⟨S1x768, .f32⟩
  | .hbm, ⟨29, _⟩ => ⟨S128x384, .f32⟩
  | .hbm, ⟨30, _⟩ => ⟨S128x384, .f32⟩
  | .hbm, ⟨31, _⟩ => ⟨S1x384, .f32⟩
  | .hbm, ⟨32, _⟩ => ⟨S1x384, .f32⟩
  | .hbm, ⟨33, _⟩ => ⟨S768x32, .f32⟩
  | .hbm, ⟨34, _⟩ => ⟨S1x32, .f32⟩
  | .hbm, ⟨35, _⟩ => ⟨S1x1, .f32⟩
  | .hbm, ⟨36, _⟩ => ⟨S10649600, .f32⟩
  | .hbm, ⟨37, _⟩ => ⟨S51200x208, .f32⟩
  | .hbm, ⟨38, _⟩ => ⟨S51200x768, .f32⟩
  | .hbm, ⟨39, _⟩ => ⟨S1024x1, .f32⟩
  | .local .tc .vmem, ⟨0, _⟩ => ⟨S3200x208, .f32⟩
  | .local .tc .vmem, ⟨1, _⟩ => ⟨S3200x208, .f32⟩
  | .local .tc .vmem, ⟨2, _⟩ => ⟨S208x768, .f32⟩
  | .local .tc .vmem, ⟨3, _⟩ => ⟨S1x768, .f32⟩
  | .local .tc .vmem, ⟨4, _⟩ => ⟨S3200x768, .f32⟩
  | .local .tc .vmem, ⟨5, _⟩ => ⟨S3200x768, .f32⟩
  | .local .tc .vmem, ⟨6, _⟩ => ⟨S1024x384, .f32⟩
  | .local .tc .vmem, ⟨7, _⟩ => ⟨S1024x384, .f32⟩
  | .local .tc .vmem, ⟨8, _⟩ => ⟨S1024x384, .f32⟩
  | .local .tc .vmem, ⟨9, _⟩ => ⟨S1024x384, .f32⟩
  | .local .tc .vmem, ⟨10, _⟩ => ⟨S128x384, .f32⟩
  | .local .tc .vmem, ⟨11, _⟩ => ⟨S1x384, .f32⟩
  | .local .tc .vmem, ⟨12, _⟩ => ⟨S128x384, .f32⟩
  | .local .tc .vmem, ⟨13, _⟩ => ⟨S1x384, .f32⟩
  | .local .tc .vmem, ⟨14, _⟩ => ⟨S768x32, .f32⟩
  | .local .tc .vmem, ⟨15, _⟩ => ⟨S1x32, .f32⟩
  | .local .tc .vmem, ⟨16, _⟩ => ⟨S1x32, .f32⟩
  | .local .tc .vmem, ⟨17, _⟩ => ⟨S1x1, .f32⟩
  | .local .tc .vmem, ⟨18, _⟩ => ⟨S1024x1, .f32⟩
  | .local .tc .vmem, ⟨19, _⟩ => ⟨S1024x128, .f32⟩
  | .local .tc .vmem, ⟨20, _⟩ => ⟨S1024x128, .f32⟩
  | .local .tc .vmem, ⟨21, _⟩ => ⟨S1024x128, .f32⟩
  | .local .tc .vmem, ⟨22, _⟩ => ⟨S1024x128, .f32⟩
  | .local .tc .vmem, ⟨23, _⟩ => ⟨S1024x128, .f32⟩
  | .local .tc .vmem, ⟨24, _⟩ => ⟨S1024x128, .f32⟩
  | .local .scVector .vmem, ⟨0, _⟩ => ⟨S21008, .f32⟩
  | .local .scVector .vmem, ⟨1, _⟩ => ⟨S5200, .i32⟩
  | .local .scVector .vmem, ⟨2, _⟩ => ⟨S41600, .f32⟩
  | _, _ => ⟨S26x1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v9_scv : Ref sig .scVector := ⟨.hbm, 24, rfl⟩
abbrev main_v8_scv : Ref sig .scVector := ⟨.hbm, 23, rfl⟩
abbrev main_v21_scv : Ref sig .scVector := ⟨.hbm, 36, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_scratch0 : Ref sig .tc := ⟨.vmem, 19, rfl⟩
abbrev cc2_scratch1 : Ref sig .tc := ⟨.vmem, 20, rfl⟩
abbrev cc2_scratch2 : Ref sig .tc := ⟨.vmem, 21, rfl⟩
abbrev cc2_scratch3 : Ref sig .tc := ⟨.vmem, 22, rfl⟩
abbrev cc2_scratch4 : Ref sig .tc := ⟨.vmem, 23, rfl⟩
abbrev cc2_scratch5 : Ref sig .tc := ⟨.vmem, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev cc2_sem9_0 : DmaSem sig := 20
abbrev cc2_sem10_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32_1 : BitVec 32 := 8#32
  let v6 : BitVec 32 := Scalar.addi c0_i32_0 c8_i32_1
  let c1_i32 : BitVec 32 := 1#32
  ⟨c0_i32_0, v6, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41600_i32 : BitVec 32 := 41600#32
  let v2 : BitVec 32 := Scalar.muli v1 c41600_i32
  let c0_i32_0 : BitVec 32 := 0#32
  let c1_i32 : BitVec 32 := 1#32
  let arg8 : BitVec 32 := Scf.iv c0_i32_0 c1_i32 k0_t1
  let c5200_i32 : BitVec 32 := 5200#32
  let v7 : BitVec 32 := Scalar.muli arg8 c5200_i32
  let v8 : BitVec 32 := Scalar.addi v2 v7
  ![v8.toNat]
@[reducible] def k0_t2_loop : Scf.Loop 32 :=
  let c0_i32_4 : BitVec 32 := 0#32
  let c325_i32 : BitVec 32 := 325#32
  let v9 : BitVec 32 := Scalar.addi c0_i32_4 c325_i32
  let c1_i32_5 : BitVec 32 := 1#32
  ⟨c0_i32_4, v9, c1_i32_5⟩
def k0_off2 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c16_i32 : BitVec 32 := 16#32
  let v11 : BitVec 32 := Scalar.muli arg9 c16_i32
  let v12 : Index := Scalar.indexCast v11
  ![v12.toNat]

def k0_chk1 (v20 : IVec S16 32) : Prop :=
  (∀ a x, ((![v20] : Fin 1 → IVec S16 32) a x).toNat < S21008.size a)
theorem k0_idx1_inb : ∀ (v20 : IVec S16 32) (k0_hw1 : k0_chk1 v20), ∀ a x, ((![v20] : Fin 1 → IVec S16 32) a x).toNat < S21008.size a := fun v20 k0_hw1 => k0_hw1

def k0_chk2 (v23 : IVec S16 32) : Prop :=
  (∀ a x, ((![v23] : Fin 1 → IVec S16 32) a x).toNat < S41600.size a)
theorem k0_idx2_inb : ∀ (v23 : IVec S16 32) (k0_hw2 : k0_chk2 v23), ∀ a x, ((![v23] : Fin 1 → IVec S16 32) a x).toNat < S41600.size a := fun v23 k0_hw2 => k0_hw2

def k0_chk3 (v25 : IVec S16 32) : Prop :=
  (∀ a x, ((![v25] : Fin 1 → IVec S16 32) a x).toNat < S21008.size a)
theorem k0_idx3_inb : ∀ (v25 : IVec S16 32) (k0_hw3 : k0_chk3 v25), ∀ a x, ((![v25] : Fin 1 → IVec S16 32) a x).toNat < S21008.size a := fun v25 k0_hw3 => k0_hw3

def k0_chk4 (v28 : IVec S16 32) : Prop :=
  (∀ a x, ((![v28] : Fin 1 → IVec S16 32) a x).toNat < S41600.size a)
theorem k0_idx4_inb : ∀ (v28 : IVec S16 32) (k0_hw4 : k0_chk4 v28), ∀ a x, ((![v28] : Fin 1 → IVec S16 32) a x).toNat < S41600.size a := fun v28 k0_hw4 => k0_hw4

def k0_chk5 (v30 : IVec S16 32) : Prop :=
  (∀ a x, ((![v30] : Fin 1 → IVec S16 32) a x).toNat < S21008.size a)
theorem k0_idx5_inb : ∀ (v30 : IVec S16 32) (k0_hw5 : k0_chk5 v30), ∀ a x, ((![v30] : Fin 1 → IVec S16 32) a x).toNat < S21008.size a := fun v30 k0_hw5 => k0_hw5

def k0_chk6 (v33 : IVec S16 32) : Prop :=
  (∀ a x, ((![v33] : Fin 1 → IVec S16 32) a x).toNat < S41600.size a)
theorem k0_idx6_inb : ∀ (v33 : IVec S16 32) (k0_hw6 : k0_chk6 v33), ∀ a x, ((![v33] : Fin 1 → IVec S16 32) a x).toNat < S41600.size a := fun v33 k0_hw6 => k0_hw6

def k0_chk7 (v35 : IVec S16 32) : Prop :=
  (∀ a x, ((![v35] : Fin 1 → IVec S16 32) a x).toNat < S21008.size a)
theorem k0_idx7_inb : ∀ (v35 : IVec S16 32) (k0_hw7 : k0_chk7 v35), ∀ a x, ((![v35] : Fin 1 → IVec S16 32) a x).toNat < S21008.size a := fun v35 k0_hw7 => k0_hw7

def k0_chk8 (v38 : IVec S16 32) : Prop :=
  (∀ a x, ((![v38] : Fin 1 → IVec S16 32) a x).toNat < S41600.size a)
theorem k0_idx8_inb : ∀ (v38 : IVec S16 32) (k0_hw8 : k0_chk8 v38), ∀ a x, ((![v38] : Fin 1 → IVec S16 32) a x).toNat < S41600.size a := fun v38 k0_hw8 => k0_hw8

def k0_chk9 (v40 : IVec S16 32) : Prop :=
  (∀ a x, ((![v40] : Fin 1 → IVec S16 32) a x).toNat < S21008.size a)
theorem k0_idx9_inb : ∀ (v40 : IVec S16 32) (k0_hw9 : k0_chk9 v40), ∀ a x, ((![v40] : Fin 1 → IVec S16 32) a x).toNat < S21008.size a := fun v40 k0_hw9 => k0_hw9

def k0_chk10 (v43 : IVec S16 32) : Prop :=
  (∀ a x, ((![v43] : Fin 1 → IVec S16 32) a x).toNat < S41600.size a)
theorem k0_idx10_inb : ∀ (v43 : IVec S16 32) (k0_hw10 : k0_chk10 v43), ∀ a x, ((![v43] : Fin 1 → IVec S16 32) a x).toNat < S41600.size a := fun v43 k0_hw10 => k0_hw10

def k0_chk11 (v45 : IVec S16 32) : Prop :=
  (∀ a x, ((![v45] : Fin 1 → IVec S16 32) a x).toNat < S21008.size a)
theorem k0_idx11_inb : ∀ (v45 : IVec S16 32) (k0_hw11 : k0_chk11 v45), ∀ a x, ((![v45] : Fin 1 → IVec S16 32) a x).toNat < S21008.size a := fun v45 k0_hw11 => k0_hw11

def k0_chk12 (v48 : IVec S16 32) : Prop :=
  (∀ a x, ((![v48] : Fin 1 → IVec S16 32) a x).toNat < S41600.size a)
theorem k0_idx12_inb : ∀ (v48 : IVec S16 32) (k0_hw12 : k0_chk12 v48), ∀ a x, ((![v48] : Fin 1 → IVec S16 32) a x).toNat < S41600.size a := fun v48 k0_hw12 => k0_hw12

def k0_chk13 (v50 : IVec S16 32) : Prop :=
  (∀ a x, ((![v50] : Fin 1 → IVec S16 32) a x).toNat < S21008.size a)
theorem k0_idx13_inb : ∀ (v50 : IVec S16 32) (k0_hw13 : k0_chk13 v50), ∀ a x, ((![v50] : Fin 1 → IVec S16 32) a x).toNat < S21008.size a := fun v50 k0_hw13 => k0_hw13

def k0_chk14 (v53 : IVec S16 32) : Prop :=
  (∀ a x, ((![v53] : Fin 1 → IVec S16 32) a x).toNat < S41600.size a)
theorem k0_idx14_inb : ∀ (v53 : IVec S16 32) (k0_hw14 : k0_chk14 v53), ∀ a x, ((![v53] : Fin 1 → IVec S16 32) a x).toNat < S41600.size a := fun v53 k0_hw14 => k0_hw14

def k0_chk15 (v55 : IVec S16 32) : Prop :=
  (∀ a x, ((![v55] : Fin 1 → IVec S16 32) a x).toNat < S21008.size a)
theorem k0_idx15_inb : ∀ (v55 : IVec S16 32) (k0_hw15 : k0_chk15 v55), ∀ a x, ((![v55] : Fin 1 → IVec S16 32) a x).toNat < S21008.size a := fun v55 k0_hw15 => k0_hw15

def k0_chk16 (v58 : IVec S16 32) : Prop :=
  (∀ a x, ((![v58] : Fin 1 → IVec S16 32) a x).toNat < S41600.size a)
theorem k0_idx16_inb : ∀ (v58 : IVec S16 32) (k0_hw16 : k0_chk16 v58), ∀ a x, ((![v58] : Fin 1 → IVec S16 32) a x).toNat < S41600.size a := fun v58 k0_hw16 => k0_hw16
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41600_i32 : BitVec 32 := 41600#32
  let v2 : BitVec 32 := Scalar.muli v1 c41600_i32
  let c0_i32_0 : BitVec 32 := 0#32
  let c1_i32 : BitVec 32 := 1#32
  let arg8 : BitVec 32 := Scf.iv c0_i32_0 c1_i32 k0_t1
  let c5200_i32 : BitVec 32 := 5200#32
  let v7 : BitVec 32 := Scalar.muli arg8 c5200_i32
  let v8 : BitVec 32 := Scalar.addi v2 v7
  let c8_i32_7 : BitVec 32 := 8#32
  let v10 : BitVec 32 := Scalar.muli v8 c8_i32_7
  ![v10.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x208 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S208x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v87 : BitVec 1 := Scalar.cmpi .eq arg0 c49_i32
  let v88 : BitVec 32 := Scalar.extui v87
  let c0_i32_39 : BitVec 32 := 0#32
  let v89 : BitVec 1 := Scalar.cmpi .ne v88 c0_i32_39
  v89

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c49_i32 : BitVec 32 := 49#32
  let v0 : BitVec 32 := Scalar.subi c49_i32 arg0
  let c1_i32 : BitVec 32 := 1#32
  let c0_i32 : BitVec 32 := 0#32
  ![v0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((50⁻¹ : ℝ) : EReal)
  | "neg_inf" => some ⊥
  | _ => none
-- ==== ReferenceIdeal.lean ====
abbrev S26x1024x50 : Shape := ⟨3, ![26, 1024, 50]⟩
abbrev S26x101x8 : Shape := ⟨3, ![26, 101, 8]⟩
abbrev S384x208 : Shape := ⟨2, ![384, 208]⟩
abbrev S384x128 : Shape := ⟨2, ![384, 128]⟩
abbrev S384 : Shape := ⟨1, ![384]⟩
abbrev S32x768 : Shape := ⟨2, ![32, 768]⟩
abbrev S32 : Shape := ⟨1, ![32]⟩
abbrev S1x32 : Shape := ⟨2, ![1, 32]⟩
abbrev S1 : Shape := ⟨1, ![1]⟩
abbrev S_ : Shape := ⟨0, ![]⟩
abbrev S26x1024x50x1 : Shape := ⟨4, ![26, 1024, 50, 1]⟩
abbrev S26x1024x50x8 : Shape := ⟨4, ![26, 1024, 50, 8]⟩
abbrev S1024x50x26x8 : Shape := ⟨4, ![1024, 50, 26, 8]⟩
abbrev S1024x50x208 : Shape := ⟨3, ![1024, 50, 208]⟩
abbrev S50x1024x208 : Shape := ⟨3, ![50, 1024, 208]⟩
abbrev S1024x128 : Shape := ⟨2, ![1024, 128]⟩
abbrev S50x1024x128 : Shape := ⟨3, ![50, 1024, 128]⟩
abbrev S1x1024x208 : Shape := ⟨3, ![1, 1024, 208]⟩
abbrev S1024x208 : Shape := ⟨2, ![1024, 208]⟩
abbrev S208x384 : Shape := ⟨2, ![208, 384]⟩
abbrev S1024x384 : Shape := ⟨2, ![1024, 384]⟩
abbrev S1x384 : Shape := ⟨2, ![1, 384]⟩
abbrev S128x384 : Shape := ⟨2, ![128, 384]⟩
abbrev S1x1024x128 : Shape := ⟨3, ![1, 1024, 128]⟩
abbrev S50x1024x256 : Shape := ⟨3, ![50, 1024, 256]⟩
abbrev S1024x50x256 : Shape := ⟨3, ![1024, 50, 256]⟩
abbrev S1024x256 : Shape := ⟨2, ![1024, 256]⟩
abbrev S1024x768 : Shape := ⟨2, ![1024, 768]⟩
abbrev S768x32 : Shape := ⟨2, ![768, 32]⟩
abbrev S1024x32 : Shape := ⟨2, ![1024, 32]⟩
abbrev S32x1 : Shape := ⟨2, ![32, 1]⟩
abbrev S1024x1 : Shape := ⟨2, ![1024, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S26x1024x50, .i32⟩
  | 1 => ⟨S26x101x8, .f32⟩
  | 2 => ⟨S384x208, .f32⟩
  | 3 => ⟨S384x128, .f32⟩
  | 4 => ⟨S384, .f32⟩
  | 5 => ⟨S384, .f32⟩
  | 6 => ⟨S384x208, .f32⟩
  | 7 => ⟨S384x128, .f32⟩
  | 8 => ⟨S384, .f32⟩
  | 9 => ⟨S384, .f32⟩
  | 10 => ⟨S32x768, .f32⟩
  | 11 => ⟨S32, .f32⟩
  | 12 => ⟨S1x32, .f32⟩
  | 13 => ⟨S1, .f32⟩
  | 14 => ⟨S_, .i32⟩
  | 15 => ⟨S26x1024x50, .i32⟩
  | 16 => ⟨S26x1024x50, .i1⟩
  | 17 => ⟨S_, .i32⟩
  | 18 => ⟨S26x1024x50, .i32⟩
  | 19 => ⟨S26x1024x50, .i32⟩
  | 20 => ⟨S26x1024x50, .i32⟩
  | 21 => ⟨S26x1024x50x1, .i32⟩
  | 22 => ⟨S26x1024x50x8, .f32⟩
  | 23 => ⟨S1024x50x26x8, .f32⟩
  | 24 => ⟨S1024x50x208, .f32⟩
  | 25 => ⟨S50x1024x208, .f32⟩
  | 26 => ⟨S_, .f32⟩
  | 27 => ⟨S1024x128, .f32⟩
  | 28 => ⟨S_, .f32⟩
  | 29 => ⟨S50x1024x128, .f32⟩
  | 30 => ⟨S_, .i32⟩
  | 31 => ⟨S50x1024x208, .f32⟩
  | 32 => ⟨S384x208, .f32⟩
  | 33 => ⟨S384, .f32⟩
  | 34 => ⟨S384x128, .f32⟩
  | 35 => ⟨S384, .f32⟩
  | 36 => ⟨S_, .i32⟩
  | 37 => ⟨S1024x128, .f32⟩
  | 38 => ⟨S50x1024x128, .f32⟩
  | 39 => ⟨S_, .i32⟩
  | 40 => ⟨S_, .i1⟩
  | 41 => ⟨S_, .i32⟩
  | 42 => ⟨S_, .i32⟩
  | 43 => ⟨S1x1024x208, .f32⟩
  | 44 => ⟨S1024x208, .f32⟩
  | 45 => ⟨S208x384, .f32⟩
  | 46 => ⟨S1024x384, .f32⟩
  | 47 => ⟨S1x384, .f32⟩
  | 48 => ⟨S1024x384, .f32⟩
  | 49 => ⟨S1024x384, .f32⟩
  | 50 => ⟨S128x384, .f32⟩
  | 51 => ⟨S1024x384, .f32⟩
  | 52 => ⟨S1x384, .f32⟩
  | 53 => ⟨S1024x384, .f32⟩
  | 54 => ⟨S1024x384, .f32⟩
  | 55 => ⟨S1024x128, .f32⟩
  | 56 => ⟨S1024x128, .f32⟩
  | 57 => ⟨S1024x128, .f32⟩
  | 58 => ⟨S1024x128, .f32⟩
  | 59 => ⟨S1024x128, .f32⟩
  | 60 => ⟨S1024x128, .f32⟩
  | 61 => ⟨S1024x128, .f32⟩
  | 62 => ⟨S1024x128, .f32⟩
  | 63 => ⟨S1024x128, .f32⟩
  | 64 => ⟨S_, .f32⟩
  | 65 => ⟨S1024x128, .f32⟩
  | 66 => ⟨S1024x128, .f32⟩
  | 67 => ⟨S_, .f32⟩
  | 68 => ⟨S1024x128, .f32⟩
  | 69 => ⟨S1024x128, .f32⟩
  | 70 => ⟨S1024x128, .f32⟩
  | 71 => ⟨S1024x128, .f32⟩
  | 72 => ⟨S1024x128, .f32⟩
  | 73 => ⟨S_, .f32⟩
  | 74 => ⟨S1024x128, .f32⟩
  | 75 => ⟨S1024x128, .f32⟩
  | 76 => ⟨S_, .f32⟩
  | 77 => ⟨S1024x128, .f32⟩
  | 78 => ⟨S1024x128, .f32⟩
  | 79 => ⟨S1024x128, .f32⟩
  | 80 => ⟨S1024x128, .f32⟩
  | 81 => ⟨S1024x128, .f32⟩
  | 82 => ⟨S_, .f32⟩
  | 83 => ⟨S1024x128, .f32⟩
  | 84 => ⟨S1024x128, .f32⟩
  | 85 => ⟨S1024x128, .f32⟩
  | 86 => ⟨S1024x128, .f32⟩
  | 87 => ⟨S1024x128, .f32⟩
  | 88 => ⟨S1x1024x128, .f32⟩
  | 89 => ⟨S_, .i32⟩
  | 90 => ⟨S_, .i32⟩
  | 91 => ⟨S50x1024x128, .f32⟩
  | 92 => ⟨S_, .i32⟩
  | 93 => ⟨S_, .i32⟩
  | 94 => ⟨S50x1024x208, .f32⟩
  | 95 => ⟨S_, .f32⟩
  | 96 => ⟨S50x1024x128, .f32⟩
  | 97 => ⟨S_, .i32⟩
  | 98 => ⟨S50x1024x208, .f32⟩
  | 99 => ⟨S384x208, .f32⟩
  | 100 => ⟨S384, .f32⟩
  | 101 => ⟨S384x128, .f32⟩
  | 102 => ⟨S384, .f32⟩
  | 103 => ⟨S_, .i32⟩
  | 104 => ⟨S1024x128, .f32⟩
  | 105 => ⟨S50x1024x128, .f32⟩
  | 106 => ⟨S_, .i32⟩
  | 107 => ⟨S_, .i1⟩
  | 108 => ⟨S_, .i32⟩
  | 109 => ⟨S_, .i32⟩
  | 110 => ⟨S1x1024x208, .f32⟩
  | 111 => ⟨S1024x208, .f32⟩
  | 112 => ⟨S208x384, .f32⟩
  | 113 => ⟨S1024x384, .f32⟩
  | 114 => ⟨S1x384, .f32⟩
  | 115 => ⟨S1024x384, .f32⟩
  | 116 => ⟨S1024x384, .f32⟩
  | 117 => ⟨S128x384, .f32⟩
  | 118 => ⟨S1024x384, .f32⟩
  | 119 => ⟨S1x384, .f32⟩
  | 120 => ⟨S1024x384, .f32⟩
  | 121 => ⟨S1024x384, .f32⟩
  | 122 => ⟨S1024x128, .f32⟩
  | 123 => ⟨S1024x128, .f32⟩
  | 124 => ⟨S1024x128, .f32⟩
  | 125 => ⟨S1024x128, .f32⟩
  | 126 => ⟨S1024x128, .f32⟩
  | 127 => ⟨S1024x128, .f32⟩
  | _ => ⟨S26x1024x50, .i32⟩

abbrev hbmTy0_1 (i : Nat) : BufTy := match i % 128 with
  | 0 => ⟨S1024x128, .f32⟩
  | 1 => ⟨S1024x128, .f32⟩
  | 2 => ⟨S1024x128, .f32⟩
  | 3 => ⟨S_, .f32⟩
  | 4 => ⟨S1024x128, .f32⟩
  | 5 => ⟨S1024x128, .f32⟩
  | 6 => ⟨S_, .f32⟩
  | 7 => ⟨S1024x128, .f32⟩
  | 8 => ⟨S1024x128, .f32⟩
  | 9 => ⟨S1024x128, .f32⟩
  | 10 => ⟨S1024x128, .f32⟩
  | 11 => ⟨S1024x128, .f32⟩
  | 12 => ⟨S_, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S1024x128, .f32⟩
  | 19 => ⟨S1024x128, .f32⟩
  | 20 => ⟨S1024x128, .f32⟩
  | 21 => ⟨S_, .f32⟩
  | 22 => ⟨S1024x128, .f32⟩
  | 23 => ⟨S1024x128, .f32⟩
  | 24 => ⟨S1024x128, .f32⟩
  | 25 => ⟨S1024x128, .f32⟩
  | 26 => ⟨S1024x128, .f32⟩
  | 27 => ⟨S1x1024x128, .f32⟩
  | 28 => ⟨S_, .i32⟩
  | 29 => ⟨S_, .i32⟩
  | 30 => ⟨S50x1024x128, .f32⟩
  | 31 => ⟨S_, .i32⟩
  | 32 => ⟨S_, .i32⟩
  | 33 => ⟨S50x1024x128, .f32⟩
  | 34 => ⟨S50x1024x256, .f32⟩
  | 35 => ⟨S1024x50x256, .f32⟩
  | 36 => ⟨S1024x256, .f32⟩
  | 37 => ⟨S_, .f32⟩
  | 38 => ⟨S1024x256, .f32⟩
  | 39 => ⟨S_, .f32⟩
  | 40 => ⟨S1024x256, .f32⟩
  | 41 => ⟨S_, .f32⟩
  | 42 => ⟨S1024x256, .f32⟩
  | 43 => ⟨S1024x256, .f32⟩
  | 44 => ⟨S1024x768, .f32⟩
  | 45 => ⟨S768x32, .f32⟩
  | 46 => ⟨S1024x32, .f32⟩
  | 47 => ⟨S1x32, .f32⟩
  | 48 => ⟨S1024x32, .f32⟩
  | 49 => ⟨S1024x32, .f32⟩
  | 50 => ⟨S_, .f32⟩
  | 51 => ⟨S1024x32, .f32⟩
  | 52 => ⟨S1024x32, .f32⟩
  | 53 => ⟨S32x1, .f32⟩
  | 54 => ⟨S1024x1, .f32⟩
  | 55 => ⟨S1x1, .f32⟩
  | 56 => ⟨S1024x1, .f32⟩
  | 57 => ⟨S1024x1, .f32⟩
  | _ => ⟨S26x1024x50, .i32⟩

abbrev hbmTy (i : Nat) : BufTy := match i / 128 with
  | 0 => hbmTy0_0 i
  | 1 => hbmTy0_1 i
  | _ => ⟨S26x1024x50, .i32⟩

abbrev bufTy : (tb : Table) → Fin (tcTables nBuf tb) → BufTy
  | .hbm, ⟨i, _⟩ => hbmTy i
  | _, _ => ⟨S26x1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_c_2 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev main_v12_3 : Ref sig .tc := ⟨.hbm, 34, rfl⟩
abbrev main_v12_4 : Ref sig .tc := ⟨.hbm, 35, rfl⟩
abbrev main_v12_5 : Ref sig .tc := ⟨.hbm, 36, rfl⟩
abbrev main_v12_6 : Ref sig .tc := ⟨.hbm, 37, rfl⟩
abbrev main_v12_7 : Ref sig .tc := ⟨.hbm, 38, rfl⟩
abbrev main_while0c_c_15 : Ref sig .tc := ⟨.hbm, 39, rfl⟩
abbrev main_while0c_v36 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_v0 : Ref sig .tc := ⟨.hbm, 43, rfl⟩
abbrev main_while0b_v36 : Ref sig .tc := ⟨.hbm, 44, rfl⟩
abbrev main_while0b_v37 : Ref sig .tc := ⟨.hbm, 45, rfl⟩
abbrev main_while0b_v38 : Ref sig .tc := ⟨.hbm, 46, rfl⟩
abbrev main_while0b_v39 : Ref sig .tc := ⟨.hbm, 47, rfl⟩
abbrev main_while0b_v40 : Ref sig .tc := ⟨.hbm, 48, rfl⟩
abbrev main_while0b_v41 : Ref sig .tc := ⟨.hbm, 49, rfl⟩
abbrev main_while0b_v42 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_v50 : Ref sig .tc := ⟨.hbm, 58, rfl⟩
abbrev main_while0b_v51 : Ref sig .tc := ⟨.hbm, 59, rfl⟩
abbrev main_while0b_v52 : Ref sig .tc := ⟨.hbm, 60, rfl⟩
abbrev main_while0b_v53 : Ref sig .tc := ⟨.hbm, 61, rfl⟩
abbrev main_while0b_v54 : Ref sig .tc := ⟨.hbm, 62, rfl⟩
abbrev main_while0b_v55 : Ref sig .tc := ⟨.hbm, 63, rfl⟩
abbrev main_while0b_cst_15 : Ref sig .tc := ⟨.hbm, 64, rfl⟩
abbrev main_while0b_v56 : Ref sig .tc := ⟨.hbm, 65, rfl⟩
abbrev main_while0b_v57 : Ref sig .tc := ⟨.hbm, 66, rfl⟩
abbrev main_while0b_cst_16 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_cst_17 : Ref sig .tc := ⟨.hbm, 73, rfl⟩
abbrev main_while0b_v63 : Ref sig .tc := ⟨.hbm, 74, rfl⟩
abbrev main_while0b_v64 : Ref sig .tc := ⟨.hbm, 75, rfl⟩
abbrev main_while0b_cst_18 : Ref sig .tc := ⟨.hbm, 76, rfl⟩
abbrev main_while0b_v65 : Ref sig .tc := ⟨.hbm, 77, rfl⟩
abbrev main_while0b_v66 : Ref sig .tc := ⟨.hbm, 78, rfl⟩
abbrev main_while0b_v67 : Ref sig .tc := ⟨.hbm, 79, rfl⟩
abbrev main_while0b_v68 : Ref sig .tc := ⟨.hbm, 80, rfl⟩
abbrev main_while0b_v69 : Ref sig .tc := ⟨.hbm, 81, rfl⟩
abbrev main_while0b_cst_19 : Ref sig .tc := ⟨.hbm, 82, rfl⟩
abbrev main_while0b_v70 : Ref sig .tc := ⟨.hbm, 83, rfl⟩
abbrev main_while0b_v71 : Ref sig .tc := ⟨.hbm, 84, rfl⟩
abbrev main_while0b_v72 : Ref sig .tc := ⟨.hbm, 85, rfl⟩
abbrev main_while0b_v73 : Ref sig .tc := ⟨.hbm, 86, rfl⟩
abbrev main_while0b_v74 : Ref sig .tc := ⟨.hbm, 87, rfl⟩
abbrev main_while0b_call1_v0 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_v75 : Ref sig .tc := ⟨.hbm, 91, rfl⟩
abbrev main_while0b_c_20 : Ref sig .tc := ⟨.hbm, 92, rfl⟩
abbrev main_while0b_v76 : Ref sig .tc := ⟨.hbm, 93, rfl⟩
abbrev main_v13 : Ref sig .tc := ⟨.hbm, 94, rfl⟩
abbrev main_cst_3 : Ref sig .tc := ⟨.hbm, 95, rfl⟩
abbrev main_v14 : Ref sig .tc := ⟨.hbm, 96, rfl⟩
abbrev main_c_4 : Ref sig .tc := ⟨.hbm, 97, rfl⟩
abbrev main_v15_0 : Ref sig .tc := ⟨.hbm, 98, rfl⟩
abbrev main_v15_1 : Ref sig .tc := ⟨.hbm, 99, rfl⟩
abbrev main_v15_2 : Ref sig .tc := ⟨.hbm, 100, rfl⟩
abbrev main_v15_3 : Ref sig .tc := ⟨.hbm, 101, rfl⟩
abbrev main_v15_4 : Ref sig .tc := ⟨.hbm, 102, rfl⟩
abbrev main_v15_5 : Ref sig .tc := ⟨.hbm, 103, rfl⟩
abbrev main_v15_6 : Ref sig .tc := ⟨.hbm, 104, rfl⟩
abbrev main_v15_7 : Ref sig .tc := ⟨.hbm, 105, rfl⟩
abbrev main_while1c_c_15 : Ref sig .tc := ⟨.hbm, 106, rfl⟩
abbrev main_while1c_v36 : Ref sig .tc := ⟨.hbm, 107, rfl⟩
abbrev main_while1b_call2_c : Ref sig .tc := ⟨.hbm, 108, rfl⟩
abbrev main_while1b_call2_c_0 : Ref sig .tc := ⟨.hbm, 109, rfl⟩
abbrev main_while1b_call2_v0 : Ref sig .tc := ⟨.hbm, 110, rfl⟩
abbrev main_while1b_v36 : Ref sig .tc := ⟨.hbm, 111, rfl⟩
abbrev main_while1b_v37 : Ref sig .tc := ⟨.hbm, 112, rfl⟩
abbrev main_while1b_v38 : Ref sig .tc := ⟨.hbm, 113, rfl⟩
abbrev main_while1b_v39 : Ref sig .tc := ⟨.hbm, 114, rfl⟩
abbrev main_while1b_v40 : Ref sig .tc := ⟨.hbm, 115, rfl⟩
abbrev main_while1b_v41 : Ref sig .tc := ⟨.hbm, 116, rfl⟩
abbrev main_while1b_v42 : Ref sig .tc := ⟨.hbm, 117, rfl⟩
abbrev main_while1b_v43 : Ref sig .tc := ⟨.hbm, 118, rfl⟩
abbrev main_while1b_v44 : Ref sig .tc := ⟨.hbm, 119, rfl⟩
abbrev main_while1b_v45 : Ref sig .tc := ⟨.hbm, 120, rfl⟩
abbrev main_while1b_v46 : Ref sig .tc := ⟨.hbm, 121, rfl⟩
abbrev main_while1b_v47 : Ref sig .tc := ⟨.hbm, 122, rfl⟩
abbrev main_while1b_v48 : Ref sig .tc := ⟨.hbm, 123, rfl⟩
abbrev main_while1b_v49 : Ref sig .tc := ⟨.hbm, 124, rfl⟩
abbrev main_while1b_v50 : Ref sig .tc := ⟨.hbm, 125, rfl⟩
abbrev main_while1b_v51 : Ref sig .tc := ⟨.hbm, 126, rfl⟩
abbrev main_while1b_v52 : Ref sig .tc := ⟨.hbm, 127, rfl⟩
abbrev main_while1b_v53 : Ref sig .tc := ⟨.hbm, 128, rfl⟩
abbrev main_while1b_v54 : Ref sig .tc := ⟨.hbm, 129, rfl⟩
abbrev main_while1b_v55 : Ref sig .tc := ⟨.hbm, 130, rfl⟩
abbrev main_while1b_cst_15 : Ref sig .tc := ⟨.hbm, 131, rfl⟩
abbrev main_while1b_v56 : Ref sig .tc := ⟨.hbm, 132, rfl⟩
abbrev main_while1b_v57 : Ref sig .tc := ⟨.hbm, 133, rfl⟩
abbrev main_while1b_cst_16 : Ref sig .tc := ⟨.hbm, 134, rfl⟩
abbrev main_while1b_v58 : Ref sig .tc := ⟨.hbm, 135, rfl⟩
abbrev main_while1b_v59 : Ref sig .tc := ⟨.hbm, 136, rfl⟩
abbrev main_while1b_v60 : Ref sig .tc := ⟨.hbm, 137, rfl⟩
abbrev main_while1b_v61 : Ref sig .tc := ⟨.hbm, 138, rfl⟩
abbrev main_while1b_v62 : Ref sig .tc := ⟨.hbm, 139, rfl⟩
abbrev main_while1b_cst_17 : Ref sig .tc := ⟨.hbm, 140, rfl⟩
abbrev main_while1b_v63 : Ref sig .tc := ⟨.hbm, 141, rfl⟩
abbrev main_while1b_v64 : Ref sig .tc := ⟨.hbm, 142, rfl⟩
abbrev main_while1b_cst_18 : Ref sig .tc := ⟨.hbm, 143, rfl⟩
abbrev main_while1b_v65 : Ref sig .tc := ⟨.hbm, 144, rfl⟩
abbrev main_while1b_v66 : Ref sig .tc := ⟨.hbm, 145, rfl⟩
abbrev main_while1b_v67 : Ref sig .tc := ⟨.hbm, 146, rfl⟩
abbrev main_while1b_v68 : Ref sig .tc := ⟨.hbm, 147, rfl⟩
abbrev main_while1b_v69 : Ref sig .tc := ⟨.hbm, 148, rfl⟩
abbrev main_while1b_cst_19 : Ref sig .tc := ⟨.hbm, 149, rfl⟩
abbrev main_while1b_v70 : Ref sig .tc := ⟨.hbm, 150, rfl⟩
abbrev main_while1b_v71 : Ref sig .tc := ⟨.hbm, 151, rfl⟩
abbrev main_while1b_v72 : Ref sig .tc := ⟨.hbm, 152, rfl⟩
abbrev main_while1b_v73 : Ref sig .tc := ⟨.hbm, 153, rfl⟩
abbrev main_while1b_v74 : Ref sig .tc := ⟨.hbm, 154, rfl⟩
abbrev main_while1b_call3_v0 : Ref sig .tc := ⟨.hbm, 155, rfl⟩
abbrev main_while1b_call3_c : Ref sig .tc := ⟨.hbm, 156, rfl⟩
abbrev main_while1b_call3_c_0 : Ref sig .tc := ⟨.hbm, 157, rfl⟩
abbrev main_while1b_v75 : Ref sig .tc := ⟨.hbm, 158, rfl⟩
abbrev main_while1b_c_20 : Ref sig .tc := ⟨.hbm, 159, rfl⟩
abbrev main_while1b_v76 : Ref sig .tc := ⟨.hbm, 160, rfl⟩
abbrev main_v16 : Ref sig .tc := ⟨.hbm, 161, rfl⟩
abbrev main_v17 : Ref sig .tc := ⟨.hbm, 162, rfl⟩
abbrev main_v18 : Ref sig .tc := ⟨.hbm, 163, rfl⟩
abbrev main_v19 : Ref sig .tc := ⟨.hbm, 164, rfl⟩
abbrev main_cst_5 : Ref sig .tc := ⟨.hbm, 165, rfl⟩
abbrev main_v20 : Ref sig .tc := ⟨.hbm, 166, rfl⟩
abbrev main_cst_6 : Ref sig .tc := ⟨.hbm, 167, rfl⟩
abbrev main_v21 : Ref sig .tc := ⟨.hbm, 168, rfl⟩
abbrev main_cst_7 : Ref sig .tc := ⟨.hbm, 169, rfl⟩
abbrev main_v22 : Ref sig .tc := ⟨.hbm, 170, rfl⟩
abbrev main_v23 : Ref sig .tc := ⟨.hbm, 171, rfl⟩
abbrev main_v24 : Ref sig .tc := ⟨.hbm, 172, rfl⟩
abbrev main_v25 : Ref sig .tc := ⟨.hbm, 173, rfl⟩
abbrev main_v26 : Ref sig .tc := ⟨.hbm, 174, rfl⟩
abbrev main_v27 : Ref sig .tc := ⟨.hbm, 175, rfl⟩
abbrev main_v28 : Ref sig .tc := ⟨.hbm, 176, rfl⟩
abbrev main_v29 : Ref sig .tc := ⟨.hbm, 177, rfl⟩
abbrev main_call4_cst : Ref sig .tc := ⟨.hbm, 178, rfl⟩
abbrev main_call4_v0 : Ref sig .tc := ⟨.hbm, 179, rfl⟩
abbrev main_v30 : Ref sig .tc := ⟨.hbm, 180, rfl⟩
abbrev main_v31 : Ref sig .tc := ⟨.hbm, 181, rfl⟩
abbrev main_v32 : Ref sig .tc := ⟨.hbm, 182, rfl⟩
abbrev main_v33 : Ref sig .tc := ⟨.hbm, 183, rfl⟩
abbrev main_v34 : Ref sig .tc := ⟨.hbm, 184, rfl⟩
abbrev main_v35 : Ref sig .tc := ⟨.hbm, 185, rfl⟩

abbrev nD : Nat := 1
abbrev τ : Topo := Topo.v7x

variable {F : FTy → Type} [FloatOps F]

abbrev main_while0_count : Scf.Loop 32 := ⟨0#32, 50#32, 1#32⟩

abbrev main_while1_count : Scf.Loop 32 := ⟨0#32, 50#32, 1#32⟩
-- ==== Proof.Vocab.lean ====
/-
  The precondition read back: when the predicate is one, every index lies in the vocabulary of a field.
-/
module

public import proofs.«01_k».proof.Pre_in_vocabulary
public import Idealize.ShloMosaic.Lib.ReduceAll

@[expose] public section

noncomputable section

namespace Cert.Proof

open Idealize.ShloMosaic Cert.Pre_in_vocabulary

variable {F : FTy → Type} [FloatOps F] [Facts]

/-- A word that is signed at least 0 and signed below 100 is below 100. -/
theorem word_lt (x : BitVec 32) (h0 : IntOp.cmpi .sge x 0#32 = 1#1) (h1 : IntOp.cmpi .slt x 100#32 = 1#1) : x.toNat < 100 := by
  have h1 := IntOp.cmpi_slt.1 h1
  have h0 := IntOp.cmpi_sge.1 h0
  have e0 : (0#32 : BitVec 32).toInt = 0 := rfl
  have e1 : (100#32 : BitVec 32).toInt = 100 := rfl
  rw [e0] at h0
  rw [e1] at h1
  rw [BitVec.toInt_eq_toNat_cond] at h0 h1
  split at h0 <;> omega

/-- Where the predicate is one, every index is below 100. -/
theorem vocab (x : IVec S26x1024x50 32) (a1 : FVec F S26x101x8 .f32) (a2 : FVec F S384x208 .f32) (a3 : FVec F S384x128 .f32)
    (a4 a5 : FVec F S384 .f32) (a6 : FVec F S384x208 .f32) (a7 : FVec F S384x128 .f32) (a8 a9 : FVec F S384 .f32) (a10 : FVec F S32x768 .f32)
    (a11 : FVec F S32 .f32) (a12 : FVec F S1x32 .f32) (a13 : FVec F S1 .f32)
    (h : fn x a1 a2 a3 a4 a5 a6 a7 a8 a9 a10 a11 a12 a13 = fun _ => 1#1) (i : S26x1024x50.Idx) : (x i).toNat < 100 := by
  haveI : Subsingleton S_.Idx := ⟨fun a b => funext fun k => k.elim0⟩
  have e := Host.reduce_andi_all _ _ _ _ (fun k => k.elim0) (congrFun h fun k => k.elim0) i
  obtain ⟨e0, e1⟩ := IntOp.andi_eq_one.1 e
  exact word_lt _ e0 e1

end Cert.Proof

end
-- ==== Proof.ScPure.lean ====
/-
  The arithmetic of the gather, with no machine in it: what one trip of the inner loop (sixteen indices, eight indexed
  loads and eight indexed stores) leaves in the tile's output buffer, and the array the whole call computes.
-/
module

public import proofs.«01_k».proof.Defs
public import proofs.«01_k».proof.Proof.Gen.KernelIdeal
public import proofs.«01_k».proof.Proof.Gen.KernelIdeal.Skeleton
public import Idealize.ShloMosaic.Lib.SparseCore.Ops

@[expose] public section

noncomputable section

namespace Cert.Proof.Sc

open Cert.KernelIdeal Cert.KernelIdeal.Gen
open Idealize.ShloMosaic

variable {F : FTy → Type} [FloatOps F] [Named F]

/-- The multi-index `k` of a rank-one shape of extent `n`. -/
def at1 {n : ℕ} (k : ℕ) (h : k < n) : (⟨1, ![n]⟩ : Shape).Idx := Shape.ofLane (d := ![n]) ⟨k, h⟩

theorem at1_val {n : ℕ} (k : ℕ) (h : k < n) (a : Fin 1) : ((at1 k h : (⟨1, ![n]⟩ : Shape).Idx) a).val = k := rfl

theorem eq_at1 {n : ℕ} (j : (⟨1, ![n]⟩ : Shape).Idx) : j = at1 (j 0).val (j 0).isLt := by
  funext a
  obtain rfl : a = 0 := Subsingleton.elim _ _
  rfl

theorem ext1 {n : ℕ} {i j : (⟨1, ![n]⟩ : Shape).Idx} (h : (i 0).val = (j 0).val) : i = j := by
  funext a
  obtain rfl : a = 0 := Subsingleton.elim _ _
  exact Fin.ext h

/-! ## One indexed store -/

/-- An unmasked store of values a function `G` gives at the places stored to: it leaves `G` wherever it stores, and wherever
    `G` stood already. -/
theorem storeIdx_good {s : Shape} {n : ℕ} {e : EltTy} (u : Vec F s e) (G : s.Idx → Elt F e) (idxs : Fin s.rank → IVec ⟨1, ![n]⟩ 32)
    (v : Vec F ⟨1, ![n]⟩ e) (h : ∀ a x, (idxs a x).toNat < s.size a) (hv : ∀ x, v x = G (idxAt idxs h x)) (j : s.Idx)
    (hj : u j = G j ∨ ∃ x, idxAt idxs h x = j) : storeIdx u idxs v (fun _ => 1#1) false h j = G j := by
  unfold storeIdx
  have key : ∀ (f : Vec F s e → Fin (![n] 0) → Vec F s e)
      (_ : ∀ g k, f g k j = if idxAt idxs h (Shape.ofLane (d := ![n]) k) = j then G j else g j)
      (l : List (Fin (![n] 0))) (g : Vec F s e), (g j = G j ∨ ∃ k ∈ l, idxAt idxs h (Shape.ofLane (d := ![n]) k) = j) →
      (l.foldl f g) j = G j := by
    intro f hf l
    induction l with
    | nil =>
      intro g hg
      rcases hg with hg | ⟨k, hk, _⟩
      · exact hg
      · exact absurd hk List.not_mem_nil
    | cons k l ih =>
      intro g hg
      rw [List.foldl_cons]
      apply ih
      by_cases hk : idxAt idxs h (Shape.ofLane (d := ![n]) k) = j
      · left; rw [hf, if_pos hk]
      · rcases hg with hg | ⟨k', hk', e'⟩
        · left; rw [hf, if_neg hk]; exact hg
        · right
          rcases List.mem_cons.mp hk' with rfl | hk'
          · exact absurd e' hk
          · exact ⟨k', hk', e'⟩
  refine key _ (fun g k => ?_) (List.finRange (![n] 0)) u ?_
  · by_cases hk : idxAt idxs h (Shape.ofLane (d := ![n]) k) = j
    · have hall : ∀ a, (j a).val = (idxAt idxs h (Shape.ofLane (d := ![n]) k) a).val := fun a => by rw [hk]
      simp only [show (1#1 : BitVec 1) = 1 from rfl, if_true, Bool.false_eq_true, if_false]
      rw [if_pos hall, if_pos hk, hv, hk]
    · have hno : ¬ ∀ a, (j a).val = (idxAt idxs h (Shape.ofLane (d := ![n]) k) a).val :=
        fun hh => hk (funext fun a => Fin.ext (hh a).symm)
      simp only [show (1#1 : BitVec 1) = 1 from rfl, if_true, Bool.false_eq_true, if_false]
      rw [if_neg hno, if_neg hk]
  rcases hj with hj | ⟨x, hx⟩
  · exact .inl hj
  · refine .inr ⟨x 0, List.mem_finRange _, ?_⟩
    rw [show Shape.ofLane (d := ![n]) (x 0) = x from (eq_at1 x).symm]; exact hx

/-! ## What a tile leaves in its output buffer, chunk by chunk -/

/-- The gather of one chunk: element `8 r + c` is element `8 w[r] + c` of the table. -/
def chunk (X : Vec F S21008 .f32) (w : IVec S5200 32) : Vec F S41600 .f32 := fun j =>
  X (at1 (((w (at1 ((j 0).val / 8) (by have : (j 0).val < 41600 := (j 0).isLt; omega))).toNat * 8 + (j 0).val % 8) % 21008) (Nat.mod_lt _ (by omega)))

/-- The whole gather: element `8 r + c` is element `8 I[r] + c` of the table. -/
def gather (X : Vec F S21008 .f32) (I : IVec S1331200 32) : Vec F S10649600 .f32 := fun j =>
  X (at1 (((I (at1 ((j 0).val / 8) (by have : (j 0).val < 10649600 := (j 0).isLt; omega))).toNat * 8 + (j 0).val % 8) % 21008) (Nat.mod_lt _ (by omega)))

/-- The output buffer inside trip `k` of the inner loop, after its first `c` columns. -/
def Good (X : Vec F S21008 .f32) (w : IVec S5200 32) (k c : ℕ) (u : Vec F S41600 .f32) : Prop :=
  ∀ j : S41600.Idx, (j 0).val < 128 * k ∨ ((j 0).val < 128 * (k + 1) ∧ (j 0).val % 8 < c) → u j = chunk X w j

theorem Good.zero (X : Vec F S21008 .f32) (w : IVec S5200 32) (u : Vec F S41600 .f32) : Good X w 0 0 u :=
  fun j h => by omega

theorem Good.next {X : Vec F S21008 .f32} {w : IVec S5200 32} {k : ℕ} {u : Vec F S41600 .f32} (h : Good X w k 8 u) : Good X w (k + 1) 0 u :=
  fun j hj => h j (by omega)

/-- One column: the eight-wide stride's indexed load and store. -/
theorem Good.step {X : Vec F S21008 .f32} {w : IVec S5200 32} (hw : ∀ j, (w j).toNat < 2626) {k c : ℕ} (hk : k < 325) (hc : c < 8)
    {u : Vec F S41600 .f32} (hu : Good X w k c u) (p q : IVec S16 32)
    (hp : ∀ x : S16.Idx, (p x).toNat = 128 * k + 8 * (x 0).val + c)
    (hq : ∀ x : S16.Idx, (q x).toNat = 8 * (w (at1 (16 * k + (x 0).val) (by have : (x 0).val < 16 := (x 0).isLt; omega))).toNat + c)
    (h₁ : ∀ a x, ((![q] : Fin 1 → IVec S16 32) a x).toNat < S21008.size a)
    (h₂ : ∀ a x, ((![p] : Fin 1 → IVec S16 32) a x).toNat < S41600.size a) :
    Good X w k (c + 1) (storeIdx u ![p] (loadIdx X ![q] h₁) (fun _ => 1#1) false h₂) := by
  intro j hj
  refine storeIdx_good u (chunk X w) ![p] _ h₂ (fun x => ?_) j ?_
  · unfold loadIdx chunk
    have hx : (x 0).val < 16 := (x 0).isLt
    have e1 : ((idxAt (s := S41600) (t := S16) ![p] h₂ x) 0).val = 128 * k + 8 * (x 0).val + c := hp x
    congr 1
    refine ext1 ?_
    rw [at1_val]
    show (q x).toNat = _
    rw [hq x]
    have e2 : (at1 (((idxAt (s := S41600) (t := S16) ![p] h₂ x) 0).val / 8) (by have : ((idxAt (s := S41600) (t := S16) ![p] h₂ x) 0).val < 41600 := ((idxAt (s := S41600) (t := S16) ![p] h₂ x) 0).isLt; omega) : S5200.Idx)
        = at1 (16 * k + (x 0).val) (by omega) := ext1 (by rw [at1_val, at1_val, e1]; omega)
    rw [e2, e1]
    have := hw (at1 (16 * k + (x 0).val) (by omega))
    omega
  · by_cases hcc : (j 0).val < 128 * k ∨ ((j 0).val < 128 * (k + 1) ∧ (j 0).val % 8 < c)
    · exact .inl (hu j hcc)
    · right
      have hx : ((j 0).val - 128 * k) / 8 < 16 := by omega
      refine ⟨at1 (((j 0).val - 128 * k) / 8) hx, ext1 ?_⟩
      show (p _).toNat = _
      rw [hp, at1_val]
      omega

/-! ## The index vectors of the trip's columns -/

theorem iv_val (k : Fin k0_t2_loop.trips) : (Scf.iv 0#32 1#32 k : BitVec 32) = BitVec.ofNat 32 k.val := by
  unfold Scf.iv; simp

theorem trip_lt (k : Fin k0_t2_loop.trips) : k.val < 325 := Nat.lt_of_lt_of_le k.isLt k0_t2_abs.2.1
theorem trip1_lt (k : Fin k0_t1_loop.trips) : k.val < 8 := Nat.lt_of_lt_of_le k.isLt k0_t1_abs.2.1

/-- The places a column stores to. -/
theorem place_val (k : Fin k0_t2_loop.trips) (c : ℕ) (hc : c < 8) (x : S16.Idx) :
    (addi (k0_pay9 k0_pay1 0#32 1#32 k) (broadcast S16 (BitVec.ofNat 32 c)) x).toNat = 128 * k.val + 8 * (x 0).val + c := by
  have hk := trip_lt k
  have hx : (x 0).val < 16 := (x 0).isLt
  unfold k0_pay9 k0_pay1
  simp only [iv_val]
  simp [addi, muli, broadcast, iota, IntOp.addi, IntOp.muli, Scalar.muli, BitVec.toNat_add, BitVec.toNat_mul]
  omega

/-- The table elements a column loads. -/
theorem source_val (v : Vec F S16 .i32) (hv : ∀ x, (v x : BitVec 32).toNat < 2626) (c : ℕ) (hc : c < 8) (x : S16.Idx) :
    (addi (k0_pay8 (F := F) v) (broadcast S16 (BitVec.ofNat 32 c)) x).toNat = 8 * (v x : BitVec 32).toNat + c := by
  have := hv x
  unfold k0_pay8
  simp [addi, muli, broadcast, IntOp.addi, IntOp.muli, BitVec.toNat_add, BitVec.toNat_mul]
  omega

end Cert.Proof.Sc

end
-- ==== Proof.Base.lean ====
/-
  The program as its launch theorem sees it: the SparseCore call's configuration, the body tables, the levels, and the
  resource algebra (the handshakes' rounds, the two pipelines' rounds, the transfers' counters).
-/
module

public import proofs.«01_k».proof.Defs
public import proofs.«01_k».proof.Proof.ScPure
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds inside the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The three arrays of the SparseCore call -/

abbrev tLoc (d : Dev nD) : Loc nD τ sig := (SparseCore.T d).loc main_v9
abbrev iLoc (d : Dev nD) : Loc nD τ sig := (SparseCore.T d).loc main_v8
abbrev oLoc (d : Dev nD) : Loc nD τ sig := (SparseCore.T d).loc main_v21

end Cert.Proof.Sc

end
-- ==== Proof.ScTile.lean ====
/-
  One tile of the SparseCore call: its table fetched, then eight chunks of 5200 indices, each gathered by the inner loop
  and written to its own 41600 elements of the output. The run carries the values: what is left in the output is `gather`
  of the table and the indices.
-/
module

public import proofs.«01_k».proof.Proof.Base

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

-- the kernel's memrefs, spelt as the body table passes them
local notation "tW" => (Memref.whole Cert.KernelIdeal.main_v9_scv : Memref Cert.KernelIdeal.sig Kind.scVector Space.hbm Cert.KernelIdeal.S21008 EltTy.f32)
local notation "iW" => (Memref.whole Cert.KernelIdeal.main_v8_scv : Memref Cert.KernelIdeal.sig Kind.scVector Space.hbm Cert.KernelIdeal.S1331200 EltTy.i32)
local notation "oW" => (Memref.whole Cert.KernelIdeal.main_v21_scv : Memref Cert.KernelIdeal.sig Kind.scVector Space.hbm Cert.KernelIdeal.S10649600 EltTy.f32)
local notation "sT" => (Memref.whole Cert.KernelIdeal.cc0_scratch0 : Memref Cert.KernelIdeal.sig Kind.scVector Space.vmem Cert.KernelIdeal.S21008 EltTy.f32)
local notation "sI" => (Memref.whole Cert.KernelIdeal.cc0_scratch1 : Memref Cert.KernelIdeal.sig Kind.scVector Space.vmem Cert.KernelIdeal.S5200 EltTy.i32)
local notation "sO" => (Memref.whole Cert.KernelIdeal.cc0_scratch2 : Memref Cert.KernelIdeal.sig Kind.scVector Space.vmem Cert.KernelIdeal.S41600 EltTy.f32)

/-! ## The pieces of the output -/

theorem hdiv : 256 ∣ S10649600.size 0 := ⟨41600, rfl⟩

/-- The number of the piece that chunk `t` of tile `(c, i)` writes. -/
def piece (c : Fin 2) (i : Fin 16) (t : Fin 8) : Fin 256 := ⟨(2 * i.val + c.val) * 8 + t.val, by omega⟩

abbrev outSet (c : Fin 2) (i : Fin 16) (t : Fin 8) : Finset S10649600.Idx := (Rect.part (s := S10649600) (a₀ := 0) hdiv (piece c i t)).set

theorem mem_outSet (c : Fin 2) (i : Fin 16) (t : Fin 8) (j : S10649600.Idx) :
    j ∈ outSet c i t ↔ 41600 * (piece c i t).val ≤ (j 0).val ∧ (j 0).val < 41600 * (piece c i t).val + 41600 := by
  unfold outSet Rect.part Rect.block
  rw [Rect.mem_set_unit]
  constructor
  · intro h
    have := h 0
    simp [Shape.partIx, Shape.partSize] at this
    omega
  · intro h a
    obtain rfl : a = 0 := Subsingleton.elim _ _
    simp [Shape.partIx, Shape.partSize]
    omega

section Tile

variable (d : Dev nD) (L : grid0.Coords)

abbrev cV : Fin τ.nSC := (L 0).castLE hcore0
abbrev jV : Fin τ.nSub := (L 1).castLE hsub0
theorem bound_zero : grid0.bound 0 = 2 := rfl
theorem bound_one : grid0.bound 1 = 16 := rfl
abbrev cL : Fin 2 := Fin.cast bound_zero (L 0)
abbrev jL : Fin 16 := Fin.cast bound_one (L 1)
abbrev thr : Thread nD τ := V d (cV L) (jV L)

theorem trips1 : k0_t1_loop.trips = 8 := by decide
theorem trips2 : k0_t2_loop.trips = 325 := by decide

abbrev tL (t : Fin k0_t1_loop.trips) : Fin 8 := Fin.cast trips1 t

abbrev iSl (t : Fin k0_t1_loop.trips) : Memref sig .scVector .hbm S5200 .i32 :=
  (iW).slice (Rect.unit (s := S1331200) (k0_off1 L t) S5200.size (k0_off1_inb L t)) (fun _ => rfl)
abbrev oSl (t : Fin k0_t1_loop.trips) : Memref sig .scVector .hbm S41600 .f32 :=
  (oW).slice (Rect.unit (s := S10649600) (k0_off3 L t) S41600.size (k0_off3_inb L t)) (fun _ => rfl)

theorem set_oSl (t : Fin k0_t1_loop.trips) : (oSl L t).view.set = outSet (cL L) (jL L) (tL t) := by
  show ((View.whole (main_v21_scv : Ref sig .scVector)).slice (Rect.unit (s := S10649600) (k0_off3 L t) S41600.size (k0_off3_inb L t))).set = _
  rw [View.set_slice_whole]
  ext j
  rw [mem_outSet, Rect.mem_set_unit]
  have h0 := k0_off3_eq L t
  constructor
  · intro h
    have := h 0
    rw [h0] at this
    simp [piece] at this ⊢
    omega
  · intro h a
    obtain rfl : a = 0 := Subsingleton.elim (α := Fin 1) _ _
    rw [h0]
    simp [piece] at h ⊢
    omega

abbrev cA : GSem nD τ sig := (thr d L, .dma cc0_scoped0.sem)
abbrev cB : GSem nD τ sig := (thr d L, .dma cc0_scoped1.sem)
abbrev cC : GSem nD τ sig := (thr d L, .dma cc0_scoped2.sem)

theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (thr d L) : sProp 𝕄)
      = iprop((∃ f, (sT).view.loc (thr d L) ↦{fullShare} f) ∗ (∃ f, (sI).view.loc (thr d L) ↦{fullShare} f)
          ∗ (∃ f, (sO).view.loc (thr d L) ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable (X : Vec F S21008 .f32) (I : IVec S1331200 32)

/-- The chunk of indices trip `t` fetches. -/
def idxChunk (t : Fin k0_t1_loop.trips) : IVec S5200 32 := fun j =>
  I (at1 (83200 * (L 1).val + 41600 * (L 0).val + 5200 * t.val + (j 0).val) (by
    have h1 : (j 0).val < 5200 := (j 0).isLt
    have h2 : (L 1).val < 16 := (L 1).isLt
    have h3 : (L 0).val < 2 := (L 0).isLt
    have h4 := trip1_lt t
    omega))

/-- The inner loop's invariant: the table, the fetched indices, the output buffer good up to trip `k`. -/
def inv2 (w : IVec S5200 32) (k : Nat) (_ : PUnit) : sProp 𝕄 :=
  iprop(((sT).view.loc (thr d L) ↦{fullShare} (X : Buf (Elt F) ((sT).view.loc (thr d L))))
    ∗ ((sI).view.loc (thr d L) ↦{fullShare} (w : Buf (Elt F) ((sI).view.loc (thr d L))))
    ∗ ∃ u : Vec F S41600 .f32, ⌜Good X w k 0 u⌝ ∗ ((sO).view.loc (thr d L) ↦{fullShare} (u : Buf (Elt F) ((sO).view.loc (thr d L)))))

theorem pts_sO_whole (f : Buf (Elt F) ((sO).view.loc (thr d L))) :
    (((sO).access (.whole S41600)).loc (thr d L) ↦[((sO).access (.whole S41600)).set]{fullShare} f : sProp 𝕄)
      = (sO).view.loc (thr d L) ↦{fullShare} f := by
  rw [show ((sO).access (.whole S41600)).set = Finset.univ from Memref.set_access_whole (cc0_scratch2 : Ref sig .scVector)]
theorem pts_sT_whole (f : Buf (Elt F) ((sT).view.loc (thr d L))) :
    (((sT).access (.whole S21008)).loc (thr d L) ↦{fullShare} f : sProp 𝕄) = (sT).view.loc (thr d L) ↦{fullShare} f := rfl

theorem lane_lt (x : S16.Idx) : (x 0).val < 16 := (x 0).isLt

/-- One column of a trip of the inner loop: the table's elements `q` loaded, stored at the places `p`. -/
theorem column {α : Type} {w : IVec S5200 32} (hw : ∀ j, (w j).toNat < 2626) {k : ℕ} (c c' : ℕ) (hc' : c' = c + 1) (hk : k < 325) (hc : c < 8)
    {u : Vec F S41600 .f32} (hu : Good X w k c u) (q p : IVec S16 32)
    (hp : ∀ x : S16.Idx, (p x).toNat = 128 * k + 8 * (x 0).val + c)
    (hq : ∀ x : S16.Idx, (q x).toNat = 8 * (w (at1 (16 * k + (x 0).val) (by have : (x 0).val < 16 := (x 0).isLt; omega))).toNat + c)
    {dq : Decidable (∀ a x, ((![q] : Fin 1 → IVec S16 32) a x).toNat < S21008.size a)}
    {dp : Decidable (∀ a x, ((![p] : Fin 1 → IVec S16 32) a x).toNat < S41600.size a)}
    {hl : (sT).view.Loads} {hs : ((sO).access (.whole S41600)).Stores Finset.univ}
    {R : Vec F S16 .f32 → PUnit → Prog (TpuEff nD τ sig (Elt F) Λ₀ (.scVector (cV L) (jV L))) α} {Q : α → sProp 𝕄} {Fr : sProp 𝕄}
    (hR : ∀ (v' : Vec F S16 .f32) (u' : Vec F S41600 .f32), Good X w k c' u' →
      iprop(((sT).view.loc (thr d L) ↦{fullShare} (X : Buf (Elt F) ((sT).view.loc (thr d L))))
        ∗ ((sO).view.loc (thr d L) ↦{fullShare} (u' : Buf (Elt F) ((sO).view.loc (thr d L)))) ∗ Fr)
      ⊢ wp frame (wpE (defs₀ (F := F)) 𝒱₀ (thr d L) none) Set.univ (R v' ⟨⟩) Q) :
    iprop(((sT).view.loc (thr d L) ↦{fullShare} (X : Buf (Elt F) ((sT).view.loc (thr d L))))
        ∗ ((sO).view.loc (thr d L) ↦{fullShare} (u : Buf (Elt F) ((sO).view.loc (thr d L)))) ∗ Fr)
      ⊢ wp frame (wpE (defs₀ (F := F)) 𝒱₀ (thr d L) none) Set.univ
        (.op (.assume (∀ a x, ((![q] : Fin 1 → IVec S16 32) a x).toNat < S21008.size a) dq) fun h₁ =>
          SparseCore.vectorLoadIdx sT ![q] h₁.down hl >>= fun v =>
          .op (.assume (∀ a x, ((![p] : Fin 1 → IVec S16 32) a x).toNat < S41600.size a) dp) fun h₂ =>
          SparseCore.vectorStoreIdx sO ![p] v (fun _ => 1#1) false h₂.down hs >>= R v) Q := by
  have h₁ : ∀ a x, ((![q] : Fin 1 → IVec S16 32) a x).toNat < S21008.size a := by
    intro a x
    obtain rfl : a = 0 := Subsingleton.elim _ _
    show (q x).toNat < 21008
    rw [hq]
    have := hw (at1 (16 * k + (x 0).val) (by have : (x 0).val < 16 := (x 0).isLt; omega))
    omega
  have h₂ : ∀ a x, ((![p] : Fin 1 → IVec S16 32) a x).toNat < S41600.size a := by
    intro a x
    obtain rfl : a = 0 := Subsingleton.elim _ _
    show (p x).toNat < 41600
    rw [hp]
    have : (x 0).val < 16 := (x 0).isLt
    omega
  rw [wp_assume_of _ _ _ _ h₁]
  iintro ⟨HT, HO, HF⟩
  iapply (SparseCore.wp_vectorLoadIdx 𝒱₀ (thr d L) none Set.univ (base := sT) (S := Finset.univ) (q := fullShare) (Finset.subset_univ _)) $$ HT
  iintro HT
  rw [wp_assume_of _ _ _ _ h₂]
  ihave HO' := (Entails.of_eq (pts_sO_whole d L u).symm) $$ HO
  iapply (SparseCore.wp_vectorStoreIdx 𝒱₀ (thr d L) none Set.univ (base := sO)) $$ HO'
  iintro HO'
  ihave HO := (Entails.of_eq (pts_sO_whole d L _)) $$ HO'
  subst hc'
  iapply (hR _ _ (Good.step hw hk hc hu p q hp hq h₁ h₂))
  iframe HT HF
  have e : ((sO).access (.whole S41600)).write (Elt F) u (storeIdx (((sO).access (.whole S41600)).read (Elt F) u) ![p]
      (loadIdx (((sT).access (.whole S21008)).read (Elt F) X) ![q] h₁) (fun _ => 1#1) false h₂) Finset.univ
      = storeIdx u ![p] (loadIdx X ![q] h₁) (fun _ => 1#1) false h₂ := by
    have e1 : ((sO).access (.whole S41600)).read (Elt F) u = u := Memref.read_access_whole (Elt F) cc0_scratch2 u
    have e2 : ((sT).access (.whole S21008)).read (Elt F) X = X := Memref.read_access_whole (Elt F) cc0_scratch0 X
    rw [e1, e2]
    exact Memref.write_access_whole_univ (Elt F) cc0_scratch2 u _
  iapply (Idealize.SL.BI.BIBase.Entails.of_eq (congrArg (fun f : Buf (Elt F) ((sO).view.loc (thr d L)) =>
    ((sO).view.loc (thr d L) ↦{fullShare} f : sProp 𝕄)) e)) $$ HO

set_option maxHeartbeats 2000000 in
/-- One trip of the inner loop. -/
theorem inner_trip (w : IVec S5200 32) (hw : ∀ j, (w j).toNat < 2626) (k : Fin k0_t2_loop.trips) :
    inv2 d L X w k.val ⟨⟩ ⊢ wp frame (wpE (defs₀ (F := F)) 𝒱₀ (thr d L) none) Set.univ
      (k0_t2_body L tW (Memref.isWhole_whole _) iW (Memref.isWhole_whole _) oW (Memref.isWhole_whole _)
            sT (Memref.isWhole_whole _) sI (Memref.isWhole_whole _) sO (Memref.isWhole_whole _) cc0_scoped0 cc0_scoped1 cc0_scoped2 k ⟨⟩)
      fun _ => inv2 d L X w (k.val + 1) ⟨⟩ := by
  unfold k0_t2_body
  simp only [k0_part1_eq_skeleton, k0_part1_skel, Prog.lift, Prog.bind_op, Prog.bind_ret, Prog.pure_eq_ret, bind_assoc]
  unfold inv2
  iintro ⟨HT, HI, %u, %hu, HO⟩
  iapply (wp_load 𝒱₀ (thr d L) none Set.univ (m := sI) (S := Finset.univ) (Finset.subset_univ _)) $$ HI; iintro HI
  have hv : ∀ x : S16.Idx, (View.readAt (Elt F) (sI).view (Rect.unit (s := S5200) (k0_off2 k) S16.size (k0_off2_inb k)).toLoadRect w x : BitVec 32)
      = w (at1 (16 * k.val + (x 0).val) (by have := trip_lt k; have := lane_lt x; omega)) := by
    intro x
    show w _ = _
    congr 1
    refine ext1 ?_
    have h0 := k0_off2_eq k
    show k0_off2 k 0 + 1 * (x 0).val = 16 * k.val + (x 0).val
    rw [h0]
    simp
  generalize View.readAt (Elt F) (sI).view (Rect.unit (s := S5200) (k0_off2 k) S16.size (k0_off2_inb k)).toLoadRect w = v at hv ⊢
  have hq : ∀ c, c < 8 → ∀ x : S16.Idx, (addi (k0_pay8 (F := F) v) (broadcast S16 (BitVec.ofNat 32 c)) x).toNat
      = 8 * (w (at1 (16 * k.val + (x 0).val) (by have := trip_lt k; have := lane_lt x; omega))).toNat + c := by
    intro c hc x
    rw [source_val v (fun x => by rw [hv]; exact hw _) c hc, hv]
  have hk := trip_lt k
  istop
  refine BI.BIBase.Entails.trans (Q := iprop(((sT).view.loc (thr d L) ↦{fullShare} (X : Buf (Elt F) ((sT).view.loc (thr d L))))
        ∗ ((sO).view.loc (thr d L) ↦{fullShare} (u : Buf (Elt F) ((sO).view.loc (thr d L))))
        ∗ ((sI).view.loc (thr d L) ↦{fullShare} (w : Buf (Elt F) ((sI).view.loc (thr d L)))))) ?_ ?_
  · iintro ⟨⟨HT, HO⟩, HI⟩
    iframe
  have p0 : ∀ x : S16.Idx, (k0_pay11 k0_pay1 0#32 1#32 k x).toNat = 128 * k.val + 8 * (x 0).val + 0 := place_val k 0 (by norm_num)
  have q0 : ∀ x : S16.Idx, (k0_pay10 (F := F) v x).toNat = _ := hq 0 (by norm_num)
  have p1 : ∀ x : S16.Idx, (k0_pay13 k0_pay1 0#32 1#32 k x).toNat = 128 * k.val + 8 * (x 0).val + 1 := place_val k 1 (by norm_num)
  have q1 : ∀ x : S16.Idx, (k0_pay12 (F := F) v x).toNat = _ := hq 1 (by norm_num)
  have p2 : ∀ x : S16.Idx, (k0_pay15 k0_pay1 0#32 1#32 k x).toNat = 128 * k.val + 8 * (x 0).val + 2 := place_val k 2 (by norm_num)
  have q2 : ∀ x : S16.Idx, (k0_pay14 (F := F) v x).toNat = _ := hq 2 (by norm_num)
  have p3 : ∀ x : S16.Idx, (k0_pay17 k0_pay1 0#32 1#32 k x).toNat = 128 * k.val + 8 * (x 0).val + 3 := place_val k 3 (by norm_num)
  have q3 : ∀ x : S16.Idx, (k0_pay16 (F := F) v x).toNat = _ := hq 3 (by norm_num)
  have p4 : ∀ x : S16.Idx, (k0_pay19 k0_pay1 0#32 1#32 k x).toNat = 128 * k.val + 8 * (x 0).val + 4 := place_val k 4 (by norm_num)
  have q4 : ∀ x : S16.Idx, (k0_pay18 (F := F) v x).toNat = _ := hq 4 (by norm_num)
  have p5 : ∀ x : S16.Idx, (k0_pay3 (k0_pay9 k0_pay1 0#32 1#32 k) x).toNat = 128 * k.val + 8 * (x 0).val + 5 := place_val k 5 (by norm_num)
  have q5 : ∀ x : S16.Idx, (k0_pay2 (k0_pay8 (F := F) v) x).toNat = _ := hq 5 (by norm_num)
  have p6 : ∀ x : S16.Idx, (k0_pay5 (k0_pay9 k0_pay1 0#32 1#32 k) x).toNat = 128 * k.val + 8 * (x 0).val + 6 := place_val k 6 (by norm_num)
  have q6 : ∀ x : S16.Idx, (k0_pay4 (k0_pay8 (F := F) v) x).toNat = _ := hq 6 (by norm_num)
  have p7 : ∀ x : S16.Idx, (k0_pay7 (k0_pay9 k0_pay1 0#32 1#32 k) x).toNat = 128 * k.val + 8 * (x 0).val + 7 := place_val k 7 (by norm_num)
  have q7 : ∀ x : S16.Idx, (k0_pay6 (k0_pay8 (F := F) v) x).toNat = _ := hq 7 (by norm_num)
  refine column d L X hw 0 1 rfl hk (by norm_num) hu _ _ p0 q0 fun _ u1 h1 => ?_
  refine column d L X hw 1 2 rfl hk (by norm_num) h1 _ _ p1 q1 fun _ u2 h2 => ?_
  refine column d L X hw 2 3 rfl hk (by norm_num) h2 _ _ p2 q2 fun _ u3 h3 => ?_
  refine column d L X hw 3 4 rfl hk (by norm_num) h3 _ _ p3 q3 fun _ u4 h4 => ?_
  refine column d L X hw 4 5 rfl hk (by norm_num) h4 _ _ p4 q4 fun _ u5 h5 => ?_
  refine column d L X hw 5 6 rfl hk (by norm_num) h5 _ _ p5 q5 fun _ u6 h6 => ?_
  refine column d L X hw 6 7 rfl hk (by norm_num) h6 _ _ p6 q6 fun _ u7 h7 => ?_
  refine column d L X hw 7 8 rfl hk (by norm_num) h7 _ _ p7 q7 fun _ u8 h8 => ?_
  iintro ⟨HT, HO, HI⟩
  sl_step
  iframe HT HI
  iexists u8
  iframe HO
  ipureintro
  exact Good.next h8

end Tile

end Cert.Proof.Sc

end
-- ==== Proof.ScTileRun.lean ====
/-
  The whole of a tile's run: the table's copy, and the eight chunks by the inner loop's invariant of the module before.
-/
module

public import proofs.«01_k».proof.Proof.ScTile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "tW" => (Memref.whole Cert.KernelIdeal.main_v9_scv : Memref Cert.KernelIdeal.sig Kind.scVector Space.hbm Cert.KernelIdeal.S21008 EltTy.f32)
local notation "iW" => (Memref.whole Cert.KernelIdeal.main_v8_scv : Memref Cert.KernelIdeal.sig Kind.scVector Space.hbm Cert.KernelIdeal.S1331200 EltTy.i32)
local notation "oW" => (Memref.whole Cert.KernelIdeal.main_v21_scv : Memref Cert.KernelIdeal.sig Kind.scVector Space.hbm Cert.KernelIdeal.S10649600 EltTy.f32)
local notation "sT" => (Memref.whole Cert.KernelIdeal.cc0_scratch0 : Memref Cert.KernelIdeal.sig Kind.scVector Space.vmem Cert.KernelIdeal.S21008 EltTy.f32)
local notation "sI" => (Memref.whole Cert.KernelIdeal.cc0_scratch1 : Memref Cert.KernelIdeal.sig Kind.scVector Space.vmem Cert.KernelIdeal.S5200 EltTy.i32)
local notation "sO" => (Memref.whole Cert.KernelIdeal.cc0_scratch2 : Memref Cert.KernelIdeal.sig Kind.scVector Space.vmem Cert.KernelIdeal.S41600 EltTy.f32)

variable (d : Dev nD) (L : grid0.Coords) (X : Vec F S21008 .f32) (I : IVec S1331200 32) (qT qI : PosShare TreeShare) (f0 : Vec F S10649600 .f32)

/-- A chunk of the output at given contents. -/
def outPts (c : Fin 2) (i : Fin 16) (t : Fin 8) (f : Vec F S10649600 .f32) : sProp 𝕄 :=
  iprop(oLoc d ↦[outSet c i t]{fullShare} (f : Buf (Elt F) (oLoc d)))

/-- The outer loop's invariant: the chunks before `k` gathered, the others as they were. -/
def inv1 (O : CellTallies nD τ sig (HIx 1)) (W : Waits sig (HIx 1)) (k : Nat) (_ : PUnit) : sProp 𝕄 :=
  iprop(Transfers.MayWaits (thr d L) (none : HIx 1) O
    ∗ ((iW).view.loc (thr d L) ↦{qI} (I : Buf (Elt F) ((iW).view.loc (thr d L))))
    ∗ ((sT).view.loc (thr d L) ↦{fullShare} (X : Buf (Elt F) ((sT).view.loc (thr d L))))
    ∗ (∃ w, (sI).view.loc (thr d L) ↦{fullShare} w)
    ∗ (∃ u, (sO).view.loc (thr d L) ↦{fullShare} u)
    ∗ (bigSep Finset.univ fun t : Fin 8 => outPts d (cL L) (jL L) t (if t.val < k then gather X I else f0))
    ∗ semVal (cB d L) 0 ∗ semVal (cC d L) 0
    ∗ ∃ W', ⌜∀ p ∈ W', p ∈ W ∨ p.2 = none⌝ ∗ owes (thr d L) O W')

theorem chunk_out (t : Fin 8) (Φ : Fin 8 → sProp 𝕄) : bigSep Finset.univ Φ = iprop(Φ t ∗ bigSep (Finset.univ.erase t) Φ) :=
  BI.bigSep_univ_split t

theorem pts_oSl (t : Fin k0_t1_loop.trips) (f : Vec F S10649600 .f32) :
    ((oSl L t).view.loc (thr d L) ↦[(oSl L t).view.set]{fullShare} (f : Buf (Elt F) ((oSl L t).view.loc (thr d L))) : sProp 𝕄)
      = outPts d (cL L) (jL L) (tL t) f := by
  unfold outPts
  rw [set_oSl]

theorem out_step (k : Fin k0_t1_loop.trips) :
    (bigSep (Finset.univ.erase (tL k)) fun t : Fin 8 => (outPts d (cL L) (jL L) t (if t.val < k.val then gather X I else f0) : sProp 𝕄))
      = bigSep (Finset.univ.erase (tL k)) fun t : Fin 8 => outPts d (cL L) (jL L) t (if t.val < k.val + 1 then gather X I else f0) := by
  refine BI.bigSep_congr fun t ht => ?_
  have hne : t.val ≠ k.val := fun e => (Finset.mem_erase.mp ht).1 (Fin.ext e)
  have : (t.val < k.val) = (t.val < k.val + 1) := propext ⟨fun h => by omega, fun h => by omega⟩
  simp only [this]

/-- What the index copy leaves in its buffer. -/
theorem fetched (w0 : Buf (Elt F) ((sI).view.loc (thr d L))) (k : Fin k0_t1_loop.trips) :
    View.write (Elt F) (sI).view w0 (ReadAs.same.apply (View.read (Elt F) (iSl L k).view (I : Buf (Elt F) ((iW).view.loc (thr d L))))) Finset.univ
      = idxChunk L I k := by
  refine (View.write_whole_univ (Val := Elt F) (cc0_scratch1 : Ref sig .scVector) w0 _).trans ?_
  funext j
  show I _ = I _
  congr 1
  refine ext1 ?_
  have h0 := k0_off1_eq L k
  show k0_off1 L k 0 + 1 * (j 0).val = 83200 * (L 1).val + 41600 * (L 0).val + 5200 * k.val + (j 0).val
  rw [h0]
  simp

/-- A chunk of the gather is the gather at the chunk's place. -/
theorem chunk_gather (B : ℕ) (w : IVec S5200 32) (hw : ∀ j : S5200.Idx, ∃ h, w j = I (at1 (B + (j 0).val) h))
    (x : S41600.Idx) (y : S10649600.Idx) (hy : (y 0).val = 8 * B + (x 0).val) : chunk X w x = gather X I y := by
  unfold chunk gather
  have hx : (x 0).val < 41600 := (x 0).isLt
  obtain ⟨h, e⟩ := hw (at1 ((x 0).val / 8) (by omega))
  have hv : (w (at1 ((x 0).val / 8) (by omega))).toNat = (I (at1 ((y 0).val / 8) (by have : (y 0).val < 10649600 := (y 0).isLt; omega))).toNat := by
    rw [e]
    refine congrArg (fun j => (I j).toNat) (ext1 ?_)
    show B + (x 0).val / 8 = (y 0).val / 8
    omega
  refine congrArg X (ext1 ?_)
  show ((w _).toNat * 8 + (x 0).val % 8) % 21008 = ((I _).toNat * 8 + (y 0).val % 8) % 21008
  rw [hv]
  have : (y 0).val % 8 = (x 0).val % 8 := by omega
  rw [this]

/-- The chunk written out holds its part of the gather. -/
theorem written (k : Fin k0_t1_loop.trips) (f : Vec F S10649600 .f32) (u : Vec F S41600 .f32) (hu : Good X (idxChunk L I k) 325 0 u) :
    ((oSl L k).view.loc (thr d L) ↦[(oSl L k).view.set]{fullShare}
      (View.writes (oSl L k).view (Elt F) (f : Buf (Elt F) ((oSl L k).view.loc (thr d L)))
        [⟨Rect.whole S41600, ReadAs.same.apply (View.read (Elt F) (sO).view (u : Buf (Elt F) ((sO).view.loc (thr d L))))⟩]) : sProp 𝕄)
      = outPts d (cL L) (jL L) (tL k) (gather X I) := by
  rw [← pts_oSl d L k]
  refine pointsTo_congr fun i hi => ?_
  obtain ⟨x, -, rfl⟩ := Finset.mem_map.mp hi
  have e1 := View.read_writes_cons_emb (Val := Elt F) (v := (oSl L k).view) (f := f) (Rect.whole S41600)
    (ReadAs.same.apply (View.read (Elt F) (sO).view (u : Buf (Elt F) ((sO).view.loc (thr d L))))) [] x
  rw [Rect.emb_whole_apply, View.read_apply, cast_eq] at e1
  rw [e1]
  show u x = gather X I ((oSl L k).view.emb x)
  have hx : (x 0).val < 41600 := (x 0).isLt
  rw [hu x (.inl (by omega))]
  have h0 := k0_off3_eq L k
  refine chunk_gather X I (83200 * (L 1).val + 41600 * (L 0).val + 5200 * k.val) _ (fun j => ?_) x _ ?_
  · exact ⟨_, rfl⟩
  · show k0_off3 L k 0 + 1 * (x 0).val = _
    rw [h0]
    show 665600 * (L 1).val + 332800 * (L 0).val + 41600 * k.val + 1 * (x 0).val = _
    omega

set_option maxHeartbeats 1000000 in
theorem outer_trip (hI : ∀ j, (I j).toNat < 2626) (O : CellTallies nD τ sig (HIx 1)) (W : Waits sig (HIx 1)) (k : Fin k0_t1_loop.trips) :
    inv1 d L X I qI f0 O W k.val ⟨⟩ ⊢ wp frame (wpE (defs₀ (F := F)) 𝒱₀ (thr d L) none) Set.univ
      (k0_t1_body L tW (Memref.isWhole_whole _) iW (Memref.isWhole_whole _) oW (Memref.isWhole_whole _)
            sT (Memref.isWhole_whole _) sI (Memref.isWhole_whole _) sO (Memref.isWhole_whole _) cc0_scoped0 cc0_scoped1 cc0_scoped2 k ⟨⟩)
      fun _ => inv1 d L X I qI f0 O W (k.val + 1) ⟨⟩ := by
  unfold inv1
  iintro ⟨Hmw, Hi, HT, ⟨%w0, HI⟩, ⟨%u0, HO'⟩, Hout, HsB, HsC, %W', %hW', HO⟩
  ihave Hout' := (BIBase.Entails.of_eq (chunk_out (tL k) _)) $$ Hout
  icases Hout' with ⟨Hk, Hrest⟩
  ihave Hk' := (BIBase.Entails.of_eq (pts_oSl d L k _).symm) $$ Hk
  unfold k0_t1_body
  sl_exec (disch := exact View.amount_pos _ _ (show 0 < S5200.numel by decide))
  have ew : View.write (Elt F) (sI).view w0 (outer_trip.sl.dma0 (F := F) L I k) Finset.univ = idxChunk L I k := by
    exact fetched d L I w0 k
  ihave HI' := (BIBase.Entails.of_eq (congrArg (fun f : Buf (Elt F) ((sI).view.loc (thr d L)) =>
    ((sI).view.loc (thr d L) ↦{fullShare} f : sProp 𝕄)) ew)) $$ HI
  have hw : ∀ j, (idxChunk L I k j).toNat < 2626 := fun j => hI _
  sl_for (inv2 d L X (idxChunk L I k)) $$ [HT HI' HO']
  case region =>
    intro k' _
    exact inner_trip d L X (idxChunk L I k) hw k'
  · unfold inv2
    iframe HT HI'
    iexists u0
    iframe HO'
    ipureintro
    exact Good.zero _ _ _
  iintro %_ HH
  unfold inv2
  icases HH with ⟨HT, HI, %u, %hu, HO'⟩
  sl_exec (disch := exact View.amount_pos _ _ (show 0 < S41600.numel by decide))
  sl_step
  unfold outer_trip.sl.dma0_1
  ihave Hk := (BIBase.Entails.of_eq (written d L X I k _ u hu)) $$ Hk'
  iframe Hmw Hi HT HsB HsC
  isplitl [HI]; · iexists _; iexact HI
  isplitl [HO']; · iexists _; iexact HO'
  isplitl [Hk Hrest]
  · rw [chunk_out (tL k) (fun t : Fin 8 => outPts d (cL L) (jL L) t (if t.val < k.val + 1 then gather X I else f0)), ← out_step d L X I f0 k]
    iframe Hrest
    have e : (if (tL k).val < k.val + 1 then gather X I else f0) = gather X I := if_pos (Nat.lt_succ_self _)
    rw [e]
    iexact Hk
  iexists _
  iframe HO
  ipureintro
  intro p hp
  rcases Finset.mem_insert.mp hp with hp | hp
  · exact .inr (hp ▸ rfl)
  rcases Finset.mem_insert.mp hp with hp | hp
  · exact .inr (hp ▸ rfl)
  exact hW' p hp

/-- What a tile is handed, at output contents `f`: its shares of the table and the indices, and its eight chunks. -/
def tileGo (c : Fin 2) (i : Fin 16) (f : Vec F S10649600 .f32) : sProp 𝕄 :=
  iprop((tLoc d ↦{qT} (X : Buf (Elt F) (tLoc d))) ∗ (iLoc d ↦{qI} (I : Buf (Elt F) (iLoc d))) ∗ bigSep Finset.univ fun t : Fin 8 => outPts d c i t f)

theorem pts_tW (f : Buf (Elt F) (tLoc d)) (q : PosShare TreeShare) :
    ((tW).view.loc (thr d L) ↦{q} f : sProp 𝕄) = tLoc d ↦{q} f := by
  simp only [Memref.view_whole, View.set_whole]
theorem pts_iW (f : Buf (Elt F) (iLoc d)) (q : PosShare TreeShare) :
    ((iW).view.loc (thr d L) ↦{q} f : sProp 𝕄) = iLoc d ↦{q} f := by
  simp only [Memref.view_whole, View.set_whole]

/-- What the table copy leaves in the tile's memory. -/
theorem fetchedT (w0 : Buf (Elt F) ((sT).view.loc (thr d L))) :
    View.write (Elt F) (sT).view w0 (ReadAs.same.apply (View.read (Elt F) (tW).view (X : Buf (Elt F) ((tW).view.loc (thr d L))))) Finset.univ
      = X :=
  View.write_whole_univ (Val := Elt F) (cc0_scratch0 : Ref sig .scVector) w0 _

set_option maxHeartbeats 1000000 in
/-- A tile's run: from its shares and its chunks at any contents, to the chunks gathered. -/
theorem tile_body (hI : ∀ j, (I j).toNat < 2626) (O : CellTallies nD τ sig (HIx 1)) (W : Waits sig (HIx 1)) (hO : ∀ g, O g none = 0) :
    iprop(levAts (K (F := F)).L (K (F := F)).lev ∗ emp ∗ tileGo d X I qT qI (cL L) (jL L) f0
        ∗ scopedBufs (thr d L) ∗ scopedSems0 (thr d L) ∗ owes (thr d L) O W)
      ⊢ wp frame (wpE (defs₀ (F := F)) 𝒱₀ (thr d L) none) Set.univ
          (cc0__sc_gather_kernel L tW (Memref.isWhole_whole _) iW (Memref.isWhole_whole _) oW (Memref.isWhole_whole _)
            sT (Memref.isWhole_whole _) sI (Memref.isWhole_whole _) sO (Memref.isWhole_whole _) cc0_scoped0 cc0_scoped1 cc0_scoped2)
          fun _ => iprop(tileGo d X I qT qI (cL L) (jL L) (gather X I) ∗ scopedBufs (thr d L) ∗ scopedSems0 (thr d L)
            ∗ ∃ W', ⌜∀ p ∈ W', p ∈ W ∨ p.2 = none⌝ ∗ owes (thr d L) O W') := by
  simp only [cc0__sc_gather_kernel_eq_skeleton]; unfold cc0__sc_gather_kernel_skel
  rw [(K (F := F)).scopedBufs_V facts d (cV L) (jV L), SparseCore.Cfg.scopedSems0_V (Val := Elt F) d (cV L) (jV L), ownSems0_V, ownBufs_V]
  unfold tileGo
  iintro ⟨#Hlv, -, ⟨Ht, Hi, Ho⟩, ⟨⟨%w0, HT⟩, HI, HO', Hbufs⟩, ⟨HsA, HsB, HsC, Hsems⟩, HO⟩
  ihave Hmw := ((K (F := F)).mayWaits_none (thr := thr d L) hO) $$ Hlv
  ihave Ht' := (BIBase.Entails.of_eq (pts_tW d L _ _).symm) $$ Ht
  ihave Hi' := (BIBase.Entails.of_eq (pts_iW d L _ _).symm) $$ Hi
  sl_exec
  unfold tile_body.sl.dma0
  ihave HT' := (BIBase.Entails.of_eq (congrArg (fun f : Buf (Elt F) ((sT).view.loc (thr d L)) =>
    ((sT).view.loc (thr d L) ↦{fullShare} f : sProp 𝕄)) (fetchedT d L X w0))) $$ HT
  sl_for (inv1 d L X I qI f0 O W) $$ [Hmw Hi' HT' HI HO' Ho HsB HsC HO]
  case region =>
    intro k' _
    exact outer_trip d L X I qI f0 hI O W k'
  · unfold inv1
    iframe Hmw Hi' HT' HI HO' HsB HsC
    isplitl [Ho]; · iexact Ho
    iexists _
    iframe HO
    ipureintro
    intro p hp
    rcases Finset.mem_insert.mp hp with hp | hp
    · exact .inr (hp ▸ rfl)
    · exact .inl hp
  iintro %_ HH
  unfold inv1
  icases HH with ⟨-, Hi, HT, HI, HO', Ho, HsB, HsC, HO⟩
  sl_step
  isplitl [Ht' Hi Ho]
  · isplitl [Ht']; · iapply (BIBase.Entails.of_eq (pts_tW d L _ _)) $$ Ht'
    isplitl [Hi]; · iapply (BIBase.Entails.of_eq (pts_iW d L _ _)) $$ Hi
    have e : (fun t : Fin 8 => (outPts d (cL L) (jL L) t (if t.val < Scf.trips k0_t1_loop.lb k0_t1_loop.ub k0_t1_loop.st then gather X I else f0) : sProp 𝕄))
        = fun t : Fin 8 => outPts d (cL L) (jL L) t (gather X I) :=
      funext fun t => by rw [if_pos (lt_of_lt_of_eq t.isLt trips1.symm)]
    iapply (BIBase.Entails.of_eq (congrArg (bigSep Finset.univ) e)) $$ Ho
  isplitl [HT HI HO' Hbufs]
  · iframe HI HO' Hbufs
    iexists _; iexact HT
  iframe
  iexact HsA

end Cert.Proof.Sc

end
-- ==== Proof.ScLaunch.lean ====
/-
  The SparseCore call as one step: what it is handed, what it hands back, and how that is split over the tiles.
-/
module

public import proofs.«01_k».proof.Proof.ScTileRun

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (X : Dev nD → Vec F S21008 .f32) (I : Dev nD → IVec S1331200 32) (f0 : Dev nD → Vec F S10649600 .f32)

/-- A core's read share, and within it a tile's. -/
abbrev qCore (c : Fin 2) : PosShare TreeShare := ShareLeaves.leaf 1 fullShare c
abbrev qTile (c : Fin 2) (i : Fin 16) : PosShare TreeShare := ShareLeaves.leaf 4 (qCore c) i

/-- What tile `(c, i)` is handed at output contents `f`. -/
abbrev tileAt (d : Dev nD) (c : Fin 2) (i : Fin 16) (f : Vec F S10649600 .f32) : sProp 𝕄 := tileGo d (X d) (I d) (qTile c i) (qTile c i) c i f

/-- What core `c` is handed at output contents `f`. -/
def coreAt (d : Dev nD) (c : Fin 2) (f : Vec F S10649600 .f32) : sProp 𝕄 :=
  iprop((tLoc d ↦{qCore c} (X d : Buf (Elt F) (tLoc d))) ∗ (iLoc d ↦{qCore c} (I d : Buf (Elt F) (iLoc d)))
    ∗ bigSep Finset.univ fun i : Fin 16 => bigSep Finset.univ fun t : Fin 8 => outPts d c i t f)

/-- The three arrays of the call, whole. -/
def allAt (d : Dev nD) (f : Vec F S10649600 .f32) : sProp 𝕄 :=
  iprop((tLoc d ↦{fullShare} (X d : Buf (Elt F) (tLoc d))) ∗ (iLoc d ↦{fullShare} (I d : Buf (Elt F) (iLoc d)))
    ∗ (oLoc d ↦{fullShare} (f : Buf (Elt F) (oLoc d))))

theorem bigSep_sep' {J : Type} (s : Finset J) (Φ Ψ : J → sProp 𝕄) :
    (bigSep s fun i => iprop(Φ i ∗ Ψ i)) = iprop(bigSep s Φ ∗ bigSep s Ψ) := BI.bigSep_sep s Φ Ψ

theorem coreAt_tiles (d : Dev nD) (c : Fin 2) (f : Vec F S10649600 .f32) :
    coreAt X I d c f = bigSep Finset.univ fun i : Fin 16 => tileAt X I d c i f := by
  unfold coreAt tileAt tileGo
  rw [bigSep_sep', bigSep_sep', ShareLeaves.pointsTo_leaves _ _ 4 (qCore c), ShareLeaves.pointsTo_leaves _ _ 4 (qCore c)]
  rfl

theorem piece_inj : Function.Injective fun p : Fin 2 × Fin 16 × Fin 8 => piece p.1 p.2.1 p.2.2 := by
  rintro ⟨c, i, t⟩ ⟨c', i', t'⟩ h
  have h' := congrArg Fin.val h
  simp only [piece] at h'
  have hc := c.isLt; have hc' := c'.isLt; have ht := t.isLt; have ht' := t'.isLt
  refine Prod.ext (Fin.ext ?_) (Prod.ext (Fin.ext ?_) (Fin.ext ?_)) <;> simp only <;> omega

theorem outs_disjoint : ∀ p ∈ (Finset.univ : Finset (Fin 2 × Fin 16 × Fin 8)), ∀ p' ∈ (Finset.univ : Finset (Fin 2 × Fin 16 × Fin 8)),
    p ≠ p' → Disjoint (outSet p.1 p.2.1 p.2.2) (outSet p'.1 p'.2.1 p'.2.2) :=
  fun _ _ _ _ h => Rect.part_disjoint hdiv fun e => h (piece_inj e)

theorem outs_cover : (Finset.univ : Finset (Fin 2 × Fin 16 × Fin 8)).biUnion (fun p => outSet p.1 p.2.1 p.2.2) = Finset.univ := by
  refine Finset.eq_univ_iff_forall.mpr fun j => ?_
  have hj : (j 0).val < 10649600 := (j 0).isLt
  refine Finset.mem_biUnion.mpr ⟨⟨⟨(j 0).val / 41600 / 8 % 2, by omega⟩, ⟨(j 0).val / 41600 / 8 / 2, by omega⟩, ⟨(j 0).val / 41600 % 8, by omega⟩⟩, Finset.mem_univ _, ?_⟩
  rw [mem_outSet]
  simp only [piece]
  omega

theorem outs_eq (d : Dev nD) (f : Vec F S10649600 .f32) :
    (oLoc d ↦{fullShare} (f : Buf (Elt F) (oLoc d)) : sProp 𝕄)
      = bigSep Finset.univ fun c : Fin 2 => bigSep Finset.univ fun i : Fin 16 => bigSep Finset.univ fun t : Fin 8 => outPts d c i t f := by
  have e1 := pointsTo_biUnion (Ix := HIx 1) (Name := ℕ) (U := UU) (Lvl := ℕ) (ℓ := oLoc d) (q := fullShare) (f := (f : Buf (Elt F) (oLoc d)))
    (Finset.univ : Finset (Fin 2 × Fin 16 × Fin 8)) (fun p => outSet p.1 p.2.1 p.2.2) outs_disjoint
  rw [outs_cover] at e1
  refine e1.trans ?_
  rw [← Finset.univ_product_univ, SparseCore.bigSep_product]
  refine BI.bigSep_congr fun c _ => ?_
  rw [← Finset.univ_product_univ, SparseCore.bigSep_product]
  rfl

theorem allAt_cores (d : Dev nD) (f : Vec F S10649600 .f32) :
    allAt X I d f = bigSep Finset.univ fun c : Fin 2 => coreAt X I d c f := by
  unfold allAt coreAt
  rw [bigSep_sep', bigSep_sep', ShareLeaves.pointsTo_leaves _ _ 1 fullShare, ShareLeaves.pointsTo_leaves _ _ 1 fullShare, outs_eq]
  rfl

/-- What the call carries: to a core, to its tiles, and back with the output gathered. -/
def P : (K (F := F)).Pay (nD := nD) (Val := Elt F) (Name := ℕ) (U := UU) where
  st := fun q d c => match q with | 0 => coreAt X I d (Fin.cast nCore_zero c) (f0 d)
  dn := fun q d c => match q with | 0 => coreAt X I d (Fin.cast nCore_zero c) (gather (X d) (I d))
  go := fun q d c i => match q with | 0 => tileAt X I d (Fin.cast nCore_zero c) (Fin.cast nSub_zero i) (f0 d)
  td := fun q d c i => match q with | 0 => tileAt X I d (Fin.cast nCore_zero c) (Fin.cast nSub_zero i) (gather (X d) (I d))
  x := fun _ _ => iprop(emp)

instance P_storable : (P X I f0).IsStorable where
  st q d c := match q with
    | 0 => by unfold P coreAt outPts; infer_instance
  dn q d c := match q with
    | 0 => by unfold P coreAt outPts; infer_instance
  go q d c i := match q with
    | 0 => by unfold P tileAt tileGo outPts; infer_instance
  td q d c i := match q with
    | 0 => by unfold P tileAt tileGo outPts; infer_instance

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_kernel (coordsV c s)
          (Memref.whole main_v9_scv) (Memref.isWhole_whole _) (Memref.whole main_v8_scv) (Memref.isWhole_whole _) (Memref.whole main_v21_scv) (Memref.isWhole_whole _)
          (Memref.whole cc0_scratch0) (Memref.isWhole_whole _) (Memref.whole cc0_scratch1) (Memref.isWhole_whole _) (Memref.whole cc0_scratch2) (Memref.isWhole_whole _)
          cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 1024 in
theorem tileObl (hI : ∀ d j, (I d j).toNat < 2626) : (K (F := F)).TileObl (D (F := F)) 𝒱 (P X I f0) v₀ 0 := by
  intro d c i O W hO _ _
  simp only [show (P X I f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (X d) (I d) _ _ (f0 d) (hI d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)
theorem bigSep_coresEq (Φ : Fin 2 → sProp 𝕄) :
    (bigSep Finset.univ fun i : Fin ((K (F := F)).nCore 0) => Φ (Fin.cast nCore_zero i)) = bigSep Finset.univ Φ :=
  BI.bigSep_congr fun _ _ => congrArg Φ (Fin.ext rfl)

theorem vecSplit : (K (F := F)).VecSplit' (P X I f0) 0 := by
  intro d c
  show coreAt X I d (Fin.cast nCore_zero c) (f0 d) ⊢ |={Set.univ}=> iprop(
      (bigSep Finset.univ fun i : Fin ((K (F := F)).nSub 0) => tileAt X I d (Fin.cast nCore_zero c) (Fin.cast nSub_zero i) (f0 d))
      ∗ ((bigSep Finset.univ fun i : Fin ((K (F := F)).nSub 0) => tileAt X I d (Fin.cast nCore_zero c) (Fin.cast nSub_zero i) (gather (X d) (I d)))
          -∗ coreAt X I d (Fin.cast nCore_zero c) (gather (X d) (I d))))
  rw [bigSep_tasks (F := F) (fun i => tileAt X I d (Fin.cast nCore_zero c) i (f0 d)),
    bigSep_tasks (F := F) (fun i => tileAt X I d (Fin.cast nCore_zero c) i (gather (X d) (I d))), ← coreAt_tiles, ← coreAt_tiles]
  iintro H; imodintro
  isplitl [H]; · iexact H
  iintro H; iexact H

theorem st0_eq (d : Dev nD) : (bigSep Finset.univ fun c : Fin ((K (F := F)).nCore 0) => (P X I f0).st 0 d c) = allAt X I d (f0 d) := by
  rw [allAt_cores]
  exact bigSep_coresEq (F := F) (fun c => coreAt X I d c (f0 d))
theorem dn0_eq (d : Dev nD) : (bigSep Finset.univ fun c : Fin ((K (F := F)).nCore 0) => (P X I f0).dn 0 d c) = allAt X I d (gather (X d) (I d)) := by
  rw [allAt_cores]
  exact bigSep_coresEq (F := F) (fun c => coreAt X I d c (gather (X d) (I d)))

end Cert.Proof.Sc

end
-- ==== Proof.Owns.lean ====
/-
  Loads and stores of a whole memref, stated over what the memref reads: a kernel body of such accesses runs by these
  two rules, one per access.
-/
module

public import proofs.«01_k».proof.Proof.Base
public import Idealize.ShloMosaic.Lib.Pipeline.Value
public import Idealize.ShloMosaic.Lib.Pipeline.FrameBody

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- Both zero offsets. -/
theorem zero2 : (![0, 0] : Fin 2 → Nat) = fun _ => 0 := funext fun a => by fin_cases a <;> rfl

/-- A memref of the TensorCore's vector memory, held whole and reading `X`. -/
abbrev ow (d : Dev nD) {S : Shape} {e : EltTy} (m : Memref sig .tc .vmem S e) (X : S.Idx → Elt F e) : sProp 𝕄 :=
  owns (d : Thread nD τ) m fullShare X

variable {Λ : Labels} {defs : Defs nD τ sig (Elt F) Λ} {𝒱' : Variants} {α : Type}

/-- A load of the whole memref reads its contents. -/
theorem ld_ow (d : Dev nD) {sz : Fin 2 → Nat} {e : EltTy} (m : Memref sig .tc .vmem ⟨2, sz⟩ e) (X : Shape.Idx ⟨2, sz⟩ → Elt F e)
    (inb : ∀ a, (![0, 0] : Fin 2 → Nat) a + sz a ≤ sz a)
    (hl : m.view.LoadsAt (Rect.unit (s := ⟨2, sz⟩) ![0, 0] sz inb).toLoadRect)
    (k : (Shape.Idx ⟨2, sz⟩ → Elt F e) → Prog (TpuEff nD τ sig (Elt F) Λ .tc) α) (bd : Option 𝒱'.V) (E : Set ℕ) (Q : α → sProp 𝕄) :
    ow d m X ⊢ iprop((ow d m X -∗ wp frame (wpE defs 𝒱' (d : Thread nD τ) bd) E (k X) Q)
      -∗ wp frame (wpE defs 𝒱' (d : Thread nD τ) bd) E
          (Prog.lift (.load m (Rect.unit (s := ⟨2, sz⟩) ![0, 0] sz inb).toLoadRect hl) >>= k) Q) := by
  unfold ow owns
  iintro ⟨%f, %hf, H⟩ Hk
  have e1 : m.view.readAt (Elt F) (Rect.unit (s := ⟨2, sz⟩) ![0, 0] sz inb).toLoadRect f = X := by
    rw [View.readAt_eq_ld, hf]
    exact View.ld_unit_zero (S := ⟨2, sz⟩) zero2 inb X
  iapply (wp_load 𝒱' (d : Thread nD τ) bd E (m := m) (f := f) (q := fullShare) (S := m.view.set)
    (Finset.map_subset_map.mpr (Finset.subset_univ _))) $$ H
  rw [e1]
  iintro H
  iapply Hk
  iexists f
  isplitr
  · ipureintro; exact hf
  iexact H

/-- A store to the whole memref leaves its payload. -/
theorem st_ow (d : Dev nD) {sz : Fin 2 → Nat} {e : EltTy} (m : Memref sig .tc .vmem ⟨2, sz⟩ e) (X w : Shape.Idx ⟨2, sz⟩ → Elt F e)
    (inb : ∀ a, (![0, 0] : Fin 2 → Nat) a + sz a ≤ sz a)
    (hx : (m.access (Rect.unit (s := ⟨2, sz⟩) ![0, 0] sz inb)).Stores Finset.univ) (hm)
    (k : PUnit → Prog (TpuEff nD τ sig (Elt F) Λ .tc) α) (bd : Option 𝒱'.V) (E : Set ℕ) (Q : α → sProp 𝕄) :
    ow d m X ⊢ iprop((ow d m w -∗ wp frame (wpE defs 𝒱' (d : Thread nD τ) bd) E (k ⟨⟩) Q)
      -∗ wp frame (wpE defs 𝒱' (d : Thread nD τ) bd) E
          (Prog.lift (.store m (Rect.unit (s := ⟨2, sz⟩) ![0, 0] sz inb) w Finset.univ hx hm) >>= k) Q) := by
  unfold ow owns
  iintro ⟨%f, %hf, H⟩ Hk
  have e0 : (Prog.lift (.store m (Rect.unit (s := ⟨2, sz⟩) ![0, 0] sz inb) w Finset.univ hx hm) >>= k
      : Prog (TpuEff nD τ sig (Elt F) Λ .tc) α) = .op (.store m (Rect.unit (s := ⟨2, sz⟩) ![0, 0] sz inb) w Finset.univ hx hm) k := rfl
  rw [e0]
  iapply (wp_store_writes₀ 𝒱' (d : Thread nD τ) bd E (m := m) (r := Rect.unit (s := ⟨2, sz⟩) ![0, 0] sz inb) (f := f) (w := w)
    (hx := hx) (hm := hm) (k := k) (Q := Q) (S := m.view.set) (View.set_slice_subset m.view _)) $$ H
  iintro H
  iapply Hk
  iexists _
  isplitr
  swap; · iexact H
  ipureintro
  have hc : ∀ y, ∃ p ∈ [(⟨Rect.unit (s := ⟨2, sz⟩) ![0, 0] sz inb, w⟩ : View.Piece (Elt F) ⟨2, sz⟩ e)], y ∈ p.1.set :=
    fun y => ⟨_, List.mem_singleton_self _, View.mem_set_unit_zero (S := ⟨2, sz⟩) zero2 inb y⟩
  rw [View.read_writes_eq_canon _ _ _ hc]
  exact View.canon_unit_zero (S := ⟨2, sz⟩) zero2 inb w

end Cert.Proof.Sc

end
-- ==== Proof.Region1.lean ====
/-
  The projection kernel's region: its body, the proof data of its pipeline, and the region entered from any contents
  of the device's buffers and left with the projected rows in the result's buffer.
-/
module

public import proofs.«01_k».proof.Proof.Owns
public import proofs.«01_k».proof.Proof.Gen.KernelIdeal.Launch
public import proofs.«01_k».proof.Proof.Gen.KernelIdeal.Points
public import Idealize.ShloMosaic.Lib.Pipeline.RegionsLoop
public import Idealize.ShloMosaic.Lib.ValueIdxCore

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2)
open Idealize.ShloMosaic.Pipeline (Dat Cfg Window BodyObligation)

variable {F : FTy → Type} [FloatOps F] [Named F]

local notation "𝕄" => MT nD τ sig (HIx 1) (Elt F) ℕ UU ℕ

/-- The contents of the buffers of every device. -/
abbrev Vals (F : FTy → Type) : Type := (c : Dev nD) → (b : Ref sig .tc) → Buf (Elt F) ((c : Thread nD τ).loc b)

/-- Proof data for a pipeline that is not entered: anything. -/
def noDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

def adm : (p : Fin 2) → (pcfgs (F := F) p).Adm := fun p => (cfgs p).toPCfg_adm

/-- The two programs' pairs of waits stay at the lowest level. -/
def lowPairs (c : Dev nD) : Set (SemLoc sig × HIx 1) := {p | (K (F := F)).lev ((c : Thread nD τ), p.1) p.2 ≤ 8}

/-- The core owes nothing, its recorded waits at low levels. -/
def lowOwes (c : Dev nD) : sProp 𝕄 := Pipeline.owesWithin c (0 : CellTallies nD τ sig (HIx 1)) (lowPairs (F := F) c)

theorem owesAt_of_low (c : Dev nD) (B : Set (SemLoc sig × HIx 1)) :
    (lowOwes (F := F) c : sProp 𝕄) ⊢ Pipeline.owesWithin c (0 : CellTallies nD τ sig (HIx 1)) (lowPairs (F := F) c ∪ B) :=
  Pipeline.owesWithin_mono c 0 Set.subset_union_left

theorem low_of_owesAt (c : Dev nD) (O : CellTallies nD τ sig (HIx 1)) (hO : O = 0) (cfg : Cfg sig Λ₀) :
    (Pipeline.owesWithin c O (lowPairs (F := F) c ∪ cfg.waitPairs (none : HIx 1)) : sProp 𝕄) ⊢ lowOwes (F := F) c := by
  subst hO
  refine Pipeline.owesWithin_mono c 0 (Set.union_subset subset_rfl ?_)
  rintro p ⟨w, s, rfl⟩
  show (K (F := F)).lev _ none ≤ 8
  rw [SparseCore.Cfg.lev_none]
  omega

namespace R1

/-- The projection kernel's body: with its four buffers held, it leaves the projected block in the last. -/
theorem body_run (d : Dev nD) (i : grid1.Coords) (a1 : Memref sig .tc .vmem S3200x208 .f32) (h1 : a1.IsWhole)
    (a2 : Memref sig .tc .vmem S208x768 .f32) (h2 : a2.IsWhole) (a3 : Memref sig .tc .vmem S1x768 .f32) (h3 : a3.IsWhole)
    (a4 : Memref sig .tc .vmem S3200x768 .f32) (h4 : a4.IsWhole) (X1 : Vec F S3200x208 .f32) (X2 : Vec F S208x768 .f32)
    (X3 : Vec F S1x768 .f32) (X4 : Vec F S3200x768 .f32) (E : Set ℕ) (Q : PUnit → sProp 𝕄) :
    iprop(ow d a1 X1 ∗ ow d a2 X2 ∗ ow d a3 X3 ∗ ow d a4 X4
        ∗ (iprop(ow d a1 X1 ∗ ow d a2 X2 ∗ ow d a3 X3 ∗ ow d a4 (k1_pay1 X1 X2 X3)) -∗ Q ⟨⟩))
      ⊢ wp frame (wpE (defs₀ (F := F)) 𝒱₀ (d : Thread nD τ) none) E (cc1__proj_kernel i a1 h1 a2 h2 a3 h3 a4 h4) Q := by
  rw [cc1__proj_kernel_eq_skeleton]
  unfold cc1__proj_kernel_skel
  iintro ⟨H1, H2, H3, H4, Hk⟩
  iapply (ld_ow d a1 X1 _ _) $$ H1; iintro H1
  iapply (ld_ow d a2 X2 _ _) $$ H2; iintro H2
  iapply (ld_ow d a3 X3 _ _) $$ H3; iintro H3
  iapply (ld_ow d a4 X4 _ _) $$ H4; iintro H4
  iapply (st_ow d a4 X4 (k1_pay1 X1 X2 X3) _ _ _) $$ H4; iintro H4
  rw [wp_pure]
  imodintro
  iapply Hk
  isplitl [H1]; · iexact H1
  isplitl [H2]; · iexact H2
  isplitl [H3]; · iexact H3
  iexact H4

variable (V : Vals F)

/-- The blocks of the three inputs at a point, of the contents the region is entered at. -/
def blk0 (c : Dev nD) (t : Fin cfg1.N) : Vec F S3200x208 .f32 := ((cfg1.win 0).blk t).view.read (Elt F) (V c main_v22)
def blk1 (c : Dev nD) (t : Fin cfg1.N) : Vec F S208x768 .f32 := ((cfg1.win 1).blk t).view.read (Elt F) (V c main_v11)
def blk2 (c : Dev nD) (t : Fin cfg1.N) : Vec F S1x768 .f32 := ((cfg1.win 2).blk t).view.read (Elt F) (V c main_v13)

/-- What the region's invariant holds: the scoped buffers its pipeline does not stage. -/
abbrev Φc (c : Dev nD) : sProp 𝕄 := Pipeline.scopedRest (Ix := HIx 1) (Name := ℕ) (U := UU) (Lvl := ℕ) (Val := Elt F) spec1 c

/-- The region's proof data: the inputs left as fetched, the output at the projected block. -/
def dat (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => k1_pay1 (blk0 V c t) (blk1 V c t) (blk2 V c t)
  Φ _ := Φc c
  q _ := fullShare
  owed _ := 0
  recorded _ := lowPairs (F := F) c

/-- This region's proof data beside none for the other pipeline. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => noDat c

theorem before0 (c : Dev nD) (t : Fin cfg1.N) (d) : (dat V c).before 0 t d = blk0 V c t :=
  Dat.before_in_eq_fetched (dat V c) 0 rfl (fun _ => rfl) (fun _ _ _ => rfl) (fun _ => rfl) t d
theorem before1 (c : Dev nD) (t : Fin cfg1.N) (d) : (dat V c).before 1 t d = blk1 V c t :=
  Dat.before_in_eq_fetched (dat V c) 1 rfl (fun _ => rfl) (fun _ _ _ => rfl) (fun _ => rfl) t d
theorem before2 (c : Dev nD) (t : Fin cfg1.N) (d) : (dat V c).before 2 t d = blk2 V c t :=
  Dat.before_in_eq_fetched (dat V c) 2 rfl (fun _ => rfl) (fun _ _ _ => rfl) (fun _ => rfl) t d

/-- At every point the body runs from what the pipeline hands it to what the proof data state. -/
theorem body_obligation (c : Dev nD) : BodyObligation (dat V c) (defs₀ (F := F)) 𝒱₀ (none : HIx 1) Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩, ⟨%d3, H3⟩⟩
  rw [before0, before1, before2]
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (blk0 V c t) (blk1 V c t) (blk2 V c t)
    ((dat V c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The result's array after the region. -/
def out (c : Dev nD) : Buf (Elt F) ((c : Thread nD τ).loc main_v23) := (dat V c).arrAt 3 cfg1.N

/-- Rows `3200 t` to `3200 t + 3199` of the gathered rows. -/
def rows (A : Vec F S51200x208 .f32) (t : Fin 16) : Vec F S3200x208 .f32 := fun y =>
  A (ix2 (n0 := 51200) (n1 := 208) ⟨3200 * t.val + (y 0).val, by have h : (y 0).val < 3200 := (y 0).isLt; have := t.isLt; omega⟩ (y 1))

/-- The projected rows: each block of 3200 rows by the kernel's payload. -/
def proj (A : Vec F S51200x208 .f32) (W : Vec F S208x768 .f32) (b : Vec F S1x768 .f32) : Vec F S51200x768 .f32 := fun i =>
  k1_pay1 (rows A ⟨(i 0).val / 3200, by have h : (i 0).val < 51200 := (i 0).isLt; omega⟩) W b
    (ix2 (n0 := 3200) (n1 := 768) ⟨(i 0).val % 3200, Nat.mod_lt _ (by decide)⟩ (i 1))

theorem pt_lt (t : Fin cfg1.N) : t.val < 16 := N_1 ▸ t.isLt

theorem index0 : ∀ t : Fin grid1.N, win1_0.index t 0 = t.val ∧ win1_0.index t 1 = 0 := by decide +kernel
theorem index3 : ∀ t : Fin grid1.N, win1_3.index t 0 = t.val ∧ win1_3.index t 1 = 0 := by decide +kernel

theorem blk0_eq (c : Dev nD) (t : Fin cfg1.N) : blk0 V c t = rows (V c main_v22) ⟨t.val, pt_lt t⟩ := by
  funext y
  unfold blk0 rows
  rw [View.read_apply]
  show V c main_v22 _ = V c main_v22 _
  congr 1
  funext a
  apply Fin.ext
  match a with
  | ⟨0, _⟩ => show win1_0.index t 0 * 3200 + 1 * (y 0).val = 3200 * t.val + (y 0).val; rw [(index0 t).1]; omega
  | ⟨1, _⟩ => show win1_0.index t 1 * 208 + 1 * (y 1).val = (y 1).val; rw [(index0 t).2]; omega

theorem blk1_eq (c : Dev nD) (t : Fin cfg1.N) : blk1 V c t = V c main_v11 := by
  funext y
  unfold blk1
  rw [View.read_apply]
  show V c main_v11 _ = V c main_v11 _
  congr 1
  funext a
  apply Fin.ext
  match a with
  | ⟨0, _⟩ => show 0 * 208 + 1 * (y 0).val = (y 0).val; omega
  | ⟨1, _⟩ => show 0 * 768 + 1 * (y 1).val = (y 1).val; omega

theorem blk2_eq (c : Dev nD) (t : Fin cfg1.N) : blk2 V c t = V c main_v13 := by
  funext y
  unfold blk2
  rw [View.read_apply]
  show V c main_v13 _ = V c main_v13 _
  congr 1
  funext a
  apply Fin.ext
  match a with
  | ⟨0, _⟩ => show 0 * 1 + 1 * (y 0).val = (y 0).val; omega
  | ⟨1, _⟩ => show 0 * 768 + 1 * (y 1).val = (y 1).val; omega

/-- The region's result: the projected rows. -/
theorem out_eq (c : Dev nD) : out V c = proj (V c main_v22) (V c main_v11) (V c main_v13) :=
  (dat V c).arrAt_eq_of_cover 3 (proj (V c main_v22) (V c main_v11) (V c main_v13))
    (fun t _ => by
      show k1_pay1 (blk0 V c t) (blk1 V c t) (blk2 V c t) = _
      rw [blk0_eq, blk1_eq, blk2_eq]
      funext y
      rw [View.read_apply]
      have h0 : (y 0).val < 3200 := (y 0).isLt
      have ht := pt_lt t
      have e0 : ((((cfg1.win 3).blk t).view.emb y : S51200x768.Idx) 0).val = 3200 * t.val + (y 0).val := by
        show win1_3.index t 0 * 3200 + 1 * (y 0).val = _
        rw [(index3 t).1]; omega
      have e1 : ((((cfg1.win 3).blk t).view.emb y : S51200x768.Idx) 1).val = (y 1).val := by
        show win1_3.index t 1 * 768 + 1 * (y 1).val = _
        rw [(index3 t).2]; omega
      show _ = proj (V c main_v22) (V c main_v11) (V c main_v13) (((cfg1.win 3).blk t).view.emb y)
      unfold proj
      have a1 : (⟨((((cfg1.win 3).blk t).view.emb y : S51200x768.Idx) 0).val / 3200, by
          have h : ((((cfg1.win 3).blk t).view.emb y : S51200x768.Idx) 0).val < 51200 := (((cfg1.win 3).blk t).view.emb y 0).isLt
          omega⟩ : Fin 16) = ⟨t.val, ht⟩ := Fin.ext (by show _ / 3200 = t.val; rw [e0]; omega)
      have a2 : (ix2 (n0 := 3200) (n1 := 768) ⟨((((cfg1.win 3).blk t).view.emb y : S51200x768.Idx) 0).val % 3200, Nat.mod_lt _ (by decide)⟩
          (((cfg1.win 3).blk t).view.emb y 1)) = y := by
        rw [eq_ix2 (n0 := 3200) (n1 := 768) y]
        funext a
        apply Fin.ext
        match a with
        | ⟨0, _⟩ => show _ % 3200 = (y 0).val; rw [← eq_ix2 (n0 := 3200) (n1 := 768) y, e0]; omega
        | ⟨1, _⟩ => rw [← eq_ix2 (n0 := 3200) (n1 := 768) y]; exact e1
      rw [a1, a2])
    fun i => by
      have h0 : (i 0 : Nat) < 51200 := (i 0).isLt
      have h1 : (i 1 : Nat) < 768 := (i 1).isLt
      have hp : (i 0).val / 3200 < grid1.N := by rw [N_1]; omega
      refine ⟨⟨(i 0).val / 3200, hp⟩, flush1_3 _, ?_⟩
      show i ∈ ((View.whole main_v23).slice (win1_3.rect ⟨(i 0).val / 3200, hp⟩)).set
      rw [View.set_slice_whole, Rect.mem_set_unit]
      intro a
      match a with
      | ⟨0, _⟩ =>
        show win1_3.index _ 0 * 3200 ≤ (i 0 : Nat) ∧ (i 0 : Nat) < win1_3.index _ 0 * 3200 + 3200
        rw [(index3 _).1]; show (i 0).val / 3200 * 3200 ≤ _ ∧ _ < (i 0).val / 3200 * 3200 + 3200; omega
      | ⟨1, _⟩ =>
        show win1_3.index _ 1 * 768 ≤ (i 1 : Nat) ∧ (i 1 : Nat) < win1_3.index _ 1 * 768 + 768
        rw [(index3 _).2]; omega

variable (Vp : Vals F)

set_option backward.isDefEq.respectTransparency.types false in
/-- The region entered with every unscoped buffer at `V` and left with them at `Vp`: `V` but for the result's buffer. -/
def reg (R : Dev nD → sProp 𝕄) (hVp_out : ∀ c, Vp c main_v23 = out V c)
    (hVp_ne : ∀ c (b : Ref sig .tc), b ≠ main_v23 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c ∗ lowOwes c)
  post c := iprop(unscopedBufs c (Vp c) ∗ R c ∗ lowOwes c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_low c _) $$ HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats V) ((pdats V 0 c).share_full fun _ => rfl) (V c) (Vp c) ((pdats V 0 c).arrAt · cfg1.N)
      (fun w => by
        fin_cases w
        · exact ((pdats V 0 c).arrAt_in 0 rfl _).trans (hVp_ne c main_v22 (by decide)).symm
        · exact ((pdats V 0 c).arrAt_in 1 rfl _).trans (hVp_ne c main_v11 (by decide)).symm
        · exact ((pdats V 0 c).arrAt_in 2 rfl _).trans (hVp_ne c main_v13 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    iapply (show ((pdats V 0 c).owesAt none (Fin.last _) : sProp 𝕄) ⊢ lowOwes c from low_of_owesAt c _ rfl cfg1) $$ HO

end R1

end Cert.Proof.Sc

end
-- ==== Proof.Region2Body.lean ====
/-
  The recurrent kernel's body: the state its six accumulators hold, one step of it, and the body's run at a grid
  point from the state before to the state after, with the head's value in the output at the last point.
-/
module

public import proofs.«01_k».proof.Proof.Owns
public import proofs.«01_k».proof.Proof.Gen.KernelIdeal.Skeleton

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

namespace R2

/-- What the six accumulators hold: the forward and backward hidden states, their running maxima, their running sums. -/
structure St (F : FTy → Type) where
  hf : Vec F S1024x128 .f32
  hb : Vec F S1024x128 .f32
  mf : Vec F S1024x128 .f32
  mb : Vec F S1024x128 .f32
  sf : Vec F S1024x128 .f32
  sb : Vec F S1024x128 .f32

/-- The accumulators as the first point resets them. -/
def St.zero : St F := ⟨k2_pay6, k2_pay7, k2_pay10, k2_pay11, k2_pay8, k2_pay9⟩

/-- One step: both hidden states move by the recurrence, and the maxima and sums take the new ones in. -/
def St.step (x1 x2 : Vec F S1024x384 .f32) (w3 : Vec F S128x384 .f32) (w4 : Vec F S1x384 .f32) (w5 : Vec F S128x384 .f32)
    (w6 : Vec F S1x384 .f32) (s : St F) : St F where
  hf := k2_pay16 (k2_pay12 x1 s.hf w3 w4)
  hb := k2_pay17 (k2_pay13 x2) s.hb (k2_pay14 s.hb w5) w6
  mf := k2_pay18 (k2_pay12 x1 s.hf w3 w4) s.mf
  mb := k2_pay19 (k2_pay13 x2) s.hb (k2_pay14 s.hb w5) w6 s.mb
  sf := k2_pay1 (k2_pay12 x1 s.hf w3 w4) s.sf
  sb := k2_pay2 (k2_pay15 (k2_pay13 x2) s.hb (k2_pay14 s.hb w5) w6) s.sb

/-- The head's value of a state. -/
def St.head (s : St F) (w7 : Vec F S768x32 .f32) (w8 w9 : Vec F S1x32 .f32) (w10 : Vec F S1x1 .f32) : Vec F S1024x1 .f32 :=
  k2_pay3 s.hf s.hb s.mf s.mb s.sf s.sb w7 w8 w9 w10

/-- The point is the first one, as the body decides it. -/
abbrev isFirst (i : grid2.Coords) : Prop :=
  Scalar.cmpi .ne (Scalar.extui (Scalar.cmpi .eq (BitVec.ofNat 32 (i 0).val) 0#32) : BitVec 32) 0#32 = 1#1

variable (a1 : Memref sig .tc .vmem S1024x384 .f32) (h1 : a1.IsWhole) (a2 : Memref sig .tc .vmem S1024x384 .f32) (h2 : a2.IsWhole) (a3 : Memref sig .tc .vmem S128x384 .f32) (h3 : a3.IsWhole) (a4 : Memref sig .tc .vmem S1x384 .f32) (h4 : a4.IsWhole)
variable (a5 : Memref sig .tc .vmem S128x384 .f32) (h5 : a5.IsWhole) (a6 : Memref sig .tc .vmem S1x384 .f32) (h6 : a6.IsWhole) (a7 : Memref sig .tc .vmem S768x32 .f32) (h7 : a7.IsWhole) (a8 : Memref sig .tc .vmem S1x32 .f32) (h8 : a8.IsWhole)
variable (a9 : Memref sig .tc .vmem S1x32 .f32) (h9 : a9.IsWhole) (a10 : Memref sig .tc .vmem S1x1 .f32) (h10 : a10.IsWhole) (a11 : Memref sig .tc .vmem S1024x1 .f32) (h11 : a11.IsWhole) (a12 : Memref sig .tc .vmem S1024x128 .f32) (h12 : a12.IsWhole)
variable (a13 : Memref sig .tc .vmem S1024x128 .f32) (h13 : a13.IsWhole) (a14 : Memref sig .tc .vmem S1024x128 .f32) (h14 : a14.IsWhole) (a15 : Memref sig .tc .vmem S1024x128 .f32) (h15 : a15.IsWhole) (a16 : Memref sig .tc .vmem S1024x128 .f32) (h16 : a16.IsWhole) (a17 : Memref sig .tc .vmem S1024x128 .f32) (h17 : a17.IsWhole)

/-- The six accumulators held at a state. -/
def scr (d : Dev nD) (s : St F) : sProp 𝕄 :=
  iprop(ow d a12 s.hf ∗ ow d a13 s.hb ∗ ow d a14 s.mf ∗ ow d a15 s.mb ∗ ow d a16 s.sf ∗ ow d a17 s.sb)

variable (d : Dev nD) (i : grid2.Coords) (s : St F) (x1 x2 : Vec F S1024x384 .f32) (w3 : Vec F S128x384 .f32) (w4 : Vec F S1x384 .f32)
  (w5 : Vec F S128x384 .f32) (w6 : Vec F S1x384 .f32) (w7 : Vec F S768x32 .f32) (w8 w9 : Vec F S1x32 .f32) (w10 : Vec F S1x1 .f32)
variable (E : Set ℕ)

/-- The state a point starts from: the reset one at the first point. -/
def St.start : St F := if isFirst i then St.zero else s

/-- The head of the body: it reads every accumulator, and returns the head's value of what they hold. -/
theorem part1_run (Q : FVec F S1024x1 .f32 → sProp 𝕄) :
    iprop(scr a12 a13 a14 a15 a16 a17 d s ∗ ow d a7 w7 ∗ ow d a8 w8 ∗ ow d a9 w9 ∗ ow d a10 w10
        ∗ (iprop(scr a12 a13 a14 a15 a16 a17 d s ∗ ow d a7 w7 ∗ ow d a8 w8 ∗ ow d a9 w9 ∗ ow d a10 w10) -∗ Q (s.head w7 w8 w9 w10)))
      ⊢ wp frame (wpE (defs₀ (F := F)) 𝒱₀ (d : Thread nD τ) none) E
          (k2_part1 i a1 h1 a2 h2 a3 h3 a4 h4 a5 h5 a6 h6 a7 h7 a8 h8 a9 h9 a10 h10 a11 h11 a12 h12 a13 h13 a14 h14 a15 h15 a16 h16 a17 h17) Q := by
  rw [k2_part1_eq_skeleton]
  unfold k2_part1_skel scr St.head
  iintro ⟨⟨H12, H13, H14, H15, H16, H17⟩, H7, H8, H9, H10, Hk⟩
  iapply (ld_ow d a12 (s.hf) _ _) $$ H12; iintro H12
  iapply (ld_ow d a13 (s.hb) _ _) $$ H13; iintro H13
  iapply (ld_ow d a14 (s.mf) _ _) $$ H14; iintro H14
  iapply (ld_ow d a15 (s.mb) _ _) $$ H15; iintro H15
  iapply (ld_ow d a16 (s.sf) _ _) $$ H16; iintro H16
  iapply (ld_ow d a17 (s.sb) _ _) $$ H17; iintro H17
  iapply (ld_ow d a7 (w7) _ _) $$ H7; iintro H7
  iapply (ld_ow d a8 (w8) _ _) $$ H8; iintro H8
  iapply (ld_ow d a9 (w9) _ _) $$ H9; iintro H9
  iapply (ld_ow d a10 (w10) _ _) $$ H10; iintro H10
  rw [wp_pure]
  imodintro
  iapply Hk
  isplitl [H12 H13 H14 H15 H16 H17]
  · isplitl [H12]; · iexact H12
    isplitl [H13]; · iexact H13
    isplitl [H14]; · iexact H14
    isplitl [H15]; · iexact H15
    isplitl [H16]; · iexact H16
    iexact H17
  isplitl [H7]; · iexact H7
  isplitl [H8]; · iexact H8
  isplitl [H9]; · iexact H9
  iexact H10

/-- The first part: the reset at the first point, and what the recurrence reads. -/
theorem part2_run (Q : (Σ' (_ : BitVec 32) (_ : FVec F S1024x128 .f32) (_ : FVec F S1024x384 .f32) (_ : Vec F S1024x128 .f32), FVec F S1024x384 .f32) → sProp 𝕄) :
    iprop(scr a12 a13 a14 a15 a16 a17 d s ∗ ow d a1 x1 ∗ ow d a2 x2 ∗ ow d a3 w3 ∗ ow d a4 w4 ∗ ow d a5 w5
        ∗ (iprop(scr a12 a13 a14 a15 a16 a17 d (St.start i s) ∗ ow d a1 x1 ∗ ow d a2 x2 ∗ ow d a3 w3 ∗ ow d a4 w4 ∗ ow d a5 w5)
            -∗ Q ⟨BitVec.ofNat 32 (i 0).val, k2_pay12 x1 (St.start i s).hf w3 w4, k2_pay13 x2, (St.start i s).hb, k2_pay14 (St.start i s).hb w5⟩))
      ⊢ wp frame (wpE (defs₀ (F := F)) 𝒱₀ (d : Thread nD τ) none) E
          (k2_part2 i a1 h1 a2 h2 a3 h3 a4 h4 a5 h5 a6 h6 a7 h7 a8 h8 a9 h9 a10 h10 a11 h11 a12 h12 a13 h13 a14 h14 a15 h15 a16 h16 a17 h17) Q := by
  rw [k2_part2_eq_skeleton]
  unfold k2_part2_skel
  by_cases hc : isFirst i
  · rw [show St.start i s = St.zero from if_pos hc]
    unfold St.zero
    dsimp only
    rw [dif_pos hc]
    unfold scr
    iintro ⟨⟨H12, H13, H14, H15, H16, H17⟩, H1, H2, H3, H4, H5, Hk⟩
    iapply (ld_ow d a12 (s.hf) _ _) $$ H12; iintro H12
    iapply (st_ow d a12 (s.hf) (k2_pay6) _ _ _) $$ H12; iintro H12
    iapply (ld_ow d a13 (s.hb) _ _) $$ H13; iintro H13
    iapply (st_ow d a13 (s.hb) (k2_pay7) _ _ _) $$ H13; iintro H13
    iapply (ld_ow d a16 (s.sf) _ _) $$ H16; iintro H16
    iapply (st_ow d a16 (s.sf) (k2_pay8) _ _ _) $$ H16; iintro H16
    iapply (ld_ow d a17 (s.sb) _ _) $$ H17; iintro H17
    iapply (st_ow d a17 (s.sb) (k2_pay9) _ _ _) $$ H17; iintro H17
    iapply (ld_ow d a14 (s.mf) _ _) $$ H14; iintro H14
    iapply (st_ow d a14 (s.mf) (k2_pay10) _ _ _) $$ H14; iintro H14
    iapply (ld_ow d a15 (s.mb) _ _) $$ H15; iintro H15
    iapply (st_ow d a15 (s.mb) (k2_pay11) _ _ _) $$ H15; iintro H15
    iapply (ld_ow d a1 (x1) _ _) $$ H1; iintro H1
    iapply (ld_ow d a12 (k2_pay6) _ _) $$ H12; iintro H12
    iapply (ld_ow d a3 (w3) _ _) $$ H3; iintro H3
    iapply (ld_ow d a4 (w4) _ _) $$ H4; iintro H4
    iapply (ld_ow d a2 (x2) _ _) $$ H2; iintro H2
    iapply (ld_ow d a13 (k2_pay7) _ _) $$ H13; iintro H13
    iapply (ld_ow d a5 (w5) _ _) $$ H5; iintro H5
    rw [wp_pure]
    imodintro
    iapply Hk
    isplitl [H12 H13 H14 H15 H16 H17]
    · isplitl [H12]; · iexact H12
      isplitl [H13]; · iexact H13
      isplitl [H14]; · iexact H14
      isplitl [H15]; · iexact H15
      isplitl [H16]; · iexact H16
      iexact H17
    isplitl [H1]; · iexact H1
    isplitl [H2]; · iexact H2
    isplitl [H3]; · iexact H3
    isplitl [H4]; · iexact H4
    iexact H5
  · rw [show St.start i s = s from if_neg hc]
    dsimp only
    rw [dif_neg hc]
    unfold scr
    iintro ⟨⟨H12, H13, H14, H15, H16, H17⟩, H1, H2, H3, H4, H5, Hk⟩
    iapply (ld_ow d a1 (x1) _ _) $$ H1; iintro H1
    iapply (ld_ow d a12 (s.hf) _ _) $$ H12; iintro H12
    iapply (ld_ow d a3 (w3) _ _) $$ H3; iintro H3
    iapply (ld_ow d a4 (w4) _ _) $$ H4; iintro H4
    iapply (ld_ow d a2 (x2) _ _) $$ H2; iintro H2
    iapply (ld_ow d a13 (s.hb) _ _) $$ H13; iintro H13
    iapply (ld_ow d a5 (w5) _ _) $$ H5; iintro H5
    rw [wp_pure]
    imodintro
    iapply Hk
    isplitl [H12 H13 H14 H15 H16 H17]
    · isplitl [H12]; · iexact H12
      isplitl [H13]; · iexact H13
      isplitl [H14]; · iexact H14
      isplitl [H15]; · iexact H15
      isplitl [H16]; · iexact H16
      iexact H17
    isplitl [H1]; · iexact H1
    isplitl [H2]; · iexact H2
    isplitl [H3]; · iexact H3
    isplitl [H4]; · iexact H4
    iexact H5

/-- The second part: the new hidden states and maxima stored. -/
theorem part3_run (v31 : FVec F S1024x128 .f32) (v33 : FVec F S1024x384 .f32) (v34 : Vec F S1024x128 .f32) (v37 : FVec F S1024x384 .f32)
    (Q : (Σ' (_ : FVec F S1024x128 .f32), Vec F S1024x128 .f32) → sProp 𝕄) :
    iprop(scr a12 a13 a14 a15 a16 a17 d s ∗ ow d a6 w6
        ∗ (iprop(scr a12 a13 a14 a15 a16 a17 d ⟨k2_pay16 v31, k2_pay17 v33 v34 v37 w6, k2_pay18 v31 s.mf, k2_pay19 v33 v34 v37 w6 s.mb, s.sf, s.sb⟩ ∗ ow d a6 w6)
            -∗ Q ⟨k2_pay15 v33 v34 v37 w6, s.sf⟩))
      ⊢ wp frame (wpE (defs₀ (F := F)) 𝒱₀ (d : Thread nD τ) none) E
          (k2_part3 i a1 h1 a2 h2 a3 h3 a4 h4 a5 h5 a6 h6 a7 h7 a8 h8 a9 h9 a10 h10 a11 h11 a12 h12 a13 h13 a14 h14 a15 h15 a16 h16 a17 h17 v31 v33 v34 v37) Q := by
  rw [k2_part3_eq_skeleton]
  unfold k2_part3_skel scr
  iintro ⟨⟨H12, H13, H14, H15, H16, H17⟩, H6, Hk⟩
  iapply (ld_ow d a6 (w6) _ _) $$ H6; iintro H6
  iapply (ld_ow d a12 (s.hf) _ _) $$ H12; iintro H12
  iapply (st_ow d a12 (s.hf) (k2_pay16 v31) _ _ _) $$ H12; iintro H12
  iapply (ld_ow d a13 (s.hb) _ _) $$ H13; iintro H13
  iapply (st_ow d a13 (s.hb) (k2_pay17 v33 v34 v37 w6) _ _ _) $$ H13; iintro H13
  iapply (ld_ow d a14 (s.mf) _ _) $$ H14; iintro H14
  iapply (ld_ow d a14 (s.mf) _ _) $$ H14; iintro H14
  iapply (st_ow d a14 (s.mf) (k2_pay18 v31 s.mf) _ _ _) $$ H14; iintro H14
  iapply (ld_ow d a15 (s.mb) _ _) $$ H15; iintro H15
  iapply (ld_ow d a15 (s.mb) _ _) $$ H15; iintro H15
  iapply (st_ow d a15 (s.mb) (k2_pay19 v33 v34 v37 w6 s.mb) _ _ _) $$ H15; iintro H15
  iapply (ld_ow d a16 (s.sf) _ _) $$ H16; iintro H16
  rw [wp_pure]
  imodintro
  iapply Hk
  isplitl [H12 H13 H14 H15 H16 H17]
  · isplitl [H12]; · iexact H12
    isplitl [H13]; · iexact H13
    isplitl [H14]; · iexact H14
    isplitl [H15]; · iexact H15
    isplitl [H16]; · iexact H16
    iexact H17
  iexact H6

/-- The body at a point: the state moves by one step (from the reset state at the first point), and the output is
    overwritten by the head's value at the last point only. -/
theorem body_run (X : Vec F S1024x1 .f32) (Q : PUnit → sProp 𝕄) :
    iprop(scr a12 a13 a14 a15 a16 a17 d s ∗ ow d a1 x1 ∗ ow d a2 x2 ∗ ow d a3 w3 ∗ ow d a4 w4 ∗ ow d a5 w5 ∗ ow d a6 w6 ∗ ow d a7 w7 ∗ ow d a8 w8 ∗ ow d a9 w9 ∗ ow d a10 w10 ∗ ow d a11 X
        ∗ (iprop(scr a12 a13 a14 a15 a16 a17 d ((St.start i s).step x1 x2 w3 w4 w5 w6) ∗ ow d a1 x1 ∗ ow d a2 x2 ∗ ow d a3 w3 ∗ ow d a4 w4 ∗ ow d a5 w5 ∗ ow d a6 w6 ∗ ow d a7 w7 ∗ ow d a8 w8 ∗ ow d a9 w9 ∗ ow d a10 w10
              ∗ ow d a11 (if k2_cond2 i = 1#1 then ((St.start i s).step x1 x2 w3 w4 w5 w6).head w7 w8 w9 w10 else X)) -∗ Q ⟨⟩))
      ⊢ wp frame (wpE (defs₀ (F := F)) 𝒱₀ (d : Thread nD τ) none) E
          (cc2__gru_kernel i a1 h1 a2 h2 a3 h3 a4 h4 a5 h5 a6 h6 a7 h7 a8 h8 a9 h9 a10 h10 a11 h11 a12 h12 a13 h13 a14 h14 a15 h15 a16 h16 a17 h17) Q := by
  rw [cc2__gru_kernel_eq_skeleton]
  unfold cc2__gru_kernel_skel
  generalize hS : (St.start i s).step x1 x2 w3 w4 w5 w6 = S'
  iintro ⟨Hs, H1, H2, H3, H4, H5, H6, H7, H8, H9, H10, H11, Hk⟩
  rw [wp_bind]
  iapply (part2_run (s := s) (x1 := x1) (x2 := x2) (w3 := w3) (w4 := w4) (w5 := w5))
  isplitl [Hs]; · iexact Hs
  isplitl [H1]; · iexact H1
  isplitl [H2]; · iexact H2
  isplitl [H3]; · iexact H3
  isplitl [H4]; · iexact H4
  isplitl [H5]; · iexact H5
  iintro ⟨Hs, H1, H2, H3, H4, H5⟩
  dsimp only
  rw [wp_bind]
  iapply (part3_run (s := St.start i s) (w6 := w6))
  isplitl [Hs]; · iexact Hs
  isplitl [H6]; · iexact H6
  iintro ⟨Hs, H6⟩
  dsimp only
  unfold scr
  icases Hs with ⟨H12, H13, H14, H15, H16, H17⟩
  iapply (ld_ow d a16 ((St.start i s).sf) _ _) $$ H16; iintro H16
  iapply (st_ow d a16 ((St.start i s).sf) (k2_pay1 (k2_pay12 x1 (St.start i s).hf w3 w4) (St.start i s).sf) _ _ _) $$ H16; iintro H16
  iapply (ld_ow d a17 ((St.start i s).sb) _ _) $$ H17; iintro H17
  iapply (ld_ow d a17 ((St.start i s).sb) _ _) $$ H17; iintro H17
  iapply (st_ow d a17 ((St.start i s).sb) (k2_pay2 (k2_pay15 (k2_pay13 x2) (St.start i s).hb (k2_pay14 (St.start i s).hb w5) w6) (St.start i s).sb) _ _ _) $$ H17; iintro H17
  ihave Hs : iprop(ow d a12 S'.hf ∗ ow d a13 S'.hb ∗ ow d a14 S'.mf ∗ ow d a15 S'.mb ∗ ow d a16 S'.sf ∗ ow d a17 S'.sb) $$ [H12 H13 H14 H15 H16 H17]
  · rw [← hS]
    unfold St.step
    dsimp only
    isplitl [H12]; · iexact H12
    isplitl [H13]; · iexact H13
    isplitl [H14]; · iexact H14
    isplitl [H15]; · iexact H15
    isplitl [H16]; · iexact H16
    iexact H17
  by_cases hc : k2_cond2 i = 1#1
  · rw [dif_pos hc, if_pos hc]
    simp only [bind_assoc, pure_bind]
    rw [wp_bind]
    iapply (part1_run (s := S') (w7 := w7) (w8 := w8) (w9 := w9) (w10 := w10))
    unfold scr
    isplitl [Hs]; · iexact Hs
    isplitl [H7]; · iexact H7
    isplitl [H8]; · iexact H8
    isplitl [H9]; · iexact H9
    isplitl [H10]; · iexact H10
    iintro ⟨Hs, H7, H8, H9, H10⟩
    iapply (ld_ow d a11 (X) _ _) $$ H11; iintro H11
    iapply (st_ow d a11 (X) (S'.head w7 w8 w9 w10) _ _ _) $$ H11; iintro H11
    rw [wp_pure]
    imodintro
    iapply Hk
    isplitl [Hs]; · iexact Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg hc, if_neg hc]
    simp only [pure_bind]
    rw [wp_pure]
    imodintro
    iapply Hk
    isplitl [Hs]; · iexact Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end R2

end Cert.Proof.Sc

end
-- ==== Proof.Region2.lean ====
/-
  The recurrent kernel's region: the proof data of its pipeline, whose invariant holds the six accumulators at the
  state of the steps done, and the region entered from any contents of the device's buffers and left with the head's
  value of the state after fifty steps in the result's buffer.
-/
module

public import proofs.«01_k».proof.Proof.Region1
public import proofs.«01_k».proof.Proof.Region2Body

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2)
open Idealize.ShloMosaic.Pipeline (Dat Cfg Window BodyObligation)

variable {F : FTy → Type} [FloatOps F] [Named F]

local notation "𝕄" => MT nD τ sig (HIx 1) (Elt F) ℕ UU ℕ

namespace R2

/-- The rows of step `n` read forward: rows `1024 n` on, columns 0 to 383. -/
def xf (A : Vec F S51200x768 .f32) (n : ℕ) : Vec F S1024x384 .f32 := fun y =>
  A (ix2 (n0 := 51200) (n1 := 768) ⟨(1024 * n + (y 0).val) % 51200, Nat.mod_lt _ (by decide)⟩ ⟨(y 1).val, Nat.lt_trans (show (y 1).val < 384 from (y 1).isLt) (by decide)⟩)

/-- The rows of step `n` read backward: rows `1024 (49 - n)` on, columns 384 to 767. -/
def xb (A : Vec F S51200x768 .f32) (n : ℕ) : Vec F S1024x384 .f32 := fun y =>
  A (ix2 (n0 := 51200) (n1 := 768) ⟨(1024 * (49 - n) + (y 0).val) % 51200, Nat.mod_lt _ (by decide)⟩ ⟨384 + (y 1).val, by have h : (y 1).val < 384 := (y 1).isLt; omega⟩)

/-- The state after `n` steps over the projected rows. -/
def state (A : Vec F S51200x768 .f32) (w3 : Vec F S128x384 .f32) (w4 : Vec F S1x384 .f32) (w5 : Vec F S128x384 .f32)
    (w6 : Vec F S1x384 .f32) : ℕ → St F
  | 0 => St.zero
  | n + 1 => St.step (xf A n) (xb A n) w3 w4 w5 w6 (state A w3 w4 w5 w6 n)

variable (V : Vals F)

/-- The state after `n` steps over the contents the region is entered at. -/
def stateAt (c : Dev nD) (n : ℕ) : St F := state (V c main_v23) (V c main_v14) (V c main_v16) (V c main_v15) (V c main_v17) n

/-- The head's value of the state after `n` steps. -/
def headAt (c : Dev nD) (n : ℕ) : Vec F S1024x1 .f32 :=
  (stateAt V c n).head (V c main_v18) (V c main_v19) (V c main_arg12) (V c main_v20)

/-- The blocks of the ten inputs at a point. -/
def blk0 (c : Dev nD) (t : Fin cfg2.N) : Vec F S1024x384 .f32 := ((cfg2.win 0).blk t).view.read (Elt F) (V c main_v23)
def blk1 (c : Dev nD) (t : Fin cfg2.N) : Vec F S1024x384 .f32 := ((cfg2.win 1).blk t).view.read (Elt F) (V c main_v23)
def blk2 (c : Dev nD) (t : Fin cfg2.N) : Vec F S128x384 .f32 := ((cfg2.win 2).blk t).view.read (Elt F) (V c main_v14)
def blk3 (c : Dev nD) (t : Fin cfg2.N) : Vec F S1x384 .f32 := ((cfg2.win 3).blk t).view.read (Elt F) (V c main_v16)
def blk4 (c : Dev nD) (t : Fin cfg2.N) : Vec F S128x384 .f32 := ((cfg2.win 4).blk t).view.read (Elt F) (V c main_v15)
def blk5 (c : Dev nD) (t : Fin cfg2.N) : Vec F S1x384 .f32 := ((cfg2.win 5).blk t).view.read (Elt F) (V c main_v17)
def blk6 (c : Dev nD) (t : Fin cfg2.N) : Vec F S768x32 .f32 := ((cfg2.win 6).blk t).view.read (Elt F) (V c main_v18)
def blk7 (c : Dev nD) (t : Fin cfg2.N) : Vec F S1x32 .f32 := ((cfg2.win 7).blk t).view.read (Elt F) (V c main_v19)
def blk8 (c : Dev nD) (t : Fin cfg2.N) : Vec F S1x32 .f32 := ((cfg2.win 8).blk t).view.read (Elt F) (V c main_arg12)
def blk9 (c : Dev nD) (t : Fin cfg2.N) : Vec F S1x1 .f32 := ((cfg2.win 9).blk t).view.read (Elt F) (V c main_v20)

theorem pt_lt (t : Fin cfg2.N) : t.val < 50 := N_2 ▸ t.isLt

theorem index0 : ∀ t : Fin grid2.N, win2_0.index t 0 = t.val ∧ win2_0.index t 1 = 0 := by decide +kernel
theorem index1 : ∀ t : Fin grid2.N, win2_1.index t 0 = 49 - t.val ∧ win2_1.index t 1 = 1 := by decide +kernel

theorem first_iff : ∀ t : Fin grid2.N, isFirst (grid2.coords t) ↔ t.val = 0 := by decide +kernel
theorem last_iff : ∀ t : Fin grid2.N, k2_cond2 (grid2.coords t) = 1#1 ↔ t.val = 49 := by decide +kernel

theorem blk0_eq (c : Dev nD) (t : Fin cfg2.N) : blk0 V c t = xf (V c main_v23) t.val := by
  funext y
  unfold blk0 xf
  rw [View.read_apply]
  show V c main_v23 _ = V c main_v23 _
  have ht := pt_lt t
  have h0 : (y 0).val < 1024 := (y 0).isLt
  congr 1
  funext a
  apply Fin.ext
  match a with
  | ⟨0, _⟩ => show win2_0.index t 0 * 1024 + 1 * (y 0).val = (1024 * t.val + (y 0).val) % 51200; rw [(index0 t).1]; omega
  | ⟨1, _⟩ => show win2_0.index t 1 * 384 + 1 * (y 1).val = (y 1).val; rw [(index0 t).2]; omega

theorem blk1_eq (c : Dev nD) (t : Fin cfg2.N) : blk1 V c t = xb (V c main_v23) t.val := by
  funext y
  unfold blk1 xb
  rw [View.read_apply]
  show V c main_v23 _ = V c main_v23 _
  have ht := pt_lt t
  have h0 : (y 0).val < 1024 := (y 0).isLt
  congr 1
  funext a
  apply Fin.ext
  match a with
  | ⟨0, _⟩ => show win2_1.index t 0 * 1024 + 1 * (y 0).val = (1024 * (49 - t.val) + (y 0).val) % 51200; rw [(index1 t).1]; omega
  | ⟨1, _⟩ => show win2_1.index t 1 * 384 + 1 * (y 1).val = 384 + (y 1).val; rw [(index1 t).2]; omega

theorem blk2_eq (c : Dev nD) (t : Fin cfg2.N) : blk2 V c t = V c main_v14 := by
  funext y
  unfold blk2
  rw [View.read_apply]
  show V c main_v14 _ = V c main_v14 _
  congr 1
  funext a
  apply Fin.ext
  match a with
  | ⟨0, _⟩ => show 0 * 128 + 1 * (y 0).val = (y 0).val; omega
  | ⟨1, _⟩ => show 0 * 384 + 1 * (y 1).val = (y 1).val; omega

theorem blk3_eq (c : Dev nD) (t : Fin cfg2.N) : blk3 V c t = V c main_v16 := by
  funext y
  unfold blk3
  rw [View.read_apply]
  show V c main_v16 _ = V c main_v16 _
  congr 1
  funext a
  apply Fin.ext
  match a with
  | ⟨0, _⟩ => show 0 * 1 + 1 * (y 0).val = (y 0).val; omega
  | ⟨1, _⟩ => show 0 * 384 + 1 * (y 1).val = (y 1).val; omega

theorem blk4_eq (c : Dev nD) (t : Fin cfg2.N) : blk4 V c t = V c main_v15 := by
  funext y
  unfold blk4
  rw [View.read_apply]
  show V c main_v15 _ = V c main_v15 _
  congr 1
  funext a
  apply Fin.ext
  match a with
  | ⟨0, _⟩ => show 0 * 128 + 1 * (y 0).val = (y 0).val; omega
  | ⟨1, _⟩ => show 0 * 384 + 1 * (y 1).val = (y 1).val; omega

theorem blk5_eq (c : Dev nD) (t : Fin cfg2.N) : blk5 V c t = V c main_v17 := by
  funext y
  unfold blk5
  rw [View.read_apply]
  show V c main_v17 _ = V c main_v17 _
  congr 1
  funext a
  apply Fin.ext
  match a with
  | ⟨0, _⟩ => show 0 * 1 + 1 * (y 0).val = (y 0).val; omega
  | ⟨1, _⟩ => show 0 * 384 + 1 * (y 1).val = (y 1).val; omega

theorem blk6_eq (c : Dev nD) (t : Fin cfg2.N) : blk6 V c t = V c main_v18 := by
  funext y
  unfold blk6
  rw [View.read_apply]
  show V c main_v18 _ = V c main_v18 _
  congr 1
  funext a
  apply Fin.ext
  match a with
  | ⟨0, _⟩ => show 0 * 768 + 1 * (y 0).val = (y 0).val; omega
  | ⟨1, _⟩ => show 0 * 32 + 1 * (y 1).val = (y 1).val; omega

theorem blk7_eq (c : Dev nD) (t : Fin cfg2.N) : blk7 V c t = V c main_v19 := by
  funext y
  unfold blk7
  rw [View.read_apply]
  show V c main_v19 _ = V c main_v19 _
  congr 1
  funext a
  apply Fin.ext
  match a with
  | ⟨0, _⟩ => show 0 * 1 + 1 * (y 0).val = (y 0).val; omega
  | ⟨1, _⟩ => show 0 * 32 + 1 * (y 1).val = (y 1).val; omega

theorem blk8_eq (c : Dev nD) (t : Fin cfg2.N) : blk8 V c t = V c main_arg12 := by
  funext y
  unfold blk8
  rw [View.read_apply]
  show V c main_arg12 _ = V c main_arg12 _
  congr 1
  funext a
  apply Fin.ext
  match a with
  | ⟨0, _⟩ => show 0 * 1 + 1 * (y 0).val = (y 0).val; omega
  | ⟨1, _⟩ => show 0 * 32 + 1 * (y 1).val = (y 1).val; omega

theorem blk9_eq (c : Dev nD) (t : Fin cfg2.N) : blk9 V c t = V c main_v20 := by
  funext y
  unfold blk9
  rw [View.read_apply]
  show V c main_v20 _ = V c main_v20 _
  congr 1
  funext a
  apply Fin.ext
  match a with
  | ⟨0, _⟩ => show 0 * 1 + 1 * (y 0).val = (y 0).val; omega
  | ⟨1, _⟩ => show 0 * 1 + 1 * (y 1).val = (y 1).val; omega

/-- The six staging buffers of the other kernel, at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The six accumulators' buffers at a state. -/
abbrev acc (c : Dev nD) (s : St F) : sProp 𝕄 :=
  scr (Memref.whole cc2_scratch0) (Memref.whole cc2_scratch1) (Memref.whole cc2_scratch2) (Memref.whole cc2_scratch3) (Memref.whole cc2_scratch4) (Memref.whole cc2_scratch5) c s

/-- The invariant before point `n`: the accumulators at the state of `n` steps, at anything before the first. -/
def Φc (c : Dev nD) (n : ℕ) : sProp 𝕄 := iprop(others c ∗ ∃ s : St F, ⌜n ≠ 0 → s = stateAt V c n⌝ ∗ acc c s)

theorem Φc_in (c : Dev nD) :
    (Pipeline.scopedRest (Ix := HIx 1) (Name := ℕ) (U := UU) (Lvl := ℕ) (Val := Elt F) spec2 c : sProp 𝕄) ⊢ Φc V c 0 := by
  rw [scopedRest2_eq]
  unfold Φc others acc scr
  iintro ⟨H0, H1, H2, H3, H4, H5, ⟨%f0, S0⟩, ⟨%f1, S1⟩, ⟨%f2, S2⟩, ⟨%f3, S3⟩, ⟨%f4, S4⟩, ⟨%f5, S5⟩⟩
  isplitl [H0 H1 H2 H3 H4 H5]
  · isplitl [H0]; · iexact H0
    isplitl [H1]; · iexact H1
    isplitl [H2]; · iexact H2
    isplitl [H3]; · iexact H3
    isplitl [H4]; · iexact H4
    iexact H5
  iexists (⟨f0, f1, f2, f3, f4, f5⟩ : St F)
  isplitr; · ipureintro; exact fun h => absurd rfl h
  isplitl [S0]; · iapply (BIBase.Entails.of_eq (owns_whole (c : Thread nD τ) cc2_scratch0 fullShare f0).symm) $$ S0
  isplitl [S1]; · iapply (BIBase.Entails.of_eq (owns_whole (c : Thread nD τ) cc2_scratch1 fullShare f1).symm) $$ S1
  isplitl [S2]; · iapply (BIBase.Entails.of_eq (owns_whole (c : Thread nD τ) cc2_scratch2 fullShare f2).symm) $$ S2
  isplitl [S3]; · iapply (BIBase.Entails.of_eq (owns_whole (c : Thread nD τ) cc2_scratch3 fullShare f3).symm) $$ S3
  isplitl [S4]; · iapply (BIBase.Entails.of_eq (owns_whole (c : Thread nD τ) cc2_scratch4 fullShare f4).symm) $$ S4
  iapply (BIBase.Entails.of_eq (owns_whole (c : Thread nD τ) cc2_scratch5 fullShare f5).symm) $$ S5

theorem Φc_out (c : Dev nD) (n : ℕ) :
    Φc V c n ⊢ (Pipeline.scopedRest (Ix := HIx 1) (Name := ℕ) (U := UU) (Lvl := ℕ) (Val := Elt F) spec2 c : sProp 𝕄) := by
  rw [scopedRest2_eq]
  unfold Φc others acc scr
  iintro ⟨⟨H0, H1, H2, H3, H4, H5⟩, %s, -, S0, S1, S2, S3, S4, S5⟩
  isplitl [H0]; · iexact H0
  isplitl [H1]; · iexact H1
  isplitl [H2]; · iexact H2
  isplitl [H3]; · iexact H3
  isplitl [H4]; · iexact H4
  isplitl [H5]; · iexact H5
  isplitl [S0]; · iexists s.hf; iapply (BIBase.Entails.of_eq (owns_whole (c : Thread nD τ) cc2_scratch0 fullShare s.hf)) $$ S0
  isplitl [S1]; · iexists s.hb; iapply (BIBase.Entails.of_eq (owns_whole (c : Thread nD τ) cc2_scratch1 fullShare s.hb)) $$ S1
  isplitl [S2]; · iexists s.mf; iapply (BIBase.Entails.of_eq (owns_whole (c : Thread nD τ) cc2_scratch2 fullShare s.mf)) $$ S2
  isplitl [S3]; · iexists s.mb; iapply (BIBase.Entails.of_eq (owns_whole (c : Thread nD τ) cc2_scratch3 fullShare s.mb)) $$ S3
  isplitl [S4]; · iexists s.sf; iapply (BIBase.Entails.of_eq (owns_whole (c : Thread nD τ) cc2_scratch4 fullShare s.sf)) $$ S4
  iexists s.sb; iapply (BIBase.Entails.of_eq (owns_whole (c : Thread nD τ) cc2_scratch5 fullShare s.sb)) $$ S5

/-- The region's proof data: the inputs left as fetched, the output at the head's value of the steps done. -/
def dat (c : Dev nD) : Dat τ (Elt F) (HIx 1) ℕ UU ℕ cfg2 c where
  A w := V c (Pipeline.arrRef spec2 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => blk8 V c t
    | ⟨9, _⟩ => blk9 V c t
    | ⟨10, _⟩ => headAt V c (t.val + 1)
  Φ t := Φc V c t.val
  q w := Pipeline.shareOf spec2 w
  owed _ := 0
  recorded _ := lowPairs (F := F) c

/-- This region's proof data beside none for the other pipeline. -/
def pdats : (p : Fin 2) → (c : Dev nD) → Dat τ (Elt F) (HIx 1) ℕ UU ℕ (Pipeline.pin (pcfgs (F := F)) adm p) c
  | ⟨0, _⟩ => fun c => noDat c
  | ⟨1, _⟩ => fun c => dat V c

theorem before0 (c : Dev nD) (t : Fin cfg2.N) (d) : (dat V c).before 0 t d = blk0 V c t :=
  Dat.before_in_eq_fetched (dat V c) 0 rfl (fun _ => rfl) (fun _ _ _ => rfl) (fun _ => rfl) t d
theorem before1 (c : Dev nD) (t : Fin cfg2.N) (d) : (dat V c).before 1 t d = blk1 V c t :=
  Dat.before_in_eq_fetched (dat V c) 1 rfl (fun _ => rfl) (fun _ _ _ => rfl) (fun _ => rfl) t d
theorem before2 (c : Dev nD) (t : Fin cfg2.N) (d) : (dat V c).before 2 t d = blk2 V c t :=
  Dat.before_in_eq_fetched (dat V c) 2 rfl (fun _ => rfl) (fun _ _ _ => rfl) (fun _ => rfl) t d
theorem before3 (c : Dev nD) (t : Fin cfg2.N) (d) : (dat V c).before 3 t d = blk3 V c t :=
  Dat.before_in_eq_fetched (dat V c) 3 rfl (fun _ => rfl) (fun _ _ _ => rfl) (fun _ => rfl) t d
theorem before4 (c : Dev nD) (t : Fin cfg2.N) (d) : (dat V c).before 4 t d = blk4 V c t :=
  Dat.before_in_eq_fetched (dat V c) 4 rfl (fun _ => rfl) (fun _ _ _ => rfl) (fun _ => rfl) t d
theorem before5 (c : Dev nD) (t : Fin cfg2.N) (d) : (dat V c).before 5 t d = blk5 V c t :=
  Dat.before_in_eq_fetched (dat V c) 5 rfl (fun _ => rfl) (fun _ _ _ => rfl) (fun _ => rfl) t d
theorem before6 (c : Dev nD) (t : Fin cfg2.N) (d) : (dat V c).before 6 t d = blk6 V c t :=
  Dat.before_in_eq_fetched (dat V c) 6 rfl (fun _ => rfl) (fun _ _ _ => rfl) (fun _ => rfl) t d
theorem before7 (c : Dev nD) (t : Fin cfg2.N) (d) : (dat V c).before 7 t d = blk7 V c t :=
  Dat.before_in_eq_fetched (dat V c) 7 rfl (fun _ => rfl) (fun _ _ _ => rfl) (fun _ => rfl) t d
theorem before8 (c : Dev nD) (t : Fin cfg2.N) (d) : (dat V c).before 8 t d = blk8 V c t :=
  Dat.before_in_eq_fetched (dat V c) 8 rfl (fun _ => rfl) (fun _ _ _ => rfl) (fun _ => rfl) t d
theorem before9 (c : Dev nD) (t : Fin cfg2.N) (d) : (dat V c).before 9 t d = blk9 V c t :=
  Dat.before_in_eq_fetched (dat V c) 9 rfl (fun _ => rfl) (fun _ _ _ => rfl) (fun _ => rfl) t d

theorem start_eq (c : Dev nD) (t : Fin cfg2.N) (s : St F) (h : t.val ≠ 0 → s = stateAt V c t.val) :
    St.start (grid2.coords t) s = stateAt V c t.val := by
  unfold St.start
  by_cases h0 : t.val = 0
  · rw [if_pos ((first_iff t).mpr h0), h0]; rfl
  · rw [if_neg fun hc => h0 ((first_iff t).mp hc), h h0]

/-- At every point the body runs from what the pipeline hands it to what the proof data state. -/
theorem body_obligation (c : Dev nD) : BodyObligation (dat V c) (defs₀ (F := F)) 𝒱₀ (none : HIx 1) Set.univ := fun t => by
  rw [bigSep_W2, bigSep_W2]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨Ho, %s, %hs, Hs⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0, before1, before2, before3, before4, before5, before6, before7, before8, before9]
  have hst := start_eq V c t s hs
  have hstep : (St.start (grid2.coords t) s).step (blk0 V c t) (blk1 V c t) (blk2 V c t) (blk3 V c t) (blk4 V c t) (blk5 V c t)
      = stateAt V c (t.val + 1) := by
    rw [hst, blk0_eq, blk1_eq, blk2_eq, blk3_eq, blk4_eq, blk5_eq]; rfl
  have hhead : (stateAt V c (t.val + 1)).head (blk6 V c t) (blk7 V c t) (blk8 V c t) (blk9 V c t) = headAt V c (t.val + 1) := by
    rw [blk6_eq, blk7_eq, blk8_eq, blk9_eq]; rfl
  iapply (body_run (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) (st2_9 t) (hstage2_9 ((cfg2.slots t 9).cast nbuf2_9)) (st2_10 t) (hstage2_10 ((cfg2.slots t 10).cast nbuf2_10))
    (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) c (grid2.coords t) s
    (blk0 V c t) (blk1 V c t) (blk2 V c t) (blk3 V c t) (blk4 V c t) (blk5 V c t) (blk6 V c t) (blk7 V c t) (blk8 V c t) (blk9 V c t) Set.univ ((dat V c).before 10 t d10) _)
  rw [hstep, hhead]
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨Hs, H0, H1, H2, H3, H4, H5, H6, H7, H8, H9, H10⟩
  isplitl [Ho Hs]
  · isplitl [Ho]; · iexact Ho
    iexists (stateAt V c (t.val + 1))
    isplitr; · ipureintro; exact fun _ => rfl
    iexact Hs
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  by_cases hc : k2_cond2 (grid2.coords t) = 1#1
  · rw [if_pos hc, show cfg2.idle 10 (cfg2.grid.coords t) = false from by
      show (!(k2_cond2 (grid2.coords t) == 1#1)) = false
      rw [hc]; rfl]
    iexact H10
  · rw [if_neg hc, show cfg2.idle 10 (cfg2.grid.coords t) = true from by
      show (!(k2_cond2 (grid2.coords t) == 1#1)) = true
      rw [beq_false_of_ne hc]; rfl,
      show (cfg2.win 10).flush t = false from Bool.eq_false_iff.mpr fun hf => hc ((last_iff t).mpr (by have := (flush2_10 t).mp hf; have := pt_lt t; omega))]
    iexists d10
    iexact H10

/-- The result's array after the region. -/
def out (c : Dev nD) : Buf (Elt F) ((c : Thread nD τ).loc main_v24) := (dat V c).arrAt 10 cfg2.N

/-- The region's result: the head's value of the state after fifty steps. -/
theorem out_eq (c : Dev nD) : out V c = headAt V c 50 :=
  (dat V c).arrAt_eq_of_cover 10 (headAt V c 50)
    (fun t hf => by
      have h49 : t.val = 49 := by have := (flush2_10 t).mp hf; have := pt_lt t; omega
      show headAt V c (t.val + 1) = _
      rw [h49]
      funext y
      rw [View.read_apply]
      show headAt V c 50 y = headAt V c 50 _
      congr 1
      funext a
      apply Fin.ext
      match a with
      | ⟨0, _⟩ => show (y 0).val = 0 * 1024 + 1 * (y 0).val; omega
      | ⟨1, _⟩ => show (y 1).val = 0 * 1 + 1 * (y 1).val; omega)
    fun i => by
      have h0 : (i 0 : Nat) < 1024 := (i 0).isLt
      have h1 : (i 1 : Nat) < 1 := (i 1).isLt
      have hp : 49 < grid2.N := by rw [N_2]; omega
      refine ⟨⟨49, hp⟩, (flush2_10 _).mpr rfl, ?_⟩
      show i ∈ ((View.whole main_v24).slice (win2_10.rect ⟨49, hp⟩)).set
      rw [View.set_slice_whole, Rect.mem_set_unit]
      intro a
      match a with
      | ⟨0, _⟩ => show 0 * 1024 ≤ (i 0 : Nat) ∧ (i 0 : Nat) < 0 * 1024 + 1024; omega
      | ⟨1, _⟩ => show 0 * 1 ≤ (i 1 : Nat) ∧ (i 1 : Nat) < 0 * 1 + 1; omega

variable (Vp : Vals F)

set_option backward.isDefEq.respectTransparency.types false in
/-- The region entered with every unscoped buffer at `V` and left with them at `Vp`: `V` but for the result's buffer. -/
def reg (R : Dev nD → sProp 𝕄) (hVp_out : ∀ c, Vp c main_v24 = out V c)
    (hVp_ne : ∀ c (b : Ref sig .tc), b ≠ main_v24 → Vp c b = V c b) :
    Pipeline.RegionSeg (pcfgs (F := F)) adm (pdats V) (none : HIx 1) defs₀ 𝒱₀ (K (F := F)).L (K (F := F)).lev 1 where
  win := winFacts₀2
  block_pos := block_pos2
  stage_whole := stage_whole2
  K := PEmpty
  osem k := k.elim
  ho := Pipeline.OwnSemFacts.none _
  hbody c := (body_obligation V c).loose
  hwaits := Pipeline.hwaits_of_owed_zero _ _ _ _ _ _ 1 fun _ _ => rfl
  pre c := iprop(unscopedBufs c (V c) ∗ R c ∗ lowOwes c)
  post c := iprop(unscopedBufs c (Vp c) ∗ R c ∗ lowOwes c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs_shared (p := 1) (pcfgs (F := F)) adm (pdats V) winFacts₀2 sharedIn2 arr_whole2 c
      (fun _ _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_low c _) $$ HO
    isplitr; · iempintro
    isplitl [Hrest] <;> iassumption
  hin c := by
    rw [show (pdats V 1 c).Φ 0 = Φc V c 0 from rfl]
    iintro ⟨-, -, Hr⟩; iapply (Φc_in V c) $$ Hr
  hout c := by
    rw [Pipeline.ownSems0_none, show (pdats V 1 c).Φ (Fin.last _) = Φc V c cfg2.N from rfl]
    iintro Hr
    isplitr; · iempintro
    isplitr; · iempintro
    iapply (Φc_out V c _) $$ Hr
  hexit c := by
    have hjoin := Pipeline.unscopedBufs_of_arrays_shared (p := 1) (pcfgs (F := F)) adm (Ix := HIx 1) (Name := ℕ) (U := UU) (Lvl := ℕ) winFacts₀2
      sharedIn2 arr_whole2 c (pdats V) (fun _ _ => rfl) (V c) (Vp c) ((pdats V 1 c).arrAt · cfg2.N)
      (fun w => by
        fin_cases w
        · exact ((pdats V 1 c).arrAt_in 0 rfl _).trans (hVp_ne c main_v23 (by decide)).symm
        · exact ((pdats V 1 c).arrAt_in 1 rfl _).trans (hVp_ne c main_v23 (by decide)).symm
        · exact ((pdats V 1 c).arrAt_in 2 rfl _).trans (hVp_ne c main_v14 (by decide)).symm
        · exact ((pdats V 1 c).arrAt_in 3 rfl _).trans (hVp_ne c main_v16 (by decide)).symm
        · exact ((pdats V 1 c).arrAt_in 4 rfl _).trans (hVp_ne c main_v15 (by decide)).symm
        · exact ((pdats V 1 c).arrAt_in 5 rfl _).trans (hVp_ne c main_v17 (by decide)).symm
        · exact ((pdats V 1 c).arrAt_in 6 rfl _).trans (hVp_ne c main_v18 (by decide)).symm
        · exact ((pdats V 1 c).arrAt_in 7 rfl _).trans (hVp_ne c main_v19 (by decide)).symm
        · exact ((pdats V 1 c).arrAt_in 8 rfl _).trans (hVp_ne c main_arg12 (by decide)).symm
        · exact ((pdats V 1 c).arrAt_in 9 rfl _).trans (hVp_ne c main_v20 (by decide)).symm
        · exact (hVp_out c).symm)
      (fun b hb => hVp_ne c b fun h => hb (h ▸ Finset.mem_image.mpr ⟨10, Finset.mem_univ _, rfl⟩))
    iintro ⟨Ha, HO, -, Hrest, HR⟩
    imodintro
    isplitl [Ha Hrest]
    · iapply hjoin; isplitl [Ha] <;> iassumption
    isplitl [HR]; · iexact HR
    iapply (show ((pdats V 1 c).owesAt none (Fin.last _) : sProp 𝕄) ⊢ lowOwes c from low_of_owesAt c _ rfl cfg2) $$ HO

end R2

end Cert.Proof.Sc

end
-- ==== Proof.Main.lean ====
/-
  The whole program on its TensorCore: the operations before the SparseCore call, the call, the reshape of the gathered
  rows, the two kernels. What each leaves is a valuation of the device's buffers, one per step.
-/
module

public import proofs.«01_k».proof.Proof.ScLaunch
public import proofs.«01_k».proof.Proof.Region1
public import proofs.«01_k».proof.Proof.Region2
public import Idealize.ShloMosaic.Lib.Pipeline.FrameTail

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held after seq seqK seq_bind_seqK launchContents wp_seq held_sub_split held_congr)

variable {F : FTy → Type} [FloatOps F] [Named F]

local notation "𝕄" => MT nD τ sig (HIx 1) (Elt F) ℕ UU ℕ

/-- A TensorCore reference as a device buffer. -/
abbrev dr (b : Ref sig .tc) : DevRef τ sig := Proc.devRef .tc b

/-- The operations before the SparseCore call. -/
def ops1 : List (HloOp τ sig (Elt F)) :=
  [ StableHlo.unary main_arg0 main_v0 ((transpose S50x1024x26 [2, 1, 0] · transposes_S26x1024x50_S50x1024x26_2_1_0) : (⟨S26x1024x50, .i32⟩ : BufTy).Contents (Elt F) → (⟨S50x1024x26, .i32⟩ : BufTy).Contents (Elt F)),
    StableHlo.reshape main_v0 main_v1 (rfl : (.i32 : EltTy) = .i32) shapeCasts_S50x1024x26_S51200x26,
    StableHlo.nullary main_v2 (iotaInDim S26 32 0),
    StableHlo.unary main_v2 main_v3 (broadcastInDim S1x26 ![1] bcast_S26_S1x26_1 : (⟨S26, .i32⟩ : BufTy).Contents (Elt F) → (⟨S1x26, .i32⟩ : BufTy).Contents (Elt F)),
    StableHlo.nullary main_c (constantI S_ 32 101#32),
    StableHlo.unary main_c main_v4 (broadcastInDim S1x26 ![] bcast_S_S1x26 : (⟨S_, .i32⟩ : BufTy).Contents (Elt F) → (⟨S1x26, .i32⟩ : BufTy).Contents (Elt F)),
    StableHlo.binary main_v4 main_v3 main_v5 (muli : (⟨S1x26, .i32⟩ : BufTy).Contents (Elt F) → (⟨S1x26, .i32⟩ : BufTy).Contents (Elt F) → (⟨S1x26, .i32⟩ : BufTy).Contents (Elt F)),
    StableHlo.unary main_v5 main_v6 (broadcastInDim S51200x26 ![0, 1] bcast_S1x26_S51200x26_0_1 : (⟨S1x26, .i32⟩ : BufTy).Contents (Elt F) → (⟨S51200x26, .i32⟩ : BufTy).Contents (Elt F)),
    StableHlo.binary main_v1 main_v6 main_v7 (addi : (⟨S51200x26, .i32⟩ : BufTy).Contents (Elt F) → (⟨S51200x26, .i32⟩ : BufTy).Contents (Elt F) → (⟨S51200x26, .i32⟩ : BufTy).Contents (Elt F)),
    StableHlo.reshape main_v7 main_v8 (rfl : (.i32 : EltTy) = .i32) shapeCasts_S51200x26_S1331200,
    StableHlo.reshape main_arg1 main_v9 (rfl : (.f32 : EltTy) = .f32) shapeCasts_S26x101x8_S21008,
    StableHlo.binary main_arg2 main_arg6 main_v10 ((fun a b => concatenate S768x208 0 [⟨S384x208, a⟩, ⟨S384x208, b⟩] concatenates_S384x208_S384x208_S768x208_d0) : (⟨S384x208, .f32⟩ : BufTy).Contents (Elt F) → (⟨S384x208, .f32⟩ : BufTy).Contents (Elt F) → (⟨S768x208, .f32⟩ : BufTy).Contents (Elt F)),
    StableHlo.unary main_v10 main_v11 ((transpose S208x768 [1, 0] · transposes_S768x208_S208x768_1_0) : (⟨S768x208, .f32⟩ : BufTy).Contents (Elt F) → (⟨S208x768, .f32⟩ : BufTy).Contents (Elt F)),
    StableHlo.binary main_arg4 main_arg8 main_v12 ((fun a b => concatenate S768 0 [⟨S384, a⟩, ⟨S384, b⟩] concatenates_S384_S384_S768_d0) : (⟨S384, .f32⟩ : BufTy).Contents (Elt F) → (⟨S384, .f32⟩ : BufTy).Contents (Elt F) → (⟨S768, .f32⟩ : BufTy).Contents (Elt F)),
    StableHlo.reshape main_v12 main_v13 (rfl : (.f32 : EltTy) = .f32) shapeCasts_S768_S1x768,
    StableHlo.unary main_arg3 main_v14 ((transpose S128x384 [1, 0] · transposes_S384x128_S128x384_1_0) : (⟨S384x128, .f32⟩ : BufTy).Contents (Elt F) → (⟨S128x384, .f32⟩ : BufTy).Contents (Elt F)),
    StableHlo.unary main_arg7 main_v15 ((transpose S128x384 [1, 0] · transposes_S384x128_S128x384_1_0) : (⟨S384x128, .f32⟩ : BufTy).Contents (Elt F) → (⟨S128x384, .f32⟩ : BufTy).Contents (Elt F)),
    StableHlo.reshape main_arg5 main_v16 (rfl : (.f32 : EltTy) = .f32) shapeCasts_S384_S1x384,
    StableHlo.reshape main_arg9 main_v17 (rfl : (.f32 : EltTy) = .f32) shapeCasts_S384_S1x384,
    StableHlo.unary main_arg10 main_v18 ((transpose S768x32 [1, 0] · transposes_S32x768_S768x32_1_0) : (⟨S32x768, .f32⟩ : BufTy).Contents (Elt F) → (⟨S768x32, .f32⟩ : BufTy).Contents (Elt F)),
    StableHlo.reshape main_arg11 main_v19 (rfl : (.f32 : EltTy) = .f32) shapeCasts_S32_S1x32,
    StableHlo.reshape main_arg13 main_v20 (rfl : (.f32 : EltTy) = .f32) shapeCasts_S1_S1x1 ]

/-- The reshape of the gathered rows. -/
def ops2 : List (HloOp τ sig (Elt F)) := [ StableHlo.reshape main_v21 main_v22 (rfl : (.f32 : EltTy) = .f32) shapeCasts_S10649600_S51200x208 ]

theorem ops1_bufs : ∀ op ∈ (ops1 (F := F)), op.bufs ⊆ Pipeline.ucRefs τ sig := by
  intro op h
  refine Pipeline.sub_ucRefs op ?_
  revert op
  rw [← List.forall_iff_forall_mem]
  unfold ops1
  simp only [List.forall_cons, List.Forall, StableHlo.unary_bufs_sub, StableHlo.nullary_bufs_sub, StableHlo.binary_bufs_sub, StableHlo.reshape_bufs_sub, and_self]

theorem ops1_fresh : ∀ op ∈ (ops1 (F := F)), op.fresh = ∅ := by
  rw [← List.forall_iff_forall_mem]
  exact StableHlo.forall_fresh_of_map rfl

theorem ops2_bufs : ∀ op ∈ (ops2 (F := F)), op.bufs ⊆ Pipeline.ucRefs τ sig := by
  intro op h
  refine Pipeline.sub_ucRefs op ?_
  obtain rfl := List.mem_singleton.mp h
  exact StableHlo.reshape_bufs_sub ..

theorem ops2_fresh : ∀ op ∈ (ops2 (F := F)), op.fresh = ∅ := by
  rw [← List.forall_iff_forall_mem]
  exact StableHlo.forall_fresh_of_map rfl

/-! ## The contents after each step -/

variable (m : (ℓ : Loc nD τ sig) → Buf (Elt F) ℓ)

def V1 (d : Dev nD) : Valuation τ sig (Elt F) := after ops1 (launchContents m d)
/-- The table the SparseCore call reads. -/
def tab (d : Dev nD) : Vec F S21008 .f32 := V1 m d (dr main_v9)
/-- The row numbers the SparseCore call reads. -/
def ind (d : Dev nD) : IVec S1331200 32 := V1 m d (dr main_v8)
/-- What its result's buffer holds before. -/
def old (d : Dev nD) : Vec F S10649600 .f32 := V1 m d (dr main_v21)
def V2 (d : Dev nD) : Valuation τ sig (Elt F) := Function.update (V1 m d) (dr main_v21) (gather (tab m d) (ind m d))
def V3 (d : Dev nD) : Valuation τ sig (Elt F) := after ops2 (V2 m d)
/-- A valuation of each device as the contents of its references. -/
def vals (V : Dev nD → Valuation τ sig (Elt F)) : Vals F := fun c b => V c (dr b)
def V4 (d : Dev nD) : Valuation τ sig (Elt F) := Function.update (V3 m d) (dr main_v23) (R1.out (vals (V3 m)) d)
def V5 (d : Dev nD) : Valuation τ sig (Elt F) := Function.update (V4 m d) (dr main_v24) (R2.out (vals (V4 m)) d)

theorem dr_inj {a b : Ref sig .tc} (h : a ≠ b) : dr a ≠ dr b := StableHlo.devRef_ne_of_ne h

/-- The two regions' steps. -/
abbrev reg1 := R1.reg (vals (V3 m)) (vals (V4 m)) (fun _ => BI.emp) (fun c => by unfold vals V4; exact Function.update_self ..)
  (fun c b hb => by unfold vals V4; exact Function.update_of_ne (dr_inj hb) ..)
abbrev reg2 := R2.reg (vals (V4 m)) (vals (V5 m)) (fun _ => BI.emp) (fun c => by unfold vals V5; exact Function.update_self ..)
  (fun c b hb => by unfold vals V5; exact Function.update_of_ne (dr_inj hb) ..)

/-! ## The SparseCore call's three arrays among the buffers held -/

def three : Finset (DevRef τ sig) := {dr main_v9, dr main_v8, dr main_v21}

theorem three_sub : three ⊆ Pipeline.ucRefs τ sig := by
  intro b hb
  rcases Finset.mem_insert.mp hb with rfl | hb
  · exact Pipeline.devRef_mem_ucRefs rfl
  rcases Finset.mem_insert.mp hb with rfl | hb
  · exact Pipeline.devRef_mem_ucRefs rfl
  · rw [Finset.mem_singleton.mp hb]; exact Pipeline.devRef_mem_ucRefs rfl

theorem held_three (d : Dev nD) (V : Valuation τ sig (Elt F)) :
    (held (d : Thread nD τ) three V : sProp 𝕄)
      = iprop((tLoc d ↦{fullShare} V (dr main_v9)) ∗ (iLoc d ↦{fullShare} V (dr main_v8)) ∗ (oLoc d ↦{fullShare} V (dr main_v21))) := by
  unfold held three
  rw [SparseCore.bigSep_insert' (by decide), SparseCore.bigSep_insert' (by decide), BI.bigSep_singleton]

theorem before_call (d : Dev nD) : (held (d : Thread nD τ) (Pipeline.ucRefs τ sig) (V1 m d) : sProp 𝕄)
    = iprop(allAt (tab m) (ind m) d (old m d) ∗ held (d : Thread nD τ) (Pipeline.ucRefs τ sig \ three) (V1 m d)) := by
  rw [held_sub_split _ three_sub, held_three]
  rfl

theorem after_call (d : Dev nD) : iprop(allAt (tab m) (ind m) d (gather (tab m d) (ind m d)) ∗ held (d : Thread nD τ) (Pipeline.ucRefs τ sig \ three) (V1 m d))
    = (held (d : Thread nD τ) (Pipeline.ucRefs τ sig) (V2 m d) : sProp 𝕄) := by
  rw [held_sub_split _ three_sub (V2 m d), held_three,
    held_congr (c := (d : Thread nD τ)) (S := Pipeline.ucRefs τ sig \ three) (V := V1 m d) (V' := V2 m d) (fun b hb => by
      unfold V2; rw [Function.update_of_ne]
      rintro rfl
      exact (Finset.mem_sdiff.mp hb).2 (by unfold three; simp))]
  unfold V2
  rw [Function.update_self, Function.update_of_ne (dr_inj (by decide)), Function.update_of_ne (dr_inj (by decide))]
  rfl

/-! ## The state between the calls -/

/-- After the SparseCore call the TensorCore owes nothing and its waits are at low levels; that state can be taken out and put back. -/
theorem tcSt_low (d : Dev nD) : ((K (F := F)).tcSt EH d 1 : sProp 𝕄)
    ⊢ iprop(lowOwes (F := F) d ∗ (lowOwes (F := F) d -∗ (K (F := F)).tcSt EH d 1)) := by
  unfold SparseCore.Cfg.tcSt lowOwes Pipeline.owesWithin
  rw [(K (F := F)).Otc_end d (Nat.le_refl 1)]
  iintro ⟨⟨%W, %hW, HO⟩, Hrest⟩
  isplitl [HO]
  · iexists W; isplitr; · ipureintro; exact fun p hp => hW p hp
    iexact HO
  iintro ⟨%W', %hW', HO⟩
  isplitl [HO]
  · iexists W'; isplitr; · ipureintro; exact fun p hp => hW' hp
    iexact HO
  iexact Hrest

/-! ## The ghost state of the two pipelines -/

abbrev pins := Pipeline.pin (pcfgs (F := F)) adm

def G (d : Dev nD) : sProp 𝕄 :=
  iprop((bigSep Finset.univ fun p => Pipeline.cellsGhost (pins (F := F)) EP p d) ∗ (bigSep Finset.univ fun p => Pipeline.toksInit (pins (F := F)) EP p d))

theorem G_eq (d : Dev nD) : (G (F := F) d : sProp 𝕄)
    = iprop((Pipeline.cellsGhost (pins (F := F)) EP 0 d ∗ Pipeline.cellsGhost (pins (F := F)) EP 1 d)
        ∗ (Pipeline.toksInit (pins (F := F)) EP 0 d ∗ Pipeline.toksInit (pins (F := F)) EP 1 d)) := by
  unfold G
  rw [show (Finset.univ : Finset (Fin 2)) = {0, 1} from rfl, SparseCore.bigSep_insert' (by decide), BI.bigSep_singleton,
    SparseCore.bigSep_insert' (by decide), BI.bigSep_singleton]

/-- Every buffer of the device that is not scoped, at its last contents. -/
def FIN (d : Dev nD) : sProp 𝕄 := held (d : Thread nD τ) (Pipeline.ucRefs τ sig) (V5 m d)

theorem uc_vals (d : Dev nD) (V : Dev nD → Valuation τ sig (Elt F)) :
    (unscopedBufs d (vals V d) : sProp 𝕄) = held (d : Thread nD τ) (Pipeline.ucRefs τ sig) (V d) :=
  Pipeline.unscopedBufs_held d (V d)

variable (ρ : Dev nD → PrngReg)

/-- One region entered from the program around the SparseCore call. -/
theorem region_wp {p : Fin 2} {pd : (p : Fin 2) → (c : Dev nD) → Pipeline.Dat τ (Elt F) (HIx 1) ℕ UU ℕ (pins (F := F) p) c}
    (R : Pipeline.RegionSeg (pcfgs (F := F)) adm pd (none : HIx 1) defs₀ 𝒱₀ (K (F := F)).L (K (F := F)).lev p) (d : Dev nD)
    (A B : sProp 𝕄) (hA : A ⊢ R.pre d) (hB : R.post d ⊢ B) (Q : PUnit → sProp 𝕄) :
    iprop((iprop(boundary (d : Thread nD τ) ∗ B) -∗ Q ⟨⟩) ∗ boundary (d : Thread nD τ) ∗ A ∗ levAts (K (F := F)).L (K (F := F)).lev
        ∗ Pipeline.cellsGhost (pins (F := F)) EP p d ∗ Pipeline.toksInit (pins (F := F)) EP p d)
      ⊢ wp frame (wpE ((K (F := F)).defs (D (F := F))) 𝒱 (d : Thread nD τ) none) Set.univ
          (Prog.lift (.customCall (SparseCore.inner (Pipeline.entry p)) ())) Q := by
  refine BI.BIBase.Entails.trans ?_ ((K (F := F)).wp_liftProg (D (F := F)) 𝒱 (d : Thread nD τ) Set.univ none
    (Prog.lift (.customCall (Pipeline.entry p) ())) Q)
  refine BI.BIBase.Entails.trans ?_ (Pipeline.RegionSeg.wp (pcfgs (F := F)) adm pd (none : HIx 1) cellOf_inj EP defs₀ 𝒱₀ (K (F := F)).L (K (F := F)).lev R d none
    (fun _ h => nomatch h) (fun x => .ret x) Q)
  iintro ⟨HQ, Hb, HA, Hrest⟩
  isplitl [HQ]
  · rw [wp_ret]
    iintro ⟨Hb, HR⟩
    imodintro
    iapply HQ
    isplitl [Hb]; · iexact Hb
    iapply hB; iexact HR
  isplitl [Hb]; · iexact Hb
  isplitl [HA]; · iapply hA; iexact HA
  iexact Hrest

/-- The buffers held, and what is owed, are what a region is entered with and what it leaves. -/
theorem uc_low (d : Dev nD) (V : Dev nD → Valuation τ sig (Elt F)) :
    (iprop(held (d : Thread nD τ) (Pipeline.ucRefs τ sig) (V d) ∗ lowOwes (F := F) d) : sProp 𝕄)
      ⊢ iprop(unscopedBufs d (vals V d) ∗ BI.emp ∗ lowOwes (F := F) d) := by
  rw [uc_vals]
  iintro ⟨H, HO⟩
  isplitl [H]; · iexact H
  isplitr; · iempintro
  iexact HO

theorem low_uc (d : Dev nD) (V : Dev nD → Valuation τ sig (Elt F)) :
    (iprop(unscopedBufs d (vals V d) ∗ BI.emp ∗ lowOwes (F := F) d) : sProp 𝕄)
      ⊢ iprop(held (d : Thread nD τ) (Pipeline.ucRefs τ sig) (V d) ∗ lowOwes (F := F) d) := by
  rw [uc_vals]
  iintro ⟨H, -, HO⟩
  isplitl [H] <;> iassumption

theorem hmain (κ : GSem nD τ sig → ℕ) (d : Dev nD) :
    iprop((K (F := F)).ctx EH (P (tab m) (ind m) (old m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) (Pipeline.ucRefs τ sig) (launchContents m d) from
    Pipeline.unscopedBufs_held d (launchContents m d), G_eq]
  rw [show main (F := F) d = seqK ops1 (do
      sc.run d 0
      seqK ops2 (do
        Prog.lift (.customCall (SparseCore.inner (Pipeline.entry 0)) ())
        Prog.lift (.customCall (SparseCore.inner (Pipeline.entry 1)) ())
        pure ⟨⟩)) from rfl, ← seq_bind_seqK]
  iintro ⟨#Hctx, Hst, ⟨Hb, Hbufs, Hts, -⟩, ⟨Hc0, Hc1⟩, Ht0, Ht1⟩
  iapply (wp_seq 𝒱 none Set.univ d (Pipeline.ucRefs τ sig) _ ops1 ops1_bufs ops1_fresh (launchContents m d)) $$ [Hb Hbufs]
  · isplitl [Hb]; · iexact Hb
    iexact Hbufs
  iintro ⟨Hb, Hbufs⟩
  rw [wp_bind]
  ihave Hbufs := (show held (d : Thread nD τ) (Pipeline.ucRefs τ sig) (after ops1 (launchContents m d)) ⊢ _ from BIBase.Entails.of_eq (before_call m d)) $$ Hbufs
  icases Hbufs with ⟨Hall, Hrest⟩
  iapply ((K (F := F)).wp_run (D (F := F)) 𝒱 (EH := EH) (P := P (tab m) (ind m) (old m)) κ d 0)
  isplitr; · iexact Hctx
  isplitl [Hst]; · iexact Hst
  isplitl [Hall]
  · rw [st0_eq]; iexact Hall
  iintro ⟨Hst, Hdn⟩
  ihave Hdn := (BIBase.Entails.of_eq (dn0_eq (tab m) (ind m) (old m) d)) $$ Hdn
  ihave Hbufs := (BIBase.Entails.of_eq (after_call m d)) $$ [Hdn Hrest]
  · isplitl [Hdn] <;> iassumption
  rw [← seq_bind_seqK]
  iapply (wp_seq 𝒱 none Set.univ d (Pipeline.ucRefs τ sig) _ ops2 ops2_bufs ops2_fresh (V2 m d)) $$ [Hb Hbufs]
  · isplitl [Hb]; · iexact Hb
    iexact Hbufs
  iintro ⟨Hb, Hbufs⟩
  rw [wp_bind]
  ihave #Hlev := ((K (F := F)).ctx_levAts κ) $$ Hctx
  ihave Hst := (show (K (F := F)).tcSt EH d ((0 : Fin 1).val + 1) ⊢ _ from tcSt_low d) $$ Hst
  icases Hst with ⟨Hlow, Hst⟩
  iapply (region_wp (reg1 m) d _ _ (uc_low d (V3 m)) (low_uc d (V4 m)))
  isplitr [Hb Hbufs Hlow Hc0 Ht0]
  · iintro ⟨Hb, Hbufs, Hlow⟩
    rw [wp_bind]
    iapply (region_wp (reg2 m) d _ _ (uc_low d (V4 m)) (low_uc d (V5 m)))
    isplitr [Hb Hbufs Hlow Hc1 Ht1]
    · iintro ⟨Hb, Hbufs, Hlow⟩
      rw [wp_pure]
      imodintro
      ihave Hst := Hst $$ Hlow
      isplitl [Hst]; · iexact Hst
      isplitl [Hbufs]; · unfold FIN; iexact Hbufs
      isplitl [Hb] <;> iassumption
    isplitl [Hb]; · iexact Hb
    isplitl [Hbufs Hlow]
    · isplitl [Hbufs] <;> iassumption
    isplitr; · iexact Hlev
    isplitl [Hc1] <;> iassumption
  isplitl [Hb]; · iexact Hb
  isplitl [Hbufs Hlow]
  · isplitl [Hbufs]; · unfold V3; iexact Hbufs
    iexact Hlow
  isplitr; · iexact Hlev
  isplitl [Hc0] <;> iassumption

end Cert.Proof.Sc

end
-- ==== Proof.Run.lean ====
/-
  The whole program's run: from any memory whose row numbers lie inside the table, it ends with every buffer at its last
  contents and every semaphore at zero; and what the arguments and the result hold then.
-/
module

public import proofs.«01_k».proof.Proof.Main

@[expose] public section

noncomputable section

namespace Cert.Proof.Sc

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after after_append after_of_forall_not_mem launchContents)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The ghost state at the launch -/

/-- The pipelines' rounds at the launch. -/
def uP : UP := initOf (Pipeline.cells (nD := nD) (τ := τ) (pins (F := F)) cellOf_inj) (Pipeline.launchToks (nD := nD) (τ := τ) (pins (F := F)) cellOf_inj)
def u₀ : UU := (initOf (K (F := F)).hsCells (K (F := F)).hsToks, (uP (F := F), 1))

theorem own_split (a : UH) (b : UP) :
    (ownU ((a, (b, 1)) : UU) : sProp 𝕄) ⊢ iprop(BI.own (EH a) ∗ BI.own (EP b)) := by
  exact BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem emp_all {I : Type} (s : Finset I) : (bigSep s fun _ => iprop(emp)) = (iprop(emp) : sProp 𝕄) := BI.bigSep_emp_const s

theorem hu₀ (X : Dev nD → Vec F S21008 .f32) (I : Dev nD → IVec S1331200 32) (f0 : Dev nD → Vec F S10649600 .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X I f0).x q thr) := by
  unfold u₀
  iintro Hu
  ihave H := (own_split _ _) $$ Hu
  icases H with ⟨HH, HP⟩
  unfold uP
  imod (Pipeline.fund_ghost (nD := nD) (τ := τ) (pins (F := F)) EP cellOf_inj) $$ HP with ⟨Hc, Ht⟩
  imodintro
  isplitl [HH]; · iexact HH
  isplitl [Hc Ht]
  · unfold G
    rw [BI.bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-! ## The final memory -/

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V5 m d) (Pipeline.ucRefs τ sig))
  isplitl [HSI] <;> iassumption

/-- Every run of the program ends with every unscoped buffer at its last contents and every semaphore at zero. -/
def Ends (r : PUnit × MemSt nD τ sig (Elt F)) : Prop :=
  (∀ (c : Dev nD) (b : Ref sig .tc), (dr b).isScoped = false → r.2.mem ((c : Thread nD τ).loc b) = V5 m c (dr b)) ∧ r.2.sem = fun _ => 0

theorem run_main [∀ e, Nonempty (Elt F e)] (hI : ∀ d j, (ind m d j).toNat < 2626) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (tab m) (ind m) (old m)) (A := ∅) facts v₀
    (fun q hq => match q with | 0 => nomatch hq)
    (fun q _ => match q with | 0 => tileObl (tab m) (ind m) (old m) hI)
    (fun q _ => match q with | 0 => SparseCore.Cfg.VecSplit.of_plain (vecSplit (tab m) (ind m) (old m)))
    m ρ main (fun d => G d) (FIN m) u₀ (sep_elim_left.trans (hu₀ (tab m) (ind m) (old m))) (hmain m ρ) (fq m) (hfin m) (Ends m)
    (fun _ h hz => ⟨fun c b hb => h c (dr b) (Pipeline.devRef_mem_ucRefs hb), hz⟩)

/-! ## What the arguments hold at the end -/

/-- The references the operations before the SparseCore call write. -/
def hostRefs : List (Ref sig .tc) := [main_v0, main_v1, main_v2, main_v3, main_c, main_v4, main_v5, main_v6, main_v7, main_v8, main_v9, main_v10,
  main_v11, main_v12, main_v13, main_v14, main_v15, main_v16, main_v17, main_v18, main_v19, main_v20]

theorem ops1_writes : ∀ op ∈ (ops1 (F := F)), ∃ y ∈ hostRefs, op.writes = {dr y} := by
  rw [← List.forall_iff_forall_mem]
  unfold ops1
  simp only [List.forall_cons]
  refine ⟨⟨main_v0, by decide, rfl⟩, ⟨main_v1, by decide, rfl⟩, ⟨main_v2, by decide, rfl⟩, ⟨main_v3, by decide, rfl⟩, ⟨main_c, by decide, rfl⟩,
    ⟨main_v4, by decide, rfl⟩, ⟨main_v5, by decide, rfl⟩, ⟨main_v6, by decide, rfl⟩, ⟨main_v7, by decide, rfl⟩, ⟨main_v8, by decide, rfl⟩,
    ⟨main_v9, by decide, rfl⟩, ⟨main_v10, by decide, rfl⟩, ⟨main_v11, by decide, rfl⟩, ⟨main_v12, by decide, rfl⟩, ⟨main_v13, by decide, rfl⟩,
    ⟨main_v14, by decide, rfl⟩, ⟨main_v15, by decide, rfl⟩, ⟨main_v16, by decide, rfl⟩, ⟨main_v17, by decide, rfl⟩, ⟨main_v18, by decide, rfl⟩,
    ⟨main_v19, by decide, rfl⟩, ⟨main_v20, by decide, rfl⟩, trivial⟩

theorem V1_of (d : Dev nD) (b : Ref sig .tc) (h : b ∉ hostRefs) : V1 m d (dr b) = m ((d : Thread nD τ).loc b) := by
  unfold V1
  rw [after_of_forall_not_mem]
  intro op hop hb
  obtain ⟨y, hy, e⟩ := ops1_writes op hop
  rw [e, Finset.mem_singleton] at hb
  exact dr_inj (fun e' : b = y => h (e'.symm ▸ hy)) hb

theorem V3_of (d : Dev nD) (b : Ref sig .tc) (h22 : b ≠ main_v22) (h21 : b ≠ main_v21) : V3 m d (dr b) = V1 m d (dr b) := by
  unfold V3 V2
  rw [after_of_forall_not_mem, Function.update_of_ne (dr_inj h21)]
  intro op hop hb
  obtain rfl := List.mem_singleton.mp hop
  exact dr_inj h22 (Finset.mem_singleton.mp hb)

theorem V4_of (d : Dev nD) (b : Ref sig .tc) (h23 : b ≠ main_v23) : V4 m d (dr b) = V3 m d (dr b) := by
  unfold V4
  rw [Function.update_of_ne (dr_inj h23)]

theorem V5_of (d : Dev nD) (b : Ref sig .tc) (h24 : b ≠ main_v24) : V5 m d (dr b) = V4 m d (dr b) := by
  unfold V5
  rw [Function.update_of_ne (dr_inj h24)]

/-- An argument's buffer is never hostRefs. -/
theorem V5_arg (d : Dev nD) (b : Ref sig .tc) (h : b ∉ main_v21 :: main_v22 :: main_v23 :: main_v24 :: hostRefs) :
    V5 m d (dr b) = m ((d : Thread nD τ).loc b) := by
  simp only [List.mem_cons, not_or] at h
  rw [V5_of m d b h.2.2.2.1, V4_of m d b h.2.2.1, V3_of m d b h.2.1 h.1, V1_of m d b h.2.2.2.2]

end Cert.Proof.Sc

end
-- ==== Proof.Index.lean ====
/-
  The row numbers the SparseCore call reads: each is its index moved to its field's part of the table, and when every
  index is in the vocabulary each row number lies inside the table.
-/
module

public import proofs.«01_k».proof.Proof.Run
public import Idealize.ShloMosaic.Lib.ValueIdxCore
public import Idealize.ShloMosaic.Lib.Pipeline.Value

@[expose] public section

noncomputable section

namespace Cert.Proof.Sc

open Cert.KernelIdeal Cert.KernelIdeal.Gen

open Idealize.ShloMosaic Idealize.ShloMosaic.TcCoe
open Idealize.ShloMosaic.ValueIdx (ix0 ix1 ix2 ix3)

variable {F : FTy → Type} [FloatOps F] [Named F]

variable (m : (ℓ : Loc nD τ sig) → Buf (Elt F) ℓ)

/-- The indices of a device. -/
abbrev idx (d : Dev nD) : IVec S26x1024x50 32 := m ((d : Thread nD τ).loc main_arg0)

/-- The row numbers in terms of the indices, operation by operation. -/
theorem ind_eq (d : Dev nD) : ind m d = shapeCast S1331200 (addi (shapeCast S51200x26
      (transpose S50x1024x26 [2, 1, 0] (idx m d) transposes_S26x1024x50_S50x1024x26_2_1_0) shapeCasts_S50x1024x26_S51200x26)
      (broadcastInDim S51200x26 ![0, 1] bcast_S1x26_S51200x26_0_1 (muli (broadcastInDim S1x26 ![] bcast_S_S1x26 (constantI S_ 32 101#32))
        (broadcastInDim S1x26 ![1] bcast_S26_S1x26_1 (iotaInDim S26 32 0))))) shapeCasts_S51200x26_S1331200 := by
  unfold ind V1 ops1 StableHlo.launchContents
  after_results
  rfl

/-- The row number at place `(l * 1024 + r) * 26 + f` is index `(f, r, l)` plus `101 * f`. -/
theorem ind_apply (d : Dev nD) (l : Fin 50) (r : Fin 1024) (f : Fin 26) (j : S1331200.Idx) (hj : (j 0).val = (l.val * 1024 + r.val) * 26 + f.val) :
    ind m d j = idx m d (ix3 f r l) + 101#32 * BitVec.ofNat 32 f.val := by
  have hl := l.isLt
  have hr := r.isLt
  have hf := f.isLt
  have ht : transpose S50x1024x26 [2, 1, 0] (idx m d) transposes_S26x1024x50_S50x1024x26_2_1_0 (ix3 l r f) = idx m d (ix3 f r l) :=
    transpose_apply _ _ _ _ _ fun b => match b with | ⟨0, _⟩ => rfl | ⟨1, _⟩ => rfl | ⟨2, _⟩ => rfl
  rw [ind_eq, shapeCast_apply _ _ j (ix2 (⟨l.val * 1024 + r.val, by omega⟩ : Fin 51200) f) (by
    rw [Shape.rowMajor_val_two, Shape.rowMajor_val_one, hj]; rfl)]
  show IntOp.addi (shapeCast S51200x26 _ _ _) (broadcastInDim S51200x26 _ _ _ _) = _
  rw [shapeCast_apply _ _ _ (ix3 l r f) (by rw [Shape.rowMajor_val_three, Shape.rowMajor_val_two]; rfl), ht,
    broadcastInDim_apply _ _ _ _ (ix2 (0 : Fin 1) f) (fun a => match a with | 0 => rfl | 1 => rfl)]
  show IntOp.addi _ (IntOp.muli (broadcastInDim S1x26 _ _ _ _) (broadcastInDim S1x26 _ _ _ _)) = _
  rw [broadcastInDim_apply _ _ _ _ ix0 (fun a => a.elim0), broadcastInDim_apply _ _ _ _ (ix1 f) (fun a => match a with | 0 => rfl)]
  rfl

/-- Every index is in the vocabulary. -/
def PreOK : Prop := ∀ (d : Dev nD) (i : S26x1024x50.Idx), (idx m d i).toNat < 100

theorem ind_toNat (h : PreOK m) (d : Dev nD) (l : Fin 50) (r : Fin 1024) (f : Fin 26) (j : S1331200.Idx)
    (hj : (j 0).val = (l.val * 1024 + r.val) * 26 + f.val) : (ind m d j).toNat = (idx m d (ix3 f r l)).toNat + 101 * f.val := by
  have hx := h d (ix3 f r l)
  have hf := f.isLt
  rw [ind_apply m d l r f j hj, BitVec.toNat_add, BitVec.toNat_mul, BitVec.toNat_ofNat, BitVec.toNat_ofNat]
  omega

/-- Every row number lies inside the table. -/
theorem ind_lt (h : PreOK m) (d : Dev nD) (j : S1331200.Idx) : (ind m d j).toNat < 2626 := by
  have hj : (j 0).val < 1331200 := (j 0).isLt
  have e := ind_toNat m h d ⟨(j 0).val / 26624, by omega⟩ ⟨(j 0).val / 26 % 1024, by omega⟩ ⟨(j 0).val % 26, by omega⟩ j (by dsimp only; omega)
  have hx := h d (ix3 ⟨(j 0).val % 26, by omega⟩ ⟨(j 0).val / 26 % 1024, by omega⟩ ⟨(j 0).val / 26624, by omega⟩)
  dsimp only at e
  omega

end Cert.Proof.Sc

end
-- ==== Proof.Frames.lean ====
/-
  What the kernel leaves of its arguments: it runs to its end with every argument array unchanged and every semaphore at zero.
-/
module

public import proofs.«01_k».proof.Proof.Index

@[expose] public section

noncomputable section

namespace Cert.Proof.Sc

open Cert.KernelIdeal Cert.KernelIdeal.Gen

open Idealize.ShloMosaic Idealize.ShloMosaic.TcCoe

variable {F : FTy → Type} [FloatOps F] [Named F]

/-- The arguments end as they were. -/
theorem args_of_ends (m : (ℓ : Loc nD τ sig) → Buf (Elt F) ℓ) (r) (h : Ends m r) (c : Dev nD) :
    r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)
        ∧ r.2.mem ((c : Thread nD τ).loc main_arg13) = m ((c : Thread nD τ).loc main_arg13) := by
  have key : ∀ b : Ref sig .tc, (dr b).isScoped = false → b ∉ main_v21 :: main_v22 :: main_v23 :: main_v24 :: hostRefs →
      r.2.mem ((c : Thread nD τ).loc b) = m ((c : Thread nD τ).loc b) := fun b hb hn => (h.1 c b hb).trans (V5_arg m c b hn)
  refine ⟨?_, ?_, ?_, ?_, ?_, ?_, ?_, ?_, ?_, ?_, ?_, ?_, ?_, ?_⟩ <;> exact key _ rfl (by decide)

end Cert.Proof.Sc

end
-- ==== Proof.Printed.Frames.lean ====
/-
  What the kernel leaves of its arguments: it runs to its end with every argument array unchanged and every semaphore at zero.
-/
module

public import proofs.«01_k».proof.Proof.Printed.Index

@[expose] public section

noncomputable section

namespace Cert.Proof.Printed

open Cert.Kernel Cert.Kernel.Gen

open Idealize.ShloMosaic Idealize.ShloMosaic.TcCoe

variable {F : FTy → Type} [FloatOps F]

/-- The arguments end as they were. -/
theorem args_of_ends (m : (ℓ : Loc nD τ sig) → Buf (Elt F) ℓ) (r) (h : Ends m r) (c : Dev nD) :
    r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)
        ∧ r.2.mem ((c : Thread nD τ).loc main_arg13) = m ((c : Thread nD τ).loc main_arg13) := by
  have key : ∀ b : Ref sig .tc, (dr b).isScoped = false → b ∉ main_v21 :: main_v22 :: main_v23 :: main_v24 :: hostRefs →
      r.2.mem ((c : Thread nD τ).loc b) = m ((c : Thread nD τ).loc b) := fun b hb hn => (h.1 c b hb).trans (V5_arg m c b hn)
  refine ⟨?_, ?_, ?_, ?_, ?_, ?_, ?_, ?_, ?_, ?_, ?_, ?_, ?_, ?_⟩ <;> exact key _ rfl (by decide)

end Cert.Proof.Printed

end
-- ==== Proof.Cell.lean ====
/-
  The gated recurrence in numbers: one unit's step, the hidden states it makes over the steps, and the two kernels' payloads
  read at an index in those terms.
-/
module

public import proofs.«01_k».proof.Proof.Region2Body
public import Idealize.ShloMosaic.Lib.Pointwise
public import Idealize.ShloMosaic.Lib.MatmulPlain
public import Idealize.ShloMosaic.Lib.IdealHost

@[expose] public section

noncomputable section

namespace Cert.Proof

open Idealize.ShloMosaic

namespace Gru

/-- The gates' position of unit `j`: the reset, update and candidate gates lie one after another, 128 units each. -/
abbrev at0 (j : Fin 128) : Fin 384 := ⟨j.val, by omega⟩
abbrev at1 (j : Fin 128) : Fin 384 := ⟨128 + j.val, by omega⟩
abbrev at2 (j : Fin 128) : Fin 384 := ⟨256 + j.val, by omega⟩

/-- One unit's new state from the input's gates, the hidden state's gates and its own old state. -/
def gate (gi gh : Fin 384 → EReal) (h : EReal) (j : Fin 128) : EReal :=
  (1 - Ideal.logistic (gi (at1 j) + gh (at1 j)))
      * Ideal.tanh (gi (at2 j) + Ideal.logistic (gi (at0 j) + gh (at0 j)) * gh (at2 j))
    + Ideal.logistic (gi (at1 j) + gh (at1 j)) * h

/-- The hidden state's gates. -/
def rec (h : Fin 128 → EReal) (W : Fin 384 → Fin 128 → EReal) (b : Fin 384 → EReal) (g : Fin 384) : EReal := (∑ k, h k * W g k) + b g

/-- The hidden states over the steps, `a n r` the input's gates of row `r` at step `n`. -/
def hid (a : ℕ → Fin 1024 → Fin 384 → EReal) (W : Fin 384 → Fin 128 → EReal) (b : Fin 384 → EReal) : ℕ → Fin 1024 → Fin 128 → EReal
  | 0 => fun _ _ => 0
  | n + 1 => fun r j => gate (a n r) (rec (hid a W b n r) W b) (hid a W b n r j) j

/-- Six runs of 128 laid end to end. -/
def cat6 (f0 f1 f2 f3 f4 f5 : Fin 128 → EReal) (k : Fin 768) : EReal :=
  if h0 : k.val < 128 then f0 ⟨k.val, h0⟩
  else if h1 : k.val - 128 < 128 then f1 ⟨k.val - 128, h1⟩
  else if h2 : k.val - 128 - 128 < 128 then f2 ⟨k.val - 128 - 128, h2⟩
  else if h3 : k.val - 128 - 128 - 128 < 128 then f3 ⟨k.val - 128 - 128 - 128, h3⟩
  else if h4 : k.val - 128 - 128 - 128 - 128 < 128 then f4 ⟨k.val - 128 - 128 - 128 - 128, h4⟩
  else f5 ⟨k.val - 128 - 128 - 128 - 128 - 128, by omega⟩

/-- One part in fifty. -/
def fiftieth : EReal := (((50 : ℝ)⁻¹ : ℝ) : EReal)

/-- The head: a hidden layer cut off at zero, then a weighted sum. -/
def head (x : Fin 768 → EReal) (W : Fin 768 → Fin 32 → EReal) (b w : Fin 32 → EReal) (b' : EReal) : EReal :=
  (∑ k, max ((∑ q, x q * W q k) + b k) 0 * w k) + b'

end Gru

namespace Sc

open Cert.KernelIdeal Cert.KernelIdeal.Gen

open R2

/-- The hidden state's gates of a row, over arrays. -/
abbrev recA (h : Vec Ideal S1024x128 .f32) (w : Vec Ideal S128x384 .f32) (b : Vec Ideal S1x384 .f32) (r : Fin 1024) : Fin 384 → EReal :=
  Gru.rec (fun k => h (ix2 r k)) (fun g k => w (ix2 k g)) (fun g => b (ix2 0 g))

theorem pay12_apply (x : Vec Ideal S1024x384 .f32) (h : Vec Ideal S1024x128 .f32) (w : Vec Ideal S128x384 .f32) (b : Vec Ideal S1x384 .f32) (r : Fin 1024) (j : Fin 128) :
    k2_pay12 x h w b (ix2 r j) = Gru.gate (fun g => x (ix2 r g)) (recA h w b r) (h (ix2 r j)) j := by
  simp only [k2_pay12, pointwise]
  simp [Gru.gate, Gru.rec]

theorem pay15_apply (x : Vec Ideal S1024x384 .f32) (h : Vec Ideal S1024x128 .f32) (w : Vec Ideal S128x384 .f32) (b : Vec Ideal S1x384 .f32) (r : Fin 1024) (j : Fin 128) :
    k2_pay15 (k2_pay13 x) h (k2_pay14 h w) b (ix2 r j) = Gru.gate (fun g => x (ix2 r g)) (recA h w b r) (h (ix2 r j)) j := by
  simp only [k2_pay15, k2_pay14, k2_pay13, pointwise]
  simp [Gru.gate, Gru.rec]

/-- The named constant is one part in fifty. -/
theorem inv_l : (Named.named κ "inv_l" 0x3CA3D70A#32 : Ideal .f32) = Gru.fiftieth := rfl

section Step

variable (x1 x2 : Vec Ideal S1024x384 .f32) (w3 : Vec Ideal S128x384 .f32) (w4 : Vec Ideal S1x384 .f32) (w5 : Vec Ideal S128x384 .f32)
  (w6 : Vec Ideal S1x384 .f32) (s : St Ideal) (r : Fin 1024) (j : Fin 128)

theorem step_hf : (St.step x1 x2 w3 w4 w5 w6 s).hf (ix2 r j) = Gru.gate (fun g => x1 (ix2 r g)) (recA s.hf w3 w4 r) (s.hf (ix2 r j)) j := by
  rw [← pay12_apply]
  simp only [St.step, k2_pay16, pointwise]

theorem step_hb : (St.step x1 x2 w3 w4 w5 w6 s).hb (ix2 r j) = Gru.gate (fun g => x2 (ix2 r g)) (recA s.hb w5 w6 r) (s.hb (ix2 r j)) j := by
  rw [← pay15_apply]
  simp only [St.step, k2_pay17, pointwise]

theorem step_mf : (St.step x1 x2 w3 w4 w5 w6 s).mf (ix2 r j) = max (s.mf (ix2 r j)) (Gru.gate (fun g => x1 (ix2 r g)) (recA s.hf w3 w4 r) (s.hf (ix2 r j)) j) := by
  rw [← pay12_apply]
  simp only [St.step, k2_pay18, pointwise]

theorem step_mb : (St.step x1 x2 w3 w4 w5 w6 s).mb (ix2 r j) = max (s.mb (ix2 r j)) (Gru.gate (fun g => x2 (ix2 r g)) (recA s.hb w5 w6 r) (s.hb (ix2 r j)) j) := by
  rw [← pay15_apply]
  simp only [St.step, k2_pay19, pointwise]

theorem step_sf : (St.step x1 x2 w3 w4 w5 w6 s).sf (ix2 r j) = s.sf (ix2 r j) + Gru.gate (fun g => x1 (ix2 r g)) (recA s.hf w3 w4 r) (s.hf (ix2 r j)) j := by
  rw [← pay12_apply]
  simp only [St.step, k2_pay1, pointwise]

theorem step_sb : (St.step x1 x2 w3 w4 w5 w6 s).sb (ix2 r j) = s.sb (ix2 r j) + Gru.gate (fun g => x2 (ix2 r g)) (recA s.hb w5 w6 r) (s.hb (ix2 r j)) j := by
  rw [← pay15_apply]
  simp only [St.step, k2_pay2, pointwise]

theorem zero_h : (St.zero (F := Ideal)).hf (ix2 r j) = 0 ∧ (St.zero (F := Ideal)).hb (ix2 r j) = 0 := by
  constructor <;> simp only [St.zero, k2_pay6, k2_pay7, k2_pay4, pointwise]

theorem zero_s : (St.zero (F := Ideal)).sf (ix2 r j) = 0 ∧ (St.zero (F := Ideal)).sb (ix2 r j) = 0 := by
  constructor <;> simp only [St.zero, k2_pay8, k2_pay9, k2_pay4, pointwise]

theorem zero_m : (St.zero (F := Ideal)).mf (ix2 r j) = ⊥ ∧ (St.zero (F := Ideal)).mb (ix2 r j) = ⊥ := by
  constructor <;> simp only [St.zero, k2_pay10, k2_pay11, k2_pay5, pointwise] <;> rfl

end Step

theorem pay1_apply (x : Vec Ideal S3200x208 .f32) (w : Vec Ideal S208x768 .f32) (b : Vec Ideal S1x768 .f32) (r : Fin 3200) (g : Fin 768) :
    k1_pay1 x w b (ix2 r g) = (∑ k : Fin 208, x (ix2 r k) * w (ix2 k g)) + b (ix2 0 g) := by
  simp only [k1_pay1, pointwise]
  simp

/-- The head's value of a state's row. -/
theorem head_apply (s : St Ideal) (w7 : Vec Ideal S768x32 .f32) (w8 w9 : Vec Ideal S1x32 .f32) (w10 : Vec Ideal S1x1 .f32) (r : Fin 1024) (c : Fin 1) :
    s.head w7 w8 w9 w10 (ix2 r c) = Gru.head
      (Gru.cat6 (fun k => s.hf (ix2 r k)) (fun k => s.hb (ix2 r k)) (fun k => s.mf (ix2 r k)) (fun k => s.mb (ix2 r k))
        (fun k => s.sf (ix2 r k) * Gru.fiftieth) (fun k => s.sb (ix2 r k) * Gru.fiftieth))
      (fun q k => w7 (ix2 q k)) (fun k => w8 (ix2 0 k)) (fun k => w9 (ix2 0 k)) (w10 (ix2 0 0)) := by
  simp only [St.head, k2_pay3, pointwise]
  simp [Gru.head, Gru.cat6, inv_l]

end Sc

end Cert.Proof

end
-- ==== Proof.Hidden.lean ====
/-
  The network's answer in numbers: the embedded inputs, the gates they give, the hidden states, their maxima and sums over
  the steps, and the head; and the recurrent kernel's state read in those terms.
-/
module

public import proofs.«01_k».proof.Proof.Cell
public import proofs.«01_k».proof.Proof.Region2

@[expose] public section

noncomputable section

namespace Cert.Proof

open Idealize.ShloMosaic

namespace Gru

theorem hid_succ (a : ℕ → Fin 1024 → Fin 384 → EReal) (W : Fin 384 → Fin 128 → EReal) (b : Fin 384 → EReal) (n : ℕ) (r : Fin 1024) (j : Fin 128) :
    hid a W b (n + 1) r j = gate (a n r) (rec (hid a W b n r) W b) (hid a W b n r j) j := rfl

/-- The hidden states up to a step read the gates of the steps before only. -/
theorem hid_congr {a a' : ℕ → Fin 1024 → Fin 384 → EReal} (W : Fin 384 → Fin 128 → EReal) (b : Fin 384 → EReal) :
    ∀ n, (∀ l < n, a l = a' l) → hid a W b n = hid a' W b n
  | 0, _ => rfl
  | n + 1, h => by
    funext r j
    rw [hid_succ, hid_succ, h n n.lt_succ_self, hid_congr W b n fun l hl => h l (hl.trans n.lt_succ_self)]

/-- The largest of the first `n` hidden states after the start, and their sum. -/
def top (a : ℕ → Fin 1024 → Fin 384 → EReal) (W : Fin 384 → Fin 128 → EReal) (b : Fin 384 → EReal) (n : ℕ) (r : Fin 1024) (j : Fin 128) : EReal :=
  (Finset.range n).sup fun l => hid a W b (l + 1) r j
def tot (a : ℕ → Fin 1024 → Fin 384 → EReal) (W : Fin 384 → Fin 128 → EReal) (b : Fin 384 → EReal) (n : ℕ) (r : Fin 1024) (j : Fin 128) : EReal :=
  ∑ l ∈ Finset.range n, hid a W b (l + 1) r j

theorem top_congr {a a' : ℕ → Fin 1024 → Fin 384 → EReal} (W : Fin 384 → Fin 128 → EReal) (b : Fin 384 → EReal) (n : ℕ) (h : ∀ l < n, a l = a' l) :
    top a W b n = top a' W b n := by
  funext r j
  exact Finset.sup_congr rfl fun l hl => by
    rw [hid_congr W b (l + 1) fun i hi => h i (lt_of_lt_of_le hi (Finset.mem_range.mp hl))]

theorem tot_congr {a a' : ℕ → Fin 1024 → Fin 384 → EReal} (W : Fin 384 → Fin 128 → EReal) (b : Fin 384 → EReal) (n : ℕ) (h : ∀ l < n, a l = a' l) :
    tot a W b n = tot a' W b n := by
  funext r j
  exact Finset.sum_congr rfl fun l hl => by
    rw [hid_congr W b (l + 1) fun i hi => h i (lt_of_lt_of_le hi (Finset.mem_range.mp hl))]

/-- The answer of row `r`, of the two directions' gates, their recurrent weights and biases, and the head's. -/
def answer (a : ℕ → Fin 1024 → Fin 384 → EReal) (W : Fin 384 → Fin 128 → EReal) (b : Fin 384 → EReal)
    (a' : ℕ → Fin 1024 → Fin 384 → EReal) (W' : Fin 384 → Fin 128 → EReal) (b' : Fin 384 → EReal)
    (V : Fin 768 → Fin 32 → EReal) (c w : Fin 32 → EReal) (c' : EReal) (r : Fin 1024) : EReal :=
  head (cat6 (hid a W b 50 r) (hid a' W' b' 50 r) (top a W b 50 r) (top a' W' b' 50 r)
    (fun j => tot a W b 50 r j * fiftieth) (fun j => tot a' W' b' 50 r j * fiftieth)) V c w c'

theorem answer_congr {a₁ a₂ a₁' a₂' : ℕ → Fin 1024 → Fin 384 → EReal} (W : Fin 384 → Fin 128 → EReal) (b : Fin 384 → EReal)
    (W' : Fin 384 → Fin 128 → EReal) (b' : Fin 384 → EReal) (V : Fin 768 → Fin 32 → EReal) (c w : Fin 32 → EReal) (c' : EReal) (r : Fin 1024)
    (h : ∀ l < 50, a₁ l = a₂ l) (h' : ∀ l < 50, a₁' l = a₂' l) :
    answer a₁ W b a₁' W' b' V c w c' r = answer a₂ W b a₂' W' b' V c w c' r := by
  unfold answer
  rw [hid_congr W b 50 h, hid_congr W' b' 50 h', top_congr W b 50 h, top_congr W' b' 50 h', tot_congr W b 50 h, tot_congr W' b' 50 h']

/-- The gates an input gives: its weighted sums plus the bias. -/
def gates (x : Fin 208 → EReal) (W : Fin 384 → Fin 208 → EReal) (b : Fin 384 → EReal) (g : Fin 384) : EReal := (∑ k, x k * W g k) + b g

/-- The embedded input of row `r` at step `l`: feature `k / 8`'s entry for the index there, its component `k % 8`. -/
def emb (T : Fin 26 → Fin 101 → Fin 8 → EReal) (I : Fin 26 → Fin 1024 → Fin 50 → ℕ) (l : ℕ) (r : Fin 1024) (k : Fin 208) : EReal :=
  T ⟨k.val / 8, by omega⟩ ⟨I ⟨k.val / 8, by omega⟩ r ⟨l % 50, Nat.mod_lt _ (by decide)⟩ % 101, Nat.mod_lt _ (by decide)⟩ ⟨k.val % 8, Nat.mod_lt _ (by decide)⟩

end Gru

namespace Sc

open Cert.KernelIdeal Cert.KernelIdeal.Gen
open R2

section State

variable (A : Vec Ideal S51200x768 .f32) (w3 : Vec Ideal S128x384 .f32) (w4 : Vec Ideal S1x384 .f32) (w5 : Vec Ideal S128x384 .f32) (w6 : Vec Ideal S1x384 .f32)

/-- The gates the projected rows hold, of either direction; the recurrent weights and biases by unit and gate. -/
abbrev gf (n : ℕ) (r : Fin 1024) (g : Fin 384) : EReal := xf A n (ix2 r g)
abbrev gb (n : ℕ) (r : Fin 1024) (g : Fin 384) : EReal := xb A n (ix2 r g)
abbrev wt (w : Vec Ideal S128x384 .f32) (g : Fin 384) (k : Fin 128) : EReal := w (ix2 k g)
abbrev bs (w : Vec Ideal S1x384 .f32) (g : Fin 384) : EReal := w (ix2 0 g)

theorem state_hf (n : ℕ) (r : Fin 1024) (j : Fin 128) : (state A w3 w4 w5 w6 n).hf (ix2 r j) = Gru.hid (gf A) (wt w3) (bs w4) n r j := by
  induction n generalizing r j with
  | zero => exact (zero_h r j).1
  | succ n ih =>
    rw [Gru.hid_succ, ← ih]
    refine (step_hf _ _ _ _ _ _ _ r j).trans ?_
    rw [recA]
    simp only [ih]

theorem state_hb (n : ℕ) (r : Fin 1024) (j : Fin 128) : (state A w3 w4 w5 w6 n).hb (ix2 r j) = Gru.hid (gb A) (wt w5) (bs w6) n r j := by
  induction n generalizing r j with
  | zero => exact (zero_h r j).2
  | succ n ih =>
    rw [Gru.hid_succ, ← ih]
    refine (step_hb _ _ _ _ _ _ _ r j).trans ?_
    rw [recA]
    simp only [ih]

theorem step_f (n : ℕ) (r : Fin 1024) (j : Fin 128) :
    Gru.gate (fun g => xf A n (ix2 r g)) (recA (state A w3 w4 w5 w6 n).hf w3 w4 r) ((state A w3 w4 w5 w6 n).hf (ix2 r j)) j
      = Gru.hid (gf A) (wt w3) (bs w4) (n + 1) r j := by
  rw [Gru.hid_succ, recA]
  simp only [state_hf]

theorem step_b (n : ℕ) (r : Fin 1024) (j : Fin 128) :
    Gru.gate (fun g => xb A n (ix2 r g)) (recA (state A w3 w4 w5 w6 n).hb w5 w6 r) ((state A w3 w4 w5 w6 n).hb (ix2 r j)) j
      = Gru.hid (gb A) (wt w5) (bs w6) (n + 1) r j := by
  rw [Gru.hid_succ, recA]
  simp only [state_hb]

theorem state_mf (n : ℕ) (r : Fin 1024) (j : Fin 128) : (state A w3 w4 w5 w6 n).mf (ix2 r j) = Gru.top (gf A) (wt w3) (bs w4) n r j := by
  induction n with
  | zero => exact (zero_m r j).1
  | succ n ih =>
    refine (step_mf _ _ _ _ _ _ _ r j).trans ?_
    rw [step_f, ih, Gru.top, Gru.top, Finset.range_add_one, Finset.sup_insert]
    exact max_comm _ _

theorem state_mb (n : ℕ) (r : Fin 1024) (j : Fin 128) : (state A w3 w4 w5 w6 n).mb (ix2 r j) = Gru.top (gb A) (wt w5) (bs w6) n r j := by
  induction n with
  | zero => exact (zero_m r j).2
  | succ n ih =>
    refine (step_mb _ _ _ _ _ _ _ r j).trans ?_
    rw [step_b, ih, Gru.top, Gru.top, Finset.range_add_one, Finset.sup_insert]
    exact max_comm _ _

theorem state_sf (n : ℕ) (r : Fin 1024) (j : Fin 128) : (state A w3 w4 w5 w6 n).sf (ix2 r j) = Gru.tot (gf A) (wt w3) (bs w4) n r j := by
  induction n with
  | zero => exact (zero_s r j).1
  | succ n ih =>
    refine (step_sf _ _ _ _ _ _ _ r j).trans ?_
    rw [step_f, ih, Gru.tot, Gru.tot, Finset.sum_range_succ]

theorem state_sb (n : ℕ) (r : Fin 1024) (j : Fin 128) : (state A w3 w4 w5 w6 n).sb (ix2 r j) = Gru.tot (gb A) (wt w5) (bs w6) n r j := by
  induction n with
  | zero => exact (zero_s r j).2
  | succ n ih =>
    refine (step_sb _ _ _ _ _ _ _ r j).trans ?_
    rw [step_b, ih, Gru.tot, Gru.tot, Finset.sum_range_succ]

/-- The head of the last state is the answer. -/
theorem head_state (w7 : Vec Ideal S768x32 .f32) (w8 w9 : Vec Ideal S1x32 .f32) (w10 : Vec Ideal S1x1 .f32) (r : Fin 1024) (c : Fin 1) :
    (state A w3 w4 w5 w6 50).head w7 w8 w9 w10 (ix2 r c) = Gru.answer (gf A) (wt w3) (bs w4) (gb A) (wt w5) (bs w6)
      (fun q k => w7 (ix2 q k)) (fun k => w8 (ix2 0 k)) (fun k => w9 (ix2 0 k)) (w10 (ix2 0 0)) r := by
  rw [head_apply, Gru.answer]
  simp only [state_hf, state_hb, state_mf, state_mb, state_sf, state_sb]

end State

end Sc

end Cert.Proof

end
-- ==== Proof.RefOps.lean ====
/-
  The reference program's operations as lists, one list a stretch, and what each list writes.
-/
module

public import proofs.«01_k».proof.Proof.Gen.ReferenceIdeal
public import Idealize.ShloMosaic.Lib.StableHlo.RunLoop
public import Idealize.ShloMosaic.Lib.Scf.ExitTest
public import Idealize.ShloMosaic.Lib.Scf.Counter

@[expose] public section

noncomputable section

namespace Cert.Proof.Ref

open Cert.ReferenceIdeal

open Idealize.ShloMosaic Idealize.SL.Sem
open Cert.ReferenceIdeal.Facts₀ Cert.ReferenceIdeal.Facts

variable {F : FTy → Type} [FloatOps F]

/-- The operations before the first loop. -/
abbrev preOps : List (HloOp τ sig (Elt F)) :=
  [ StableHlo.nullary main_c (constantI S_ 32 0#32),
    StableHlo.unary main_c main_v0 (broadcastInDim S26x1024x50 ![] bcast_S_S26x1024x50 : (⟨S_, .i32⟩ : BufTy).Contents (Elt F) → (⟨S26x1024x50, .i32⟩ : BufTy).Contents (Elt F)),
    StableHlo.binary main_arg0 main_v0 main_v1 (cmpi .slt : (⟨S26x1024x50, .i32⟩ : BufTy).Contents (Elt F) → (⟨S26x1024x50, .i32⟩ : BufTy).Contents (Elt F) → (⟨S26x1024x50, .i1⟩ : BufTy).Contents (Elt F)),
    StableHlo.nullary main_c_0 (constantI S_ 32 101#32),
    StableHlo.unary main_c_0 main_v2 (broadcastInDim S26x1024x50 ![] bcast_S_S26x1024x50 : (⟨S_, .i32⟩ : BufTy).Contents (Elt F) → (⟨S26x1024x50, .i32⟩ : BufTy).Contents (Elt F)),
    StableHlo.binary main_arg0 main_v2 main_v3 (addi : (⟨S26x1024x50, .i32⟩ : BufTy).Contents (Elt F) → (⟨S26x1024x50, .i32⟩ : BufTy).Contents (Elt F) → (⟨S26x1024x50, .i32⟩ : BufTy).Contents (Elt F)),
    StableHlo.ternary main_v1 main_v3 main_arg0 main_v4 (select : (⟨S26x1024x50, .i1⟩ : BufTy).Contents (Elt F) → (⟨S26x1024x50, .i32⟩ : BufTy).Contents (Elt F) → (⟨S26x1024x50, .i32⟩ : BufTy).Contents (Elt F) → (⟨S26x1024x50, .i32⟩ : BufTy).Contents (Elt F)),
    StableHlo.unary main_v4 main_v5 (broadcastInDim S26x1024x50x1 ![0, 1, 2] bcast_S26x1024x50_S26x1024x50x1_0_1_2 : (⟨S26x1024x50, .i32⟩ : BufTy).Contents (Elt F) → (⟨S26x1024x50x1, .i32⟩ : BufTy).Contents (Elt F)),
    StableHlo.binary main_arg1 main_v5 main_v6 ((fun x i => Host.gather gather_S26x101x8_S26x1024x50x1_S26x1024x50x8_3_1_0_0_1_3_118 x i) : (⟨S26x101x8, .f32⟩ : BufTy).Contents (Elt F) → (⟨S26x1024x50x1, .i32⟩ : BufTy).Contents (Elt F) → (⟨S26x1024x50x8, .f32⟩ : BufTy).Contents (Elt F)),
    StableHlo.unary main_v6 main_v7 ((transpose S1024x50x26x8 [1, 2, 0, 3] · transposes_S26x1024x50x8_S1024x50x26x8_1_2_0_3) : (⟨S26x1024x50x8, .f32⟩ : BufTy).Contents (Elt F) → (⟨S1024x50x26x8, .f32⟩ : BufTy).Contents (Elt F)),
    StableHlo.reshape main_v7 main_v8 (rfl : (.f32 : EltTy) = .f32) shapeCasts_S1024x50x26x8_S1024x50x208,
    StableHlo.unary main_v8 main_v9 ((transpose S50x1024x208 [1, 0, 2] · transposes_S1024x50x208_S50x1024x208_1_0_2) : (⟨S1024x50x208, .f32⟩ : BufTy).Contents (Elt F) → (⟨S50x1024x208, .f32⟩ : BufTy).Contents (Elt F)),
    StableHlo.nullary main_cst (constant S_ .f32 0x00000000#32),
    StableHlo.unary main_cst main_v10 (broadcastInDim S1024x128 ![] bcast_S_S1024x128 : (⟨S_, .f32⟩ : BufTy).Contents (Elt F) → (⟨S1024x128, .f32⟩ : BufTy).Contents (Elt F)),
    StableHlo.nullary main_cst_1 (constant S_ .f32 0x00000000#32),
    StableHlo.unary main_cst_1 main_v11 (broadcastInDim S50x1024x128 ![] bcast_S_S50x1024x128 : (⟨S_, .f32⟩ : BufTy).Contents (Elt F) → (⟨S50x1024x128, .f32⟩ : BufTy).Contents (Elt F)),
    StableHlo.nullary main_c_2 (constantI S_ 32 0#32),
    StableHlo.unary main_v9 main_v12_0 id,
    StableHlo.unary main_arg2 main_v12_1 id,
    StableHlo.unary main_arg4 main_v12_2 id,
    StableHlo.unary main_arg3 main_v12_3 id,
    StableHlo.unary main_arg5 main_v12_4 id,
    StableHlo.unary main_c_2 main_v12_5 id,
    StableHlo.unary main_v10 main_v12_6 id,
    StableHlo.unary main_v11 main_v12_7 id ]

/-- What `preOps` writes. -/
abbrev preOpsW : List (Ref sig .tc) := [main_c, main_v0, main_v1, main_c_0, main_v2, main_v3, main_v4, main_v5, main_v6, main_v7, main_v8, main_v9, main_cst, main_v10, main_cst_1, main_v11, main_c_2, main_v12_0, main_v12_1, main_v12_2, main_v12_3, main_v12_4, main_v12_5, main_v12_6, main_v12_7]

theorem preOps_writes : (preOps : List (HloOp τ sig (Elt F))).Forall fun op => op.writes ⊆ (preOpsW.map (Proc.devRef (τ := τ) .tc)).toFinset :=
  StableHlo.forall_writes_sub_of_map rfl

theorem preOps_sub : (preOps : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations between the loops. -/
abbrev midOps : List (HloOp τ sig (Elt F)) :=
  [ StableHlo.unary main_v9 main_v13 (Host.reverse [0] : (⟨S50x1024x208, .f32⟩ : BufTy).Contents (Elt F) → (⟨S50x1024x208, .f32⟩ : BufTy).Contents (Elt F)),
    StableHlo.nullary main_cst_3 (constant S_ .f32 0x00000000#32),
    StableHlo.unary main_cst_3 main_v14 (broadcastInDim S50x1024x128 ![] bcast_S_S50x1024x128 : (⟨S_, .f32⟩ : BufTy).Contents (Elt F) → (⟨S50x1024x128, .f32⟩ : BufTy).Contents (Elt F)),
    StableHlo.nullary main_c_4 (constantI S_ 32 0#32),
    StableHlo.unary main_v13 main_v15_0 id,
    StableHlo.unary main_arg6 main_v15_1 id,
    StableHlo.unary main_arg8 main_v15_2 id,
    StableHlo.unary main_arg7 main_v15_3 id,
    StableHlo.unary main_arg9 main_v15_4 id,
    StableHlo.unary main_c_4 main_v15_5 id,
    StableHlo.unary main_v10 main_v15_6 id,
    StableHlo.unary main_v14 main_v15_7 id ]

/-- What `midOps` writes. -/
abbrev midOpsW : List (Ref sig .tc) := [main_v13, main_cst_3, main_v14, main_c_4, main_v15_0, main_v15_1, main_v15_2, main_v15_3, main_v15_4, main_v15_5, main_v15_6, main_v15_7]

theorem midOps_writes : (midOps : List (HloOp τ sig (Elt F))).Forall fun op => op.writes ⊆ (midOpsW.map (Proc.devRef (τ := τ) .tc)).toFinset :=
  StableHlo.forall_writes_sub_of_map rfl

theorem midOps_sub : (midOps : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations after the second loop that gather the final states and the pooled ones. -/
abbrev poolOps : List (HloOp τ sig (Elt F)) :=
  [ StableHlo.unary main_v15_7 main_v16 (Host.reverse [0] : (⟨S50x1024x128, .f32⟩ : BufTy).Contents (Elt F) → (⟨S50x1024x128, .f32⟩ : BufTy).Contents (Elt F)),
    StableHlo.binary main_v12_7 main_v16 main_v17 ((fun a b => concatenate S50x1024x256 2 [⟨S50x1024x128, a⟩, ⟨S50x1024x128, b⟩] concatenates_S50x1024x128_S50x1024x128_S50x1024x256_d2) : (⟨S50x1024x128, .f32⟩ : BufTy).Contents (Elt F) → (⟨S50x1024x128, .f32⟩ : BufTy).Contents (Elt F) → (⟨S50x1024x256, .f32⟩ : BufTy).Contents (Elt F)),
    StableHlo.unary main_v17 main_v18 ((transpose S1024x50x256 [1, 0, 2] · transposes_S50x1024x256_S1024x50x256_1_0_2) : (⟨S50x1024x256, .f32⟩ : BufTy).Contents (Elt F) → (⟨S1024x50x256, .f32⟩ : BufTy).Contents (Elt F)),
    StableHlo.binary main_v12_6 main_v15_6 main_v19 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    StableHlo.nullary main_cst_5 (constant S_ .f32 0xFF800000#32),
    StableHlo.binary main_v18 main_cst_5 main_v20 ((fun x v => Host.reduce FloatOps.maximumf x v reducesTo_S1024x50x256_S1024x256_d1 h_S_) : (⟨S1024x50x256, .f32⟩ : BufTy).Contents (Elt F) → (⟨S_, .f32⟩ : BufTy).Contents (Elt F) → (⟨S1024x256, .f32⟩ : BufTy).Contents (Elt F)),
    StableHlo.nullary main_cst_6 (constant S_ .f32 0x00000000#32),
    StableHlo.binary main_v18 main_cst_6 main_v21 ((fun x v => Host.reduceAdd x v reducesTo_S1024x50x256_S1024x256_d1 h_S_) : (⟨S1024x50x256, .f32⟩ : BufTy).Contents (Elt F) → (⟨S_, .f32⟩ : BufTy).Contents (Elt F) → (⟨S1024x256, .f32⟩ : BufTy).Contents (Elt F)),
    StableHlo.nullary main_cst_7 (constant S_ .f32 0x42480000#32),
    StableHlo.unary main_cst_7 main_v22 (broadcastInDim S1024x256 ![] bcast_S_S1024x256 : (⟨S_, .f32⟩ : BufTy).Contents (Elt F) → (⟨S1024x256, .f32⟩ : BufTy).Contents (Elt F)),
    StableHlo.binary main_v21 main_v22 main_v23 (Host.divf : (⟨S1024x256, .f32⟩ : BufTy).Contents (Elt F) → (⟨S1024x256, .f32⟩ : BufTy).Contents (Elt F) → (⟨S1024x256, .f32⟩ : BufTy).Contents (Elt F)),
    StableHlo.nary ![main_v19, main_v20, main_v23] main_v24 (fun u => (concatenate S1024x768 1 [⟨S1024x256, (u 0 : (⟨S1024x256, .f32⟩ : BufTy).Contents (Elt F))⟩, ⟨S1024x256, (u 1 : (⟨S1024x256, .f32⟩ : BufTy).Contents (Elt F))⟩, ⟨S1024x256, (u 2 : (⟨S1024x256, .f32⟩ : BufTy).Contents (Elt F))⟩] concatenates_S1024x256_S1024x256_S1024x256_S1024x768_d1 : (⟨S1024x768, .f32⟩ : BufTy).Contents (Elt F))) ]

/-- What `poolOps` writes. -/
abbrev poolOpsW : List (Ref sig .tc) := [main_v16, main_v17, main_v18, main_v19, main_cst_5, main_v20, main_cst_6, main_v21, main_cst_7, main_v22, main_v23, main_v24]

theorem poolOps_writes : (poolOps : List (HloOp τ sig (Elt F))).Forall fun op => op.writes ⊆ (poolOpsW.map (Proc.devRef (τ := τ) .tc)).toFinset :=
  StableHlo.forall_writes_sub_of_map rfl

theorem poolOps_sub : (poolOps : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The classifier's operations. -/
abbrev headOps : List (HloOp τ sig (Elt F)) :=
  [ StableHlo.unary main_arg10 main_v25 ((transpose S768x32 [1, 0] · transposes_S32x768_S768x32_1_0) : (⟨S32x768, .f32⟩ : BufTy).Contents (Elt F) → (⟨S768x32, .f32⟩ : BufTy).Contents (Elt F)),
    StableHlo.binary main_v24 main_v25 main_v26 ((fun l r => Host.dotGeneral dot_S1024x768_S768x32_S1024x32_1_0_0_1_n_n none l r) : (⟨S1024x768, .f32⟩ : BufTy).Contents (Elt F) → (⟨S768x32, .f32⟩ : BufTy).Contents (Elt F) → (⟨S1024x32, .f32⟩ : BufTy).Contents (Elt F)),
    StableHlo.unary main_arg11 main_v27 (broadcastInDim S1x32 ![1] bcast_S32_S1x32_1 : (⟨S32, .f32⟩ : BufTy).Contents (Elt F) → (⟨S1x32, .f32⟩ : BufTy).Contents (Elt F)),
    StableHlo.unary main_v27 main_v28 (broadcastInDim S1024x32 ![0, 1] bcast_S1x32_S1024x32_0_1 : (⟨S1x32, .f32⟩ : BufTy).Contents (Elt F) → (⟨S1024x32, .f32⟩ : BufTy).Contents (Elt F)),
    StableHlo.binary main_v26 main_v28 main_v29 (addf : (⟨S1024x32, .f32⟩ : BufTy).Contents (Elt F) → (⟨S1024x32, .f32⟩ : BufTy).Contents (Elt F) → (⟨S1024x32, .f32⟩ : BufTy).Contents (Elt F)),
    StableHlo.TRef.nullary main_call4.cst (constant S_ .f32 0x00000000#32),
    StableHlo.TRef.unary main_call4.cst main_call4.v0 (broadcastInDim S1024x32 ![] bcast_S_S1024x32),
    StableHlo.TRef.binary (.of main_v29 : StableHlo.TRef sig ⟨S1024x32, .f32⟩) main_call4.v0 main_call4.v1 maximumf,
    StableHlo.unary main_arg12 main_v31 ((transpose S32x1 [1, 0] · transposes_S1x32_S32x1_1_0) : (⟨S1x32, .f32⟩ : BufTy).Contents (Elt F) → (⟨S32x1, .f32⟩ : BufTy).Contents (Elt F)),
    StableHlo.binary main_v30 main_v31 main_v32 ((fun l r => Host.dotGeneral dot_S1024x32_S32x1_S1024x1_1_0_0_1_n_n none l r) : (⟨S1024x32, .f32⟩ : BufTy).Contents (Elt F) → (⟨S32x1, .f32⟩ : BufTy).Contents (Elt F) → (⟨S1024x1, .f32⟩ : BufTy).Contents (Elt F)),
    StableHlo.unary main_arg13 main_v33 (broadcastInDim S1x1 ![1] bcast_S1_S1x1_1 : (⟨S1, .f32⟩ : BufTy).Contents (Elt F) → (⟨S1x1, .f32⟩ : BufTy).Contents (Elt F)),
    StableHlo.unary main_v33 main_v34 (broadcastInDim S1024x1 ![0, 1] bcast_S1x1_S1024x1_0_1 : (⟨S1x1, .f32⟩ : BufTy).Contents (Elt F) → (⟨S1024x1, .f32⟩ : BufTy).Contents (Elt F)),
    StableHlo.binary main_v32 main_v34 main_v35 (addf : (⟨S1024x1, .f32⟩ : BufTy).Contents (Elt F) → (⟨S1024x1, .f32⟩ : BufTy).Contents (Elt F) → (⟨S1024x1, .f32⟩ : BufTy).Contents (Elt F)) ]

/-- What `headOps` writes. -/
abbrev headOpsW : List (Ref sig .tc) := [main_v25, main_v26, main_v27, main_v28, main_v29, main_call4_cst, main_call4_v0, main_v30, main_v31, main_v32, main_v33, main_v34, main_v35]

theorem headOps_writes : (headOps : List (HloOp τ sig (Elt F))).Forall fun op => op.writes ⊆ (headOpsW.map (Proc.devRef (τ := τ) .tc)).toFinset :=
  StableHlo.forall_writes_sub_of_map rfl

theorem headOps_sub : (headOps : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The first loop's condition. -/
abbrev condOps0 : List (HloOp τ sig (Elt F)) :=
  [ StableHlo.nullary main_while0c_c_15 (constantI S_ 32 50#32),
    StableHlo.binary main_v12_5 main_while0c_c_15 main_while0c_v36 (cmpi .slt : (⟨S_, .i32⟩ : BufTy).Contents (Elt F) → (⟨S_, .i32⟩ : BufTy).Contents (Elt F) → (⟨S_, .i1⟩ : BufTy).Contents (Elt F)) ]

/-- What `condOps0` writes. -/
abbrev condOps0W : List (Ref sig .tc) := [main_while0c_c_15, main_while0c_v36]

theorem condOps0_writes : (condOps0 : List (HloOp τ sig (Elt F))).Forall fun op => op.writes ⊆ (condOps0W.map (Proc.devRef (τ := τ) .tc)).toFinset :=
  StableHlo.forall_writes_sub_of_map rfl

theorem condOps0_sub : (condOps0 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the input in the first loop's body. -/
abbrev inOps0 : List (HloOp τ sig (Elt F)) :=
  [ StableHlo.TRef.nullary main_while0b_call0.c (constantI S_ 32 0#32),
    StableHlo.TRef.nullary main_while0b_call0.c_0 (constantI S_ 32 0#32),
    StableHlo.TRef.unaryIndexed (.of main_v12_0 : StableHlo.TRef sig ⟨S50x1024x208, .f32⟩) ![(.of main_v12_5 : StableHlo.TRef sig ⟨S_, .i32⟩), main_while0b_call0.c, main_while0b_call0.c_0] main_while0b_call0.v0 (fun x i => Host.dynamicSlice S1x1024x208 x (fun k => (i k (Shape.Idx.first h_S_)).toInt) sliceFits_S50x1024x208_S1x1024x208),
    StableHlo.TRef.reshape main_while0b_call0.v0 main_while0b_call0.v1 (rfl : (.f32 : EltTy) = .f32) shapeCasts_S1x1024x208_S1024x208,
    StableHlo.unary main_v12_1 main_while0b_v37 ((transpose S208x384 [1, 0] · transposes_S384x208_S208x384_1_0) : (⟨S384x208, .f32⟩ : BufTy).Contents (Elt F) → (⟨S208x384, .f32⟩ : BufTy).Contents (Elt F)),
    StableHlo.binary main_while0b_v36 main_while0b_v37 main_while0b_v38 ((fun l r => Host.dotGeneral dot_S1024x208_S208x384_S1024x384_1_0_0_1_n_n none l r) : (⟨S1024x208, .f32⟩ : BufTy).Contents (Elt F) → (⟨S208x384, .f32⟩ : BufTy).Contents (Elt F) → (⟨S1024x384, .f32⟩ : BufTy).Contents (Elt F)),
    StableHlo.unary main_v12_2 main_while0b_v39 (broadcastInDim S1x384 ![1] bcast_S384_S1x384_1 : (⟨S384, .f32⟩ : BufTy).Contents (Elt F) → (⟨S1x384, .f32⟩ : BufTy).Contents (Elt F)),
    StableHlo.unary main_while0b_v39 main_while0b_v40 (broadcastInDim S1024x384 ![0, 1] bcast_S1x384_S1024x384_0_1 : (⟨S1x384, .f32⟩ : BufTy).Contents (Elt F) → (⟨S1024x384, .f32⟩ : BufTy).Contents (Elt F)),
    StableHlo.binary main_while0b_v38 main_while0b_v40 main_while0b_v41 (addf : (⟨S1024x384, .f32⟩ : BufTy).Contents (Elt F) → (⟨S1024x384, .f32⟩ : BufTy).Contents (Elt F) → (⟨S1024x384, .f32⟩ : BufTy).Contents (Elt F)) ]

/-- What `inOps0` writes. -/
abbrev inOps0W : List (Ref sig .tc) := [main_while0b_call0_c, main_while0b_call0_c_0, main_while0b_call0_v0, main_while0b_v36, main_while0b_v37, main_while0b_v38, main_while0b_v39, main_while0b_v40, main_while0b_v41]

theorem inOps0_writes : (inOps0 : List (HloOp τ sig (Elt F))).Forall fun op => op.writes ⊆ (inOps0W.map (Proc.devRef (τ := τ) .tc)).toFinset :=
  StableHlo.forall_writes_sub_of_map rfl

theorem inOps0_sub : (inOps0 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the state in the first loop's body. -/
abbrev stOps0 : List (HloOp τ sig (Elt F)) :=
  [ StableHlo.unary main_v12_3 main_while0b_v42 ((transpose S128x384 [1, 0] · transposes_S384x128_S128x384_1_0) : (⟨S384x128, .f32⟩ : BufTy).Contents (Elt F) → (⟨S128x384, .f32⟩ : BufTy).Contents (Elt F)),
    StableHlo.binary main_v12_6 main_while0b_v42 main_while0b_v43 ((fun l r => Host.dotGeneral dot_S1024x128_S128x384_S1024x384_1_0_0_1_n_n none l r) : (⟨S1024x128, .f32⟩ : BufTy).Contents (Elt F) → (⟨S128x384, .f32⟩ : BufTy).Contents (Elt F) → (⟨S1024x384, .f32⟩ : BufTy).Contents (Elt F)),
    StableHlo.unary main_v12_4 main_while0b_v44 (broadcastInDim S1x384 ![1] bcast_S384_S1x384_1 : (⟨S384, .f32⟩ : BufTy).Contents (Elt F) → (⟨S1x384, .f32⟩ : BufTy).Contents (Elt F)),
    StableHlo.unary main_while0b_v44 main_while0b_v45 (broadcastInDim S1024x384 ![0, 1] bcast_S1x384_S1024x384_0_1 : (⟨S1x384, .f32⟩ : BufTy).Contents (Elt F) → (⟨S1024x384, .f32⟩ : BufTy).Contents (Elt F)),
    StableHlo.binary main_while0b_v43 main_while0b_v45 main_while0b_v46 (addf : (⟨S1024x384, .f32⟩ : BufTy).Contents (Elt F) → (⟨S1024x384, .f32⟩ : BufTy).Contents (Elt F) → (⟨S1024x384, .f32⟩ : BufTy).Contents (Elt F)) ]

/-- What `stOps0` writes. -/
abbrev stOps0W : List (Ref sig .tc) := [main_while0b_v42, main_while0b_v43, main_while0b_v44, main_while0b_v45, main_while0b_v46]

theorem stOps0_writes : (stOps0 : List (HloOp τ sig (Elt F))).Forall fun op => op.writes ⊆ (stOps0W.map (Proc.devRef (τ := τ) .tc)).toFinset :=
  StableHlo.forall_writes_sub_of_map rfl

theorem stOps0_sub : (stOps0 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the gates in the first loop's body. -/
abbrev gateOps0 : List (HloOp τ sig (Elt F)) :=
  [ StableHlo.unary main_while0b_v41 main_while0b_v47 ((extractStridedSlice S1024x128 ![0, 0] · slices_S1024x384_S1024x128_0_0) : (⟨S1024x384, .f32⟩ : BufTy).Contents (Elt F) → (⟨S1024x128, .f32⟩ : BufTy).Contents (Elt F)),
    StableHlo.unary main_while0b_v41 main_while0b_v48 ((extractStridedSlice S1024x128 ![0, 128] · slices_S1024x384_S1024x128_0_128) : (⟨S1024x384, .f32⟩ : BufTy).Contents (Elt F) → (⟨S1024x128, .f32⟩ : BufTy).Contents (Elt F)),
    StableHlo.unary main_while0b_v41 main_while0b_v49 ((extractStridedSlice S1024x128 ![0, 256] · slices_S1024x384_S1024x128_0_256) : (⟨S1024x384, .f32⟩ : BufTy).Contents (Elt F) → (⟨S1024x128, .f32⟩ : BufTy).Contents (Elt F)),
    StableHlo.unary main_while0b_v46 main_while0b_v50 ((extractStridedSlice S1024x128 ![0, 0] · slices_S1024x384_S1024x128_0_0) : (⟨S1024x384, .f32⟩ : BufTy).Contents (Elt F) → (⟨S1024x128, .f32⟩ : BufTy).Contents (Elt F)),
    StableHlo.unary main_while0b_v46 main_while0b_v51 ((extractStridedSlice S1024x128 ![0, 128] · slices_S1024x384_S1024x128_0_128) : (⟨S1024x384, .f32⟩ : BufTy).Contents (Elt F) → (⟨S1024x128, .f32⟩ : BufTy).Contents (Elt F)),
    StableHlo.unary main_while0b_v46 main_while0b_v52 ((extractStridedSlice S1024x128 ![0, 256] · slices_S1024x384_S1024x128_0_256) : (⟨S1024x384, .f32⟩ : BufTy).Contents (Elt F) → (⟨S1024x128, .f32⟩ : BufTy).Contents (Elt F)),
    StableHlo.binary main_while0b_v47 main_while0b_v50 main_while0b_v53 (addf : (⟨S1024x128, .f32⟩ : BufTy).Contents (Elt F) → (⟨S1024x128, .f32⟩ : BufTy).Contents (Elt F) → (⟨S1024x128, .f32⟩ : BufTy).Contents (Elt F)),
    StableHlo.unary main_while0b_v53 main_while0b_v54 (Host.negf : (⟨S1024x128, .f32⟩ : BufTy).Contents (Elt F) → (⟨S1024x128, .f32⟩ : BufTy).Contents (Elt F)),
    StableHlo.unary main_while0b_v54 main_while0b_v55 (Host.exp : (⟨S1024x128, .f32⟩ : BufTy).Contents (Elt F) → (⟨S1024x128, .f32⟩ : BufTy).Contents (Elt F)),
    StableHlo.nullary main_while0b_cst_15 (constant S_ .f32 0x3F800000#32),
    StableHlo.unary main_while0b_cst_15 main_while0b_v56 (broadcastInDim S1024x128 ![] bcast_S_S1024x128 : (⟨S_, .f32⟩ : BufTy).Contents (Elt F) → (⟨S1024x128, .f32⟩ : BufTy).Contents (Elt F)),
    StableHlo.binary main_while0b_v56 main_while0b_v55 main_while0b_v57 (addf : (⟨S1024x128, .f32⟩ : BufTy).Contents (Elt F) → (⟨S1024x128, .f32⟩ : BufTy).Contents (Elt F) → (⟨S1024x128, .f32⟩ : BufTy).Contents (Elt F)),
    StableHlo.nullary main_while0b_cst_16 (constant S_ .f32 0x3F800000#32),
    StableHlo.unary main_while0b_cst_16 main_while0b_v58 (broadcastInDim S1024x128 ![] bcast_S_S1024x128 : (⟨S_, .f32⟩ : BufTy).Contents (Elt F) → (⟨S1024x128, .f32⟩ : BufTy).Contents (Elt F)),
    StableHlo.binary main_while0b_v58 main_while0b_v57 main_while0b_v59 (Host.divf : (⟨S1024x128, .f32⟩ : BufTy).Contents (Elt F) → (⟨S1024x128, .f32⟩ : BufTy).Contents (Elt F) → (⟨S1024x128, .f32⟩ : BufTy).Contents (Elt F)),
    StableHlo.binary main_while0b_v48 main_while0b_v51 main_while0b_v60 (addf : (⟨S1024x128, .f32⟩ : BufTy).Contents (Elt F) → (⟨S1024x128, .f32⟩ : BufTy).Contents (Elt F) → (⟨S1024x128, .f32⟩ : BufTy).Contents (Elt F)),
    StableHlo.unary main_while0b_v60 main_while0b_v61 (Host.negf : (⟨S1024x128, .f32⟩ : BufTy).Contents (Elt F) → (⟨S1024x128, .f32⟩ : BufTy).Contents (Elt F)),
    StableHlo.unary main_while0b_v61 main_while0b_v62 (Host.exp : (⟨S1024x128, .f32⟩ : BufTy).Contents (Elt F) → (⟨S1024x128, .f32⟩ : BufTy).Contents (Elt F)),
    StableHlo.nullary main_while0b_cst_17 (constant S_ .f32 0x3F800000#32),
    StableHlo.unary main_while0b_cst_17 main_while0b_v63 (broadcastInDim S1024x128 ![] bcast_S_S1024x128 : (⟨S_, .f32⟩ : BufTy).Contents (Elt F) → (⟨S1024x128, .f32⟩ : BufTy).Contents (Elt F)),
    StableHlo.binary main_while0b_v63 main_while0b_v62 main_while0b_v64 (addf : (⟨S1024x128, .f32⟩ : BufTy).Contents (Elt F) → (⟨S1024x128, .f32⟩ : BufTy).Contents (Elt F) → (⟨S1024x128, .f32⟩ : BufTy).Contents (Elt F)),
    StableHlo.nullary main_while0b_cst_18 (constant S_ .f32 0x3F800000#32),
    StableHlo.unary main_while0b_cst_18 main_while0b_v65 (broadcastInDim S1024x128 ![] bcast_S_S1024x128 : (⟨S_, .f32⟩ : BufTy).Contents (Elt F) → (⟨S1024x128, .f32⟩ : BufTy).Contents (Elt F)),
    StableHlo.binary main_while0b_v65 main_while0b_v64 main_while0b_v66 (Host.divf : (⟨S1024x128, .f32⟩ : BufTy).Contents (Elt F) → (⟨S1024x128, .f32⟩ : BufTy).Contents (Elt F) → (⟨S1024x128, .f32⟩ : BufTy).Contents (Elt F)),
    StableHlo.binary main_while0b_v59 main_while0b_v52 main_while0b_v67 (mulf : (⟨S1024x128, .f32⟩ : BufTy).Contents (Elt F) → (⟨S1024x128, .f32⟩ : BufTy).Contents (Elt F) → (⟨S1024x128, .f32⟩ : BufTy).Contents (Elt F)),
    StableHlo.binary main_while0b_v49 main_while0b_v67 main_while0b_v68 (addf : (⟨S1024x128, .f32⟩ : BufTy).Contents (Elt F) → (⟨S1024x128, .f32⟩ : BufTy).Contents (Elt F) → (⟨S1024x128, .f32⟩ : BufTy).Contents (Elt F)),
    StableHlo.unary main_while0b_v68 main_while0b_v69 (Host.tanh : (⟨S1024x128, .f32⟩ : BufTy).Contents (Elt F) → (⟨S1024x128, .f32⟩ : BufTy).Contents (Elt F)),
    StableHlo.nullary main_while0b_cst_19 (constant S_ .f32 0x3F800000#32),
    StableHlo.unary main_while0b_cst_19 main_while0b_v70 (broadcastInDim S1024x128 ![] bcast_S_S1024x128 : (⟨S_, .f32⟩ : BufTy).Contents (Elt F) → (⟨S1024x128, .f32⟩ : BufTy).Contents (Elt F)),
    StableHlo.binary main_while0b_v70 main_while0b_v66 main_while0b_v71 (subf : (⟨S1024x128, .f32⟩ : BufTy).Contents (Elt F) → (⟨S1024x128, .f32⟩ : BufTy).Contents (Elt F) → (⟨S1024x128, .f32⟩ : BufTy).Contents (Elt F)),
    StableHlo.binary main_while0b_v71 main_while0b_v69 main_while0b_v72 (mulf : (⟨S1024x128, .f32⟩ : BufTy).Contents (Elt F) → (⟨S1024x128, .f32⟩ : BufTy).Contents (Elt F) → (⟨S1024x128, .f32⟩ : BufTy).Contents (Elt F)),
    StableHlo.binary main_while0b_v66 main_v12_6 main_while0b_v73 (mulf : (⟨S1024x128, .f32⟩ : BufTy).Contents (Elt F) → (⟨S1024x128, .f32⟩ : BufTy).Contents (Elt F) → (⟨S1024x128, .f32⟩ : BufTy).Contents (Elt F)),
    StableHlo.binary main_while0b_v72 main_while0b_v73 main_while0b_v74 (addf : (⟨S1024x128, .f32⟩ : BufTy).Contents (Elt F) → (⟨S1024x128, .f32⟩ : BufTy).Contents (Elt F) → (⟨S1024x128, .f32⟩ : BufTy).Contents (Elt F)) ]

/-- What `gateOps0` writes. -/
abbrev gateOps0W : List (Ref sig .tc) := [main_while0b_v47, main_while0b_v48, main_while0b_v49, main_while0b_v50, main_while0b_v51, main_while0b_v52, main_while0b_v53, main_while0b_v54, main_while0b_v55, main_while0b_cst_15, main_while0b_v56, main_while0b_v57, main_while0b_cst_16, main_while0b_v58, main_while0b_v59, main_while0b_v60, main_while0b_v61, main_while0b_v62, main_while0b_cst_17, main_while0b_v63, main_while0b_v64, main_while0b_cst_18, main_while0b_v65, main_while0b_v66, main_while0b_v67, main_while0b_v68, main_while0b_v69, main_while0b_cst_19, main_while0b_v70, main_while0b_v71, main_while0b_v72, main_while0b_v73, main_while0b_v74]

theorem gateOps0_writes : (gateOps0 : List (HloOp τ sig (Elt F))).Forall fun op => op.writes ⊆ (gateOps0W.map (Proc.devRef (τ := τ) .tc)).toFinset :=
  StableHlo.forall_writes_sub_of_map rfl

theorem gateOps0_sub : (gateOps0 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations that store the new state in the first loop's body. -/
abbrev outOps0 : List (HloOp τ sig (Elt F)) :=
  [ StableHlo.TRef.unary (.of main_while0b_v74 : StableHlo.TRef sig ⟨S1024x128, .f32⟩) main_while0b_call1.v0 (broadcastInDim S1x1024x128 ![1, 2] bcast_S1024x128_S1x1024x128_1_2),
    StableHlo.TRef.nullary main_while0b_call1.c (constantI S_ 32 0#32),
    StableHlo.TRef.nullary main_while0b_call1.c_0 (constantI S_ 32 0#32),
    StableHlo.TRef.binaryIndexed (.of main_v12_7 : StableHlo.TRef sig ⟨S50x1024x128, .f32⟩) main_while0b_call1.v0 ![(.of main_v12_5 : StableHlo.TRef sig ⟨S_, .i32⟩), main_while0b_call1.c, main_while0b_call1.c_0] main_while0b_call1.v1 (fun x u i => Host.dynamicUpdateSlice x u (fun k => (i k (Shape.Idx.first h_S_)).toInt) updateFits_S50x1024x128_S1x1024x128),
    StableHlo.nullary main_while0b_c_20 (constantI S_ 32 1#32),
    StableHlo.binary main_v12_5 main_while0b_c_20 main_while0b_v76 (addi : (⟨S_, .i32⟩ : BufTy).Contents (Elt F) → (⟨S_, .i32⟩ : BufTy).Contents (Elt F) → (⟨S_, .i32⟩ : BufTy).Contents (Elt F)),
    StableHlo.unary main_while0b_v76 main_v12_5 id,
    StableHlo.unary main_while0b_v74 main_v12_6 id,
    StableHlo.unary main_while0b_v75 main_v12_7 id ]

/-- What `outOps0` writes. -/
abbrev outOps0W : List (Ref sig .tc) := [main_while0b_call1_v0, main_while0b_call1_c, main_while0b_call1_c_0, main_while0b_v75, main_while0b_c_20, main_while0b_v76, main_v12_5, main_v12_6, main_v12_7]

theorem outOps0_writes : (outOps0 : List (HloOp τ sig (Elt F))).Forall fun op => op.writes ⊆ (outOps0W.map (Proc.devRef (τ := τ) .tc)).toFinset :=
  StableHlo.forall_writes_sub_of_map rfl

theorem outOps0_sub : (outOps0 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The second loop's condition. -/
abbrev condOps1 : List (HloOp τ sig (Elt F)) :=
  [ StableHlo.nullary main_while1c_c_15 (constantI S_ 32 50#32),
    StableHlo.binary main_v15_5 main_while1c_c_15 main_while1c_v36 (cmpi .slt : (⟨S_, .i32⟩ : BufTy).Contents (Elt F) → (⟨S_, .i32⟩ : BufTy).Contents (Elt F) → (⟨S_, .i1⟩ : BufTy).Contents (Elt F)) ]

/-- What `condOps1` writes. -/
abbrev condOps1W : List (Ref sig .tc) := [main_while1c_c_15, main_while1c_v36]

theorem condOps1_writes : (condOps1 : List (HloOp τ sig (Elt F))).Forall fun op => op.writes ⊆ (condOps1W.map (Proc.devRef (τ := τ) .tc)).toFinset :=
  StableHlo.forall_writes_sub_of_map rfl

theorem condOps1_sub : (condOps1 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the input in the second loop's body. -/
abbrev inOps1 : List (HloOp τ sig (Elt F)) :=
  [ StableHlo.TRef.nullary main_while1b_call2.c (constantI S_ 32 0#32),
    StableHlo.TRef.nullary main_while1b_call2.c_0 (constantI S_ 32 0#32),
    StableHlo.TRef.unaryIndexed (.of main_v15_0 : StableHlo.TRef sig ⟨S50x1024x208, .f32⟩) ![(.of main_v15_5 : StableHlo.TRef sig ⟨S_, .i32⟩), main_while1b_call2.c, main_while1b_call2.c_0] main_while1b_call2.v0 (fun x i => Host.dynamicSlice S1x1024x208 x (fun k => (i k (Shape.Idx.first h_S_)).toInt) sliceFits_S50x1024x208_S1x1024x208),
    StableHlo.TRef.reshape main_while1b_call2.v0 main_while1b_call2.v1 (rfl : (.f32 : EltTy) = .f32) shapeCasts_S1x1024x208_S1024x208,
    StableHlo.unary main_v15_1 main_while1b_v37 ((transpose S208x384 [1, 0] · transposes_S384x208_S208x384_1_0) : (⟨S384x208, .f32⟩ : BufTy).Contents (Elt F) → (⟨S208x384, .f32⟩ : BufTy).Contents (Elt F)),
    StableHlo.binary main_while1b_v36 main_while1b_v37 main_while1b_v38 ((fun l r => Host.dotGeneral dot_S1024x208_S208x384_S1024x384_1_0_0_1_n_n none l r) : (⟨S1024x208, .f32⟩ : BufTy).Contents (Elt F) → (⟨S208x384, .f32⟩ : BufTy).Contents (Elt F) → (⟨S1024x384, .f32⟩ : BufTy).Contents (Elt F)),
    StableHlo.unary main_v15_2 main_while1b_v39 (broadcastInDim S1x384 ![1] bcast_S384_S1x384_1 : (⟨S384, .f32⟩ : BufTy).Contents (Elt F) → (⟨S1x384, .f32⟩ : BufTy).Contents (Elt F)),
    StableHlo.unary main_while1b_v39 main_while1b_v40 (broadcastInDim S1024x384 ![0, 1] bcast_S1x384_S1024x384_0_1 : (⟨S1x384, .f32⟩ : BufTy).Contents (Elt F) → (⟨S1024x384, .f32⟩ : BufTy).Contents (Elt F)),
    StableHlo.binary main_while1b_v38 main_while1b_v40 main_while1b_v41 (addf : (⟨S1024x384, .f32⟩ : BufTy).Contents (Elt F) → (⟨S1024x384, .f32⟩ : BufTy).Contents (Elt F) → (⟨S1024x384, .f32⟩ : BufTy).Contents (Elt F)) ]

/-- What `inOps1` writes. -/
abbrev inOps1W : List (Ref sig .tc) := [main_while1b_call2_c, main_while1b_call2_c_0, main_while1b_call2_v0, main_while1b_v36, main_while1b_v37, main_while1b_v38, main_while1b_v39, main_while1b_v40, main_while1b_v41]

theorem inOps1_writes : (inOps1 : List (HloOp τ sig (Elt F))).Forall fun op => op.writes ⊆ (inOps1W.map (Proc.devRef (τ := τ) .tc)).toFinset :=
  StableHlo.forall_writes_sub_of_map rfl

theorem inOps1_sub : (inOps1 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the state in the second loop's body. -/
abbrev stOps1 : List (HloOp τ sig (Elt F)) :=
  [ StableHlo.unary main_v15_3 main_while1b_v42 ((transpose S128x384 [1, 0] · transposes_S384x128_S128x384_1_0) : (⟨S384x128, .f32⟩ : BufTy).Contents (Elt F) → (⟨S128x384, .f32⟩ : BufTy).Contents (Elt F)),
    StableHlo.binary main_v15_6 main_while1b_v42 main_while1b_v43 ((fun l r => Host.dotGeneral dot_S1024x128_S128x384_S1024x384_1_0_0_1_n_n none l r) : (⟨S1024x128, .f32⟩ : BufTy).Contents (Elt F) → (⟨S128x384, .f32⟩ : BufTy).Contents (Elt F) → (⟨S1024x384, .f32⟩ : BufTy).Contents (Elt F)),
    StableHlo.unary main_v15_4 main_while1b_v44 (broadcastInDim S1x384 ![1] bcast_S384_S1x384_1 : (⟨S384, .f32⟩ : BufTy).Contents (Elt F) → (⟨S1x384, .f32⟩ : BufTy).Contents (Elt F)),
    StableHlo.unary main_while1b_v44 main_while1b_v45 (broadcastInDim S1024x384 ![0, 1] bcast_S1x384_S1024x384_0_1 : (⟨S1x384, .f32⟩ : BufTy).Contents (Elt F) → (⟨S1024x384, .f32⟩ : BufTy).Contents (Elt F)),
    StableHlo.binary main_while1b_v43 main_while1b_v45 main_while1b_v46 (addf : (⟨S1024x384, .f32⟩ : BufTy).Contents (Elt F) → (⟨S1024x384, .f32⟩ : BufTy).Contents (Elt F) → (⟨S1024x384, .f32⟩ : BufTy).Contents (Elt F)) ]

/-- What `stOps1` writes. -/
abbrev stOps1W : List (Ref sig .tc) := [main_while1b_v42, main_while1b_v43, main_while1b_v44, main_while1b_v45, main_while1b_v46]

theorem stOps1_writes : (stOps1 : List (HloOp τ sig (Elt F))).Forall fun op => op.writes ⊆ (stOps1W.map (Proc.devRef (τ := τ) .tc)).toFinset :=
  StableHlo.forall_writes_sub_of_map rfl

theorem stOps1_sub : (stOps1 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations of the gates in the second loop's body. -/
abbrev gateOps1 : List (HloOp τ sig (Elt F)) :=
  [ StableHlo.unary main_while1b_v41 main_while1b_v47 ((extractStridedSlice S1024x128 ![0, 0] · slices_S1024x384_S1024x128_0_0) : (⟨S1024x384, .f32⟩ : BufTy).Contents (Elt F) → (⟨S1024x128, .f32⟩ : BufTy).Contents (Elt F)),
    StableHlo.unary main_while1b_v41 main_while1b_v48 ((extractStridedSlice S1024x128 ![0, 128] · slices_S1024x384_S1024x128_0_128) : (⟨S1024x384, .f32⟩ : BufTy).Contents (Elt F) → (⟨S1024x128, .f32⟩ : BufTy).Contents (Elt F)),
    StableHlo.unary main_while1b_v41 main_while1b_v49 ((extractStridedSlice S1024x128 ![0, 256] · slices_S1024x384_S1024x128_0_256) : (⟨S1024x384, .f32⟩ : BufTy).Contents (Elt F) → (⟨S1024x128, .f32⟩ : BufTy).Contents (Elt F)),
    StableHlo.unary main_while1b_v46 main_while1b_v50 ((extractStridedSlice S1024x128 ![0, 0] · slices_S1024x384_S1024x128_0_0) : (⟨S1024x384, .f32⟩ : BufTy).Contents (Elt F) → (⟨S1024x128, .f32⟩ : BufTy).Contents (Elt F)),
    StableHlo.unary main_while1b_v46 main_while1b_v51 ((extractStridedSlice S1024x128 ![0, 128] · slices_S1024x384_S1024x128_0_128) : (⟨S1024x384, .f32⟩ : BufTy).Contents (Elt F) → (⟨S1024x128, .f32⟩ : BufTy).Contents (Elt F)),
    StableHlo.unary main_while1b_v46 main_while1b_v52 ((extractStridedSlice S1024x128 ![0, 256] · slices_S1024x384_S1024x128_0_256) : (⟨S1024x384, .f32⟩ : BufTy).Contents (Elt F) → (⟨S1024x128, .f32⟩ : BufTy).Contents (Elt F)),
    StableHlo.binary main_while1b_v47 main_while1b_v50 main_while1b_v53 (addf : (⟨S1024x128, .f32⟩ : BufTy).Contents (Elt F) → (⟨S1024x128, .f32⟩ : BufTy).Contents (Elt F) → (⟨S1024x128, .f32⟩ : BufTy).Contents (Elt F)),
    StableHlo.unary main_while1b_v53 main_while1b_v54 (Host.negf : (⟨S1024x128, .f32⟩ : BufTy).Contents (Elt F) → (⟨S1024x128, .f32⟩ : BufTy).Contents (Elt F)),
    StableHlo.unary main_while1b_v54 main_while1b_v55 (Host.exp : (⟨S1024x128, .f32⟩ : BufTy).Contents (Elt F) → (⟨S1024x128, .f32⟩ : BufTy).Contents (Elt F)),
    StableHlo.nullary main_while1b_cst_15 (constant S_ .f32 0x3F800000#32),
    StableHlo.unary main_while1b_cst_15 main_while1b_v56 (broadcastInDim S1024x128 ![] bcast_S_S1024x128 : (⟨S_, .f32⟩ : BufTy).Contents (Elt F) → (⟨S1024x128, .f32⟩ : BufTy).Contents (Elt F)),
    StableHlo.binary main_while1b_v56 main_while1b_v55 main_while1b_v57 (addf : (⟨S1024x128, .f32⟩ : BufTy).Contents (Elt F) → (⟨S1024x128, .f32⟩ : BufTy).Contents (Elt F) → (⟨S1024x128, .f32⟩ : BufTy).Contents (Elt F)),
    StableHlo.nullary main_while1b_cst_16 (constant S_ .f32 0x3F800000#32),
    StableHlo.unary main_while1b_cst_16 main_while1b_v58 (broadcastInDim S1024x128 ![] bcast_S_S1024x128 : (⟨S_, .f32⟩ : BufTy).Contents (Elt F) → (⟨S1024x128, .f32⟩ : BufTy).Contents (Elt F)),
    StableHlo.binary main_while1b_v58 main_while1b_v57 main_while1b_v59 (Host.divf : (⟨S1024x128, .f32⟩ : BufTy).Contents (Elt F) → (⟨S1024x128, .f32⟩ : BufTy).Contents (Elt F) → (⟨S1024x128, .f32⟩ : BufTy).Contents (Elt F)),
    StableHlo.binary main_while1b_v48 main_while1b_v51 main_while1b_v60 (addf : (⟨S1024x128, .f32⟩ : BufTy).Contents (Elt F) → (⟨S1024x128, .f32⟩ : BufTy).Contents (Elt F) → (⟨S1024x128, .f32⟩ : BufTy).Contents (Elt F)),
    StableHlo.unary main_while1b_v60 main_while1b_v61 (Host.negf : (⟨S1024x128, .f32⟩ : BufTy).Contents (Elt F) → (⟨S1024x128, .f32⟩ : BufTy).Contents (Elt F)),
    StableHlo.unary main_while1b_v61 main_while1b_v62 (Host.exp : (⟨S1024x128, .f32⟩ : BufTy).Contents (Elt F) → (⟨S1024x128, .f32⟩ : BufTy).Contents (Elt F)),
    StableHlo.nullary main_while1b_cst_17 (constant S_ .f32 0x3F800000#32),
    StableHlo.unary main_while1b_cst_17 main_while1b_v63 (broadcastInDim S1024x128 ![] bcast_S_S1024x128 : (⟨S_, .f32⟩ : BufTy).Contents (Elt F) → (⟨S1024x128, .f32⟩ : BufTy).Contents (Elt F)),
    StableHlo.binary main_while1b_v63 main_while1b_v62 main_while1b_v64 (addf : (⟨S1024x128, .f32⟩ : BufTy).Contents (Elt F) → (⟨S1024x128, .f32⟩ : BufTy).Contents (Elt F) → (⟨S1024x128, .f32⟩ : BufTy).Contents (Elt F)),
    StableHlo.nullary main_while1b_cst_18 (constant S_ .f32 0x3F800000#32),
    StableHlo.unary main_while1b_cst_18 main_while1b_v65 (broadcastInDim S1024x128 ![] bcast_S_S1024x128 : (⟨S_, .f32⟩ : BufTy).Contents (Elt F) → (⟨S1024x128, .f32⟩ : BufTy).Contents (Elt F)),
    StableHlo.binary main_while1b_v65 main_while1b_v64 main_while1b_v66 (Host.divf : (⟨S1024x128, .f32⟩ : BufTy).Contents (Elt F) → (⟨S1024x128, .f32⟩ : BufTy).Contents (Elt F) → (⟨S1024x128, .f32⟩ : BufTy).Contents (Elt F)),
    StableHlo.binary main_while1b_v59 main_while1b_v52 main_while1b_v67 (mulf : (⟨S1024x128, .f32⟩ : BufTy).Contents (Elt F) → (⟨S1024x128, .f32⟩ : BufTy).Contents (Elt F) → (⟨S1024x128, .f32⟩ : BufTy).Contents (Elt F)),
    StableHlo.binary main_while1b_v49 main_while1b_v67 main_while1b_v68 (addf : (⟨S1024x128, .f32⟩ : BufTy).Contents (Elt F) → (⟨S1024x128, .f32⟩ : BufTy).Contents (Elt F) → (⟨S1024x128, .f32⟩ : BufTy).Contents (Elt F)),
    StableHlo.unary main_while1b_v68 main_while1b_v69 (Host.tanh : (⟨S1024x128, .f32⟩ : BufTy).Contents (Elt F) → (⟨S1024x128, .f32⟩ : BufTy).Contents (Elt F)),
    StableHlo.nullary main_while1b_cst_19 (constant S_ .f32 0x3F800000#32),
    StableHlo.unary main_while1b_cst_19 main_while1b_v70 (broadcastInDim S1024x128 ![] bcast_S_S1024x128 : (⟨S_, .f32⟩ : BufTy).Contents (Elt F) → (⟨S1024x128, .f32⟩ : BufTy).Contents (Elt F)),
    StableHlo.binary main_while1b_v70 main_while1b_v66 main_while1b_v71 (subf : (⟨S1024x128, .f32⟩ : BufTy).Contents (Elt F) → (⟨S1024x128, .f32⟩ : BufTy).Contents (Elt F) → (⟨S1024x128, .f32⟩ : BufTy).Contents (Elt F)),
    StableHlo.binary main_while1b_v71 main_while1b_v69 main_while1b_v72 (mulf : (⟨S1024x128, .f32⟩ : BufTy).Contents (Elt F) → (⟨S1024x128, .f32⟩ : BufTy).Contents (Elt F) → (⟨S1024x128, .f32⟩ : BufTy).Contents (Elt F)),
    StableHlo.binary main_while1b_v66 main_v15_6 main_while1b_v73 (mulf : (⟨S1024x128, .f32⟩ : BufTy).Contents (Elt F) → (⟨S1024x128, .f32⟩ : BufTy).Contents (Elt F) → (⟨S1024x128, .f32⟩ : BufTy).Contents (Elt F)),
    StableHlo.binary main_while1b_v72 main_while1b_v73 main_while1b_v74 (addf : (⟨S1024x128, .f32⟩ : BufTy).Contents (Elt F) → (⟨S1024x128, .f32⟩ : BufTy).Contents (Elt F) → (⟨S1024x128, .f32⟩ : BufTy).Contents (Elt F)) ]

/-- What `gateOps1` writes. -/
abbrev gateOps1W : List (Ref sig .tc) := [main_while1b_v47, main_while1b_v48, main_while1b_v49, main_while1b_v50, main_while1b_v51, main_while1b_v52, main_while1b_v53, main_while1b_v54, main_while1b_v55, main_while1b_cst_15, main_while1b_v56, main_while1b_v57, main_while1b_cst_16, main_while1b_v58, main_while1b_v59, main_while1b_v60, main_while1b_v61, main_while1b_v62, main_while1b_cst_17, main_while1b_v63, main_while1b_v64, main_while1b_cst_18, main_while1b_v65, main_while1b_v66, main_while1b_v67, main_while1b_v68, main_while1b_v69, main_while1b_cst_19, main_while1b_v70, main_while1b_v71, main_while1b_v72, main_while1b_v73, main_while1b_v74]

theorem gateOps1_writes : (gateOps1 : List (HloOp τ sig (Elt F))).Forall fun op => op.writes ⊆ (gateOps1W.map (Proc.devRef (τ := τ) .tc)).toFinset :=
  StableHlo.forall_writes_sub_of_map rfl

theorem gateOps1_sub : (gateOps1 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

/-- The operations that store the new state in the second loop's body. -/
abbrev outOps1 : List (HloOp τ sig (Elt F)) :=
  [ StableHlo.TRef.unary (.of main_while1b_v74 : StableHlo.TRef sig ⟨S1024x128, .f32⟩) main_while1b_call3.v0 (broadcastInDim S1x1024x128 ![1, 2] bcast_S1024x128_S1x1024x128_1_2),
    StableHlo.TRef.nullary main_while1b_call3.c (constantI S_ 32 0#32),
    StableHlo.TRef.nullary main_while1b_call3.c_0 (constantI S_ 32 0#32),
    StableHlo.TRef.binaryIndexed (.of main_v15_7 : StableHlo.TRef sig ⟨S50x1024x128, .f32⟩) main_while1b_call3.v0 ![(.of main_v15_5 : StableHlo.TRef sig ⟨S_, .i32⟩), main_while1b_call3.c, main_while1b_call3.c_0] main_while1b_call3.v1 (fun x u i => Host.dynamicUpdateSlice x u (fun k => (i k (Shape.Idx.first h_S_)).toInt) updateFits_S50x1024x128_S1x1024x128),
    StableHlo.nullary main_while1b_c_20 (constantI S_ 32 1#32),
    StableHlo.binary main_v15_5 main_while1b_c_20 main_while1b_v76 (addi : (⟨S_, .i32⟩ : BufTy).Contents (Elt F) → (⟨S_, .i32⟩ : BufTy).Contents (Elt F) → (⟨S_, .i32⟩ : BufTy).Contents (Elt F)),
    StableHlo.unary main_while1b_v76 main_v15_5 id,
    StableHlo.unary main_while1b_v74 main_v15_6 id,
    StableHlo.unary main_while1b_v75 main_v15_7 id ]

/-- What `outOps1` writes. -/
abbrev outOps1W : List (Ref sig .tc) := [main_while1b_call3_v0, main_while1b_call3_c, main_while1b_call3_c_0, main_while1b_v75, main_while1b_c_20, main_while1b_v76, main_v15_5, main_v15_6, main_v15_7]

theorem outOps1_writes : (outOps1 : List (HloOp τ sig (Elt F))).Forall fun op => op.writes ⊆ (outOps1W.map (Proc.devRef (τ := τ) .tc)).toFinset :=
  StableHlo.forall_writes_sub_of_map rfl

theorem outOps1_sub : (outOps1 : List (HloOp τ sig (Elt F))).Forall fun op => op.bufs ⊆ StableHlo.tcRefs τ sig := by
  simp only [List.Forall, StableHlo.unary_bufs_sub, StableHlo.nullary_bufs_sub, StableHlo.binary_bufs_sub, StableHlo.ternary_bufs_sub,
    StableHlo.reshape_bufs_sub, StableHlo.nary_bufs_sub, StableHlo.unaryIndexed_bufs_sub, StableHlo.binaryIndexed_bufs_sub, and_self]

end Cert.Proof.Ref

end
-- ==== Proof.RefRun.lean ====
/-
  The reference program's run: it ends, every semaphore is at zero, and every buffer holds what the operations in order
  leave in it, each loop's body fifty times.
-/
module

public import proofs.«01_k».proof.Proof.RefOps
public import Idealize.ShloMosaic.Lib.Pipeline.Quiescent

@[expose] public section

noncomputable section

namespace Cert.Proof.Ref

open Cert.ReferenceIdeal

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)

variable {F : FTy → Type} [FloatOps F]

local notation "𝕄" => MT nD τ sig Unit (Elt F) ℕ (Option PUnit) ℕ

abbrev dr (b : Ref sig .tc) : DevRef τ sig := Proc.devRef .tc b

/-! ## The stretches -/

abbrev body0 : List (List (HloOp τ sig (Elt F))) := [inOps0, stOps0, gateOps0, outOps0]
abbrev body1 : List (List (HloOp τ sig (Elt F))) := [inOps1, stOps1, gateOps1, outOps1]

theorem plain_pre : Plain (F := F) [preOps] := .cons preOps_sub .nil
theorem plain_mid : Plain (F := F) [midOps] := .cons midOps_sub .nil
theorem plain_post : Plain (F := F) [poolOps, headOps] := .cons poolOps_sub (.cons headOps_sub .nil)
theorem plain_body0 : Plain (F := F) body0 := .cons inOps0_sub (.cons stOps0_sub (.cons gateOps0_sub (.cons outOps0_sub .nil)))
theorem plain_body1 : Plain (F := F) body1 := .cons inOps1_sub (.cons stOps1_sub (.cons gateOps1_sub (.cons outOps1_sub .nil)))

theorem body0_chain : main_while0_body (F := F) = Pipeline.chain (body0.map fun ops => (seq ops : Prog _ PUnit)) := by chain_rfl
theorem body1_chain : main_while1_body (F := F) = Pipeline.chain (body1.map fun ops => (seq ops : Prog _ PUnit)) := by chain_rfl

theorem main_chain (c : Dev nD) : main (F := F) c = Pipeline.chain [seq preOps, HostLoop.enter 0, seq midOps, HostLoop.enter 1, seq poolOps, seq headOps] := by
  chain_rfl

/-! ## The contents at each boundary -/

variable (m : (ℓ : Loc nD τ sig) → Buf (Elt F) ℓ)

/-- The contents when the first loop is entered, before its `k`-th test, and after it; the same of the second loop; and at the end. -/
def in0 (c : Dev nD) : Valuation τ sig (Elt F) := after preOps (launchContents m c)
def trip0 (k : ℕ) (c : Dev nD) : Valuation τ sig (Elt F) := atTrip condOps0 body0 (in0 m) k c
def out0 (c : Dev nD) : Valuation τ sig (Elt F) := after condOps0 (trip0 m 50 c)
def in1 (c : Dev nD) : Valuation τ sig (Elt F) := after midOps (out0 m c)
def trip1 (k : ℕ) (c : Dev nD) : Valuation τ sig (Elt F) := atTrip condOps1 body1 (in1 m) k c
def out1 (c : Dev nD) : Valuation τ sig (Elt F) := after condOps1 (trip1 m 50 c)
def fin (c : Dev nD) : Valuation τ sig (Elt F) := after headOps (after poolOps (out1 m c))

theorem trip0_succ (k : ℕ) (c : Dev nD) :
    trip0 m (k + 1) c = after outOps0 (after gateOps0 (after stOps0 (after inOps0 (after condOps0 (trip0 m k c))))) := rfl

theorem trip1_succ (k : ℕ) (c : Dev nD) :
    trip1 m (k + 1) c = after outOps1 (after gateOps1 (after stOps1 (after inOps1 (after condOps1 (trip1 m k c))))) := rfl

/-- A trip of the first loop leaves what its stretches do not write. -/
theorem trip0_keep (b : Ref sig .tc) (hc : b ∉ condOps0W) (hi : b ∉ inOps0W) (hs : b ∉ stOps0W) (hg : b ∉ gateOps0W) (ho : b ∉ outOps0W)
    (c : Dev nD) : ∀ k, trip0 m k c (dr b) = in0 m c (dr b)
  | 0 => rfl
  | k + 1 => by
    rw [trip0_succ, after_of_writes_sub _ _ outOps0_writes ho, after_of_writes_sub _ _ gateOps0_writes hg, after_of_writes_sub _ _ stOps0_writes hs,
      after_of_writes_sub _ _ inOps0_writes hi, after_of_writes_sub _ _ condOps0_writes hc]
    exact trip0_keep b hc hi hs hg ho c k

/-- A trip of the second loop leaves what its stretches do not write. -/
theorem trip1_keep (b : Ref sig .tc) (hc : b ∉ condOps1W) (hi : b ∉ inOps1W) (hs : b ∉ stOps1W) (hg : b ∉ gateOps1W) (ho : b ∉ outOps1W)
    (c : Dev nD) : ∀ k, trip1 m k c (dr b) = in1 m c (dr b)
  | 0 => rfl
  | k + 1 => by
    rw [trip1_succ, after_of_writes_sub _ _ outOps1_writes ho, after_of_writes_sub _ _ gateOps1_writes hg, after_of_writes_sub _ _ stOps1_writes hs,
      after_of_writes_sub _ _ inOps1_writes hi, after_of_writes_sub _ _ condOps1_writes hc]
    exact trip1_keep b hc hi hs hg ho c k

/-! ## The trip counters -/

theorem ctr0_step (X : Valuation τ sig (Elt F)) : after outOps0 X (dr main_v12_5) = addi (X (dr main_v12_5)) (constantI S_ 32 1#32) := by
  after_results
  rfl

theorem ctr1_step (X : Valuation τ sig (Elt F)) : after outOps1 X (dr main_v15_5) = addi (X (dr main_v15_5)) (constantI S_ 32 1#32) := by
  after_results
  rfl

/-- Before its `k`-th test the first loop's counter is `k`. -/
theorem ctr0 (c : Dev nD) : ∀ k, trip0 m k c (dr main_v12_5) = fun _ => Scf.iv 0#32 1#32 k
  | 0 => by
    rw [show trip0 m 0 c = in0 m c from rfl, in0, Scf.iv_zero]
    after_results
    rfl
  | k + 1 => by
    rw [trip0_succ, ctr0_step, after_of_writes_sub _ _ gateOps0_writes (by decide), after_of_writes_sub _ _ stOps0_writes (by decide),
      after_of_writes_sub _ _ inOps0_writes (by decide), after_of_writes_sub _ _ condOps0_writes (by decide), ctr0 c k, Scf.iv_succ]
    rfl

/-- Before its `k`-th test the second loop's counter is `k`. -/
theorem ctr1 (c : Dev nD) : ∀ k, trip1 m k c (dr main_v15_5) = fun _ => Scf.iv 0#32 1#32 k
  | 0 => by
    rw [show trip1 m 0 c = in1 m c from rfl, in1, Scf.iv_zero]
    after_results
    rfl
  | k + 1 => by
    rw [trip1_succ, ctr1_step, after_of_writes_sub _ _ gateOps1_writes (by decide), after_of_writes_sub _ _ stOps1_writes (by decide),
      after_of_writes_sub _ _ inOps1_writes (by decide), after_of_writes_sub _ _ condOps1_writes (by decide), ctr1 c k, Scf.iv_succ]
    rfl

/-! ## The run -/

/-- No kernel is admitted and none has a ticket; no semaphore has a level. -/
def adm : (p : Fin 0) → (pcfgs (F := F) p).Adm := fun p => p.elim0
def tk : Fin 0 → Ticket (Ix := Unit) (Name := ℕ) (U := Option PUnit) (Lvl := ℕ) (nD := nD) (τ := τ) (pcfgs (F := F)) adm := fun j => j.elim0
def L : GSem nD τ sig → Finset Unit := fun _ => ∅
def lv : GSem nD τ sig → Unit → ℕ := fun _ _ => 0

/-- What rides along beside the buffers: the semaphores at zero and the thread's empty debt. -/
abbrev Rc (c : Dev nD) : sProp 𝕄 := iprop(unscopedSems0 c ∗ ∃ W, owes (c : Thread nD τ) (0 : CellTallies nD τ sig Unit) W)

set_option backward.isDefEq.respectTransparency.types false in
/-- The first loop's test: it passes exactly when fewer than fifty trips are done. -/
theorem cond0 : LoopCond (pcfgs (F := F)) defs₀ Variants.none loops Rc (main_while0_cond (F := F)) condOps0 body0 (in0 m) 50 := by
  intro k hk c bd
  have hctr := ctr0 m c k
  unfold trip0 at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 body0 (in0 m) k c) main_v12_5 HostLoop.idx0)
        (HloOp.result _ (atTrip condOps0 body0 (in0 m) k c) main_while0c_c_15 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  isplitl [Hh]; · rw [after_cons, after_cons, after_nil]; iexact Hh
  iexact HR

set_option backward.isDefEq.respectTransparency.types false in
/-- The second loop's test: it passes exactly when fewer than fifty trips are done. -/
theorem cond1 : LoopCond (pcfgs (F := F)) defs₀ Variants.none loops Rc (main_while1_cond (F := F)) condOps1 body1 (in1 m) 50 := by
  intro k hk c bd
  have hctr := ctr1 m c k
  unfold trip1 at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 body1 (in1 m) k c) main_v15_5 HostLoop.idx0)
        (HloOp.result _ (atTrip condOps1 body1 (in1 m) k c) main_while1c_c_15 HostLoop.idx0) = 1#1) (k < 50)
    rw [nullary_result_ne _ _ _ _ (by decide), nullary_result, hctr]
    exact Scf.cmpi_slt_iv_ub_iff (lb := 0#32) (ub := 50#32) (st := 1#32) (by decide) (show k ≤ Scf.trips 0#32 50#32 1#32 from hk)
  isplitl [Hb]; · iexact Hb
  isplitl [Hh]; · rw [after_cons, after_cons, after_nil]; iexact Hh
  iexact HR

abbrev KitSeg : Type 1 := CSeg (pcfgs (F := F)) adm defs₀ Variants.none L lv loops tk

/-- The stretches and the loops of the program, in order. -/
def segs : List (KitSeg (F := F)) :=
  segsOf _ _ _ _ _ _ _ _ Rc [preOps] plain_pre (launchContents m)
    ++ (loopSeg _ _ _ _ _ _ _ _ 0 main_while0_cond main_while0_body rfl condOps0 body0 plain_body0 body0_chain 50 (in0 m) Rc (cond0 m)
      :: (segsOf _ _ _ _ _ _ _ _ Rc [midOps] plain_mid (out0 m)
        ++ (loopSeg _ _ _ _ _ _ _ _ 1 main_while1_cond main_while1_body rfl condOps1 body1 plain_body1 body1_chain 50 (in1 m) Rc (cond1 m)
          :: segsOf _ _ _ _ _ _ _ _ Rc [poolOps, headOps] plain_post (out1 m))))

theorem segs_prog : (segs (F := F) m).map CSeg.prog = [seq preOps, HostLoop.enter 0, seq midOps, HostLoop.enter 1, seq poolOps, seq headOps] := by
  unfold segs
  rw [List.map_append, List.map_cons, List.map_append, List.map_cons, segsOf_prog, segsOf_prog, segsOf_prog]
  rfl

theorem segs_runL : CSeg.runL (segs (F := F) m) = Pipeline.chain [seq preOps, HostLoop.enter 0, seq midOps, HostLoop.enter 1, seq poolOps, seq headOps] :=
  (show CSeg.runL (segs (F := F) m) = Pipeline.chain ((segs (F := F) m).map CSeg.prog) from rfl).trans (congrArg _ (segs_prog m))

/-- At the end each device holds its buffers and its semaphores at zero. -/
abbrev Tend (c : Dev nD) : sProp 𝕄 := iprop(held (c : Thread nD τ) (ucRefs τ sig) (fin m c) ∗ unscopedSems0 c)

theorem segs_chains : CSeg.Chains (fun c => iprop(held (c : Thread nD τ) (ucRefs τ sig) (launchContents m c) ∗ Rc c)) (segs (F := F) m)
    (fun c => iprop(Tend m c ∗ ∃ W, owes (c : Thread nD τ) (0 : CellTallies nD τ sig Unit) W)) := by
  unfold segs
  refine CSeg.Chains.append (segsOf_chains _ _ _ _ _ _ _ _ Rc [preOps] plain_pre _) ⟨fun _ => .rfl,
    CSeg.Chains.append (segsOf_chains _ _ _ _ _ _ _ _ Rc [midOps] plain_mid _) ⟨fun _ => .rfl,
      CSeg.Chains.mono_right (fun c => ?_) _ _ (segsOf_chains _ _ _ _ _ _ _ _ Rc [poolOps, headOps] plain_post _)⟩⟩
  iintro ⟨Hh, Hs, HO⟩
  isplitl [Hh Hs]
  · isplitl [Hh]; · iexact Hh
    iexact Hs
  iexact HO

/-- What the run ends in: every buffer at its last contents and every semaphore at zero. -/
def Ends (r : PUnit × MemSt nD τ sig (Elt F)) : Prop :=
  (∀ (c : Dev nD) (b : Ref sig .tc), (dr b).isScoped = false → r.2.mem ((c : Thread nD τ).loc b) = fin m c (dr b)) ∧ r.2.sem = fun _ => 0

theorem run_ref [∀ e, Nonempty (Elt F e)] (ρ : Dev nD → PrngReg) :
    θ_run (Cert.ReferenceIdeal.defs (F := F)) (onTc (τ := τ) main) ⟨m, fun _ => 0, ρ⟩ (Ends m) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rw [main_chain c]
      rw [segs_runL])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const]); iempintro)
    (T₀ := fun c => iprop(held (c : Thread nD τ) (ucRefs τ sig) (launchContents m c) ∗ Rc c))
    (Tₙ := Tend m)
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, Hs, HO, -, -, -⟩, -⟩
      imodintro
      isplitl [Hh]; · iexact Hh
      isplitl [Hs]; · iexact Hs
      iexists ∅; iexact HO)
    (QY := fun c s => (∀ b ∈ ucRefs τ sig, s.mem ((c : Dev nD), b) = fin m c b)
      ∧ ∀ sm : SemLoc sig, sm.isScoped .tc = false → s.sem ((c.tc : Thread nD τ), sm) = 0)
    (hfin := fun c s' => by
      unfold Tend held
      iintro ⟨⟨Hh, Hs⟩, HSI⟩
      ihave Hr := (pointsTo_read_all (ucRefs τ sig) (fun b => ((c : Dev nD), b)) (fun b => fin m c b) s') $$ [Hh HSI]
      · isplitl [Hh] <;> iassumption
      icases Hr with ⟨%h, HSI⟩
      ihave %hs := (tcUnscoped_read c s') $$ [Hs HSI]
      · isplitl [Hs] <;> iassumption
      imodintro
      isplitr; · ipureintro; exact ⟨h, hs⟩
      iexact HSI)
    (hQ := fun s h hz => ⟨fun c b hb => (h c).1 _ (devRef_mem_ucRefs b hb), funext fun g => by
      obtain ⟨⟨d, p⟩, sm⟩ := g
      by_cases hp : p = .tc
      · subst hp
        by_cases hsm : sm.isScoped .tc = true
        · exact hz _ (Or.inr hsm)
        · exact (h d).2 sm (by simpa using hsm)
      · exact hz _ (Or.inl hp)⟩)

end Cert.Proof.Ref

end
-- ==== Proof.RefVal.lean ====
/-
  The reference's operations read at an index, stretch by stretch.
-/
module

public import proofs.«01_k».proof.Proof.Hidden
public import proofs.«01_k».proof.Proof.RefRun

@[expose] public section

noncomputable section

namespace Cert.Proof.Ref

open Cert.ReferenceIdeal

open Idealize.ShloMosaic Idealize.ShloMosaic.TcCoe Idealize.ShloMosaic.StableHlo

/-- One step's slab cut out of fifty. -/
theorem slab_apply (x : Vec Ideal S50x1024x208 .f32) (st : Fin S50x1024x208.rank → Int) (h : S50x1024x208.Slices (fun _ => 0) S1x1024x208) (k : Fin 50)
    (h0 : st 0 = (k.val : ℤ)) (h1 : st 1 = 0) (h2 : st 2 = 0) (r : Fin 1024) (q : Fin 208) :
    Host.dynamicSlice S1x1024x208 x st h (ix3 0 r q) = x (ix3 k r q) := by
  have c0 := Host.clampedStart_of_le h.1 st 0 k.val h0 (by show k.val + 1 ≤ 50; omega)
  have c1 := Host.clampedStart_of_le h.1 st 1 0 h1 (by show 0 + 1024 ≤ 1024; omega)
  have c2 := Host.clampedStart_of_le h.1 st 2 0 h2 (by show 0 + 208 ≤ 208; omega)
  rw [Host.dynamicSlice_apply]
  refine congrArg x (funext fun a => Fin.ext ?_)
  match a with
  | 0 => show Host.clampedStart _ _ h.1 st 0 + 0 = k.val; omega
  | 1 => show Host.clampedStart _ _ h.1 st 1 + r.val = r.val; omega
  | 2 => show Host.clampedStart _ _ h.1 st 2 + q.val = q.val; omega

/-- One step's slab laid into fifty. -/
theorem laid_apply (x : Vec Ideal S50x1024x128 .f32) (u : Vec Ideal S1x1024x128 .f32) (st : Fin S50x1024x128.rank → Int) (h : S50x1024x128.Slices (fun _ => 0) S1x1024x128) (k : Fin 50)
    (h0 : st 0 = (k.val : ℤ)) (h1 : st 1 = 0) (h2 : st 2 = 0) (l : Fin 50) (r : Fin 1024) (j : Fin 128) :
    Host.dynamicUpdateSlice x u st h (ix3 l r j) = if l = k then u (ix3 0 r j) else x (ix3 l r j) := by
  have c0 := Host.clampedStart_of_le h.1 st 0 k.val h0 (by show k.val + 1 ≤ 50; omega)
  have c1 := Host.clampedStart_of_le h.1 st 1 0 h1 (by show 0 + 1024 ≤ 1024; omega)
  have c2 := Host.clampedStart_of_le h.1 st 2 0 h2 (by show 0 + 128 ≤ 128; omega)
  rw [Host.dynamicUpdateSlice_apply]
  by_cases e : l = k
  · subst e
    rw [if_pos rfl, dif_pos fun a => by
      match a with
      | 0 => show Host.clampedStart _ _ h.1 st 0 ≤ l.val ∧ l.val < Host.clampedStart _ _ h.1 st 0 + 1; omega
      | 1 => show Host.clampedStart _ _ h.1 st 1 ≤ r.val ∧ r.val < Host.clampedStart _ _ h.1 st 1 + 1024; omega
      | 2 => show Host.clampedStart _ _ h.1 st 2 ≤ j.val ∧ j.val < Host.clampedStart _ _ h.1 st 2 + 128; omega]
    refine congrArg u (funext fun a => Fin.ext ?_)
    match a with
    | 0 => show l.val - Host.clampedStart _ _ h.1 st 0 = 0; omega
    | 1 => show r.val - Host.clampedStart _ _ h.1 st 1 = r.val; omega
    | 2 => show j.val - Host.clampedStart _ _ h.1 st 2 = j.val; omega
  · have e' : l.val ≠ k.val := fun h => e (Fin.ext h)
    rw [if_neg e, dif_neg fun hin => by
      have h' : Host.clampedStart _ _ h.1 st 0 ≤ l.val ∧ l.val < Host.clampedStart _ _ h.1 st 0 + 1 := hin 0
      omega]

theorem lift_apply (v : Vec Ideal S1024x128 .f32) (r : Fin 1024) (j : Fin 128) :
    broadcastInDim S1x1024x128 ![1, 2] Facts₀.bcast_S1024x128_S1x1024x128_1_2 v (ix3 0 r j) = v (ix2 r j) := by
  simp only [pointwise]
  simp

theorem toInt_lt (k : Fin 50) : (BitVec.ofNat 32 k.val).toInt = (k.val : ℤ) := by revert k; decide

theorem iv_eq (k : Fin 50) : Scf.iv 0#32 1#32 k.val = BitVec.ofNat 32 k.val := by revert k; decide

variable (X : Valuation τ sig (Elt Ideal))

/-! ## The first loop -/

/-- The first loop's input gates at trip `k`. -/
theorem in0_v41 (k : Fin 50) (hX : (X (dr main_v12_5) : IVec S_ 32) = fun _ => BitVec.ofNat 32 k.val) (r : Fin 1024) (g : Fin 384) :
    (after inOps0 X (dr main_while0b_v41) : Vec Ideal S1024x384 .f32) (ix2 r g)
      = Gru.gates (fun q => (X (dr main_v12_0) : Vec Ideal S50x1024x208 .f32) (ix3 k r q)) (fun g q => (X (dr main_v12_1) : Vec Ideal S384x208 .f32) (ix2 g q))
          (fun g => (X (dr main_v12_2) : Vec Ideal S384 .f32) (ix1 g)) g := by
  after_results
  simp only [pointwise]
  refine congrArg₂ (· + ·) ((zero_add _).trans (Finset.sum_congr rfl fun q _ => congrArg (· * _) ?_)) rfl
  refine slab_apply _ _ Facts₀.sliceFits_S50x1024x208_S1x1024x208 k ?_ ?_ ?_ r q
  · refine (congrArg BitVec.toInt (?_ : _ = BitVec.ofNat 32 k.val)).trans (toInt_lt k)
    refine Eq.trans ?_ (congrFun hX (Shape.Idx.first Facts₀.h_S_))
    rfl
  · rfl
  · rfl

/-- The first loop's gates of the hidden state. -/
theorem st0_v46 (r : Fin 1024) (g : Fin 384) :
    (after stOps0 X (dr main_while0b_v46) : Vec Ideal S1024x384 .f32) (ix2 r g)
      = Gru.rec (fun q => (X (dr main_v12_6) : Vec Ideal S1024x128 .f32) (ix2 r q)) (fun g q => (X (dr main_v12_3) : Vec Ideal S384x128 .f32) (ix2 g q))
          (fun g => (X (dr main_v12_4) : Vec Ideal S384 .f32) (ix1 g)) g := by
  after_results
  simp only [pointwise]
  exact congrArg (· + _) (zero_add _)

/-- The first loop's new hidden state. -/
theorem gate0_v74 (r : Fin 1024) (j : Fin 128) :
    (after gateOps0 X (dr main_while0b_v74) : Vec Ideal S1024x128 .f32) (ix2 r j)
      = Gru.gate (fun g => (X (dr main_while0b_v41) : Vec Ideal S1024x384 .f32) (ix2 r g)) (fun g => (X (dr main_while0b_v46) : Vec Ideal S1024x384 .f32) (ix2 r g))
          ((X (dr main_v12_6) : Vec Ideal S1024x128 .f32) (ix2 r j)) j := by
  after_results
  simp only [pointwise]
  simp [Gru.gate, Ideal.logistic]

/-- A trip of the first loop carries the new hidden state on, and lays it at its step into the outputs. -/
theorem out0_v12_6 : after outOps0 X (dr main_v12_6) = X (dr main_while0b_v74) := by
  after_results
  rfl

theorem out0_v12_7 (k : Fin 50) (hX : (X (dr main_v12_5) : IVec S_ 32) = fun _ => BitVec.ofNat 32 k.val) (l : Fin 50) (r : Fin 1024) (j : Fin 128) :
    (after outOps0 X (dr main_v12_7) : Vec Ideal S50x1024x128 .f32) (ix3 l r j) =
      if l = k then (X (dr main_while0b_v74) : Vec Ideal S1024x128 .f32) (ix2 r j) else (X (dr main_v12_7) : Vec Ideal S50x1024x128 .f32) (ix3 l r j) := by
  after_results
  refine (laid_apply _ _ _ Facts₀.updateFits_S50x1024x128_S1x1024x128 k ?_ ?_ ?_ l r j).trans ?_
  · refine (congrArg BitVec.toInt (?_ : _ = BitVec.ofNat 32 k.val)).trans (toInt_lt k)
    refine Eq.trans ?_ (congrFun hX (Shape.Idx.first Facts₀.h_S_))
    rfl
  · rfl
  · rfl
  · congr 1
    exact lift_apply _ r j

/-- A trip of the first loop up to the carrying: the new hidden state of the old carried values. -/
theorem new0 (k : Fin 50) (hX : (X (dr main_v12_5) : IVec S_ 32) = fun _ => BitVec.ofNat 32 k.val) (r : Fin 1024) (j : Fin 128) :
    (after gateOps0 (after stOps0 (after inOps0 (after condOps0 X))) (dr main_while0b_v74) : Vec Ideal S1024x128 .f32) (ix2 r j)
      = Gru.gate (Gru.gates (fun q => (X (dr main_v12_0) : Vec Ideal S50x1024x208 .f32) (ix3 k r q)) (fun g q => (X (dr main_v12_1) : Vec Ideal S384x208 .f32) (ix2 g q))
            (fun g => (X (dr main_v12_2) : Vec Ideal S384 .f32) (ix1 g)))
          (Gru.rec (fun q => (X (dr main_v12_6) : Vec Ideal S1024x128 .f32) (ix2 r q)) (fun g q => (X (dr main_v12_3) : Vec Ideal S384x128 .f32) (ix2 g q))
            (fun g => (X (dr main_v12_4) : Vec Ideal S384 .f32) (ix1 g)))
          ((X (dr main_v12_6) : Vec Ideal S1024x128 .f32) (ix2 r j)) j := by
  have hc (b : Ref sig .tc) (hb : b ∉ condOps0W) : after condOps0 X (dr b) = X (dr b) := after_of_writes_sub _ _ condOps0_writes hb
  have hi (b : Ref sig .tc) (hb : b ∉ condOps0W) (hb' : b ∉ inOps0W) : after inOps0 (after condOps0 X) (dr b) = X (dr b) :=
    (after_of_writes_sub _ _ inOps0_writes hb').trans (hc b hb)
  have e41 : (fun g => (after stOps0 (after inOps0 (after condOps0 X)) (dr main_while0b_v41) : Vec Ideal S1024x384 .f32) (ix2 r g))
      = Gru.gates (fun q => (X (dr main_v12_0) : Vec Ideal S50x1024x208 .f32) (ix3 k r q)) (fun g q => (X (dr main_v12_1) : Vec Ideal S384x208 .f32) (ix2 g q))
            (fun g => (X (dr main_v12_2) : Vec Ideal S384 .f32) (ix1 g)) := by
    funext g
    rw [after_of_writes_sub _ _ stOps0_writes (by decide), in0_v41 _ k ((hc main_v12_5 (by decide)).trans hX), hc main_v12_0 (by decide), hc main_v12_1 (by decide), hc main_v12_2 (by decide)]
  have e46 : (fun g => (after stOps0 (after inOps0 (after condOps0 X)) (dr main_while0b_v46) : Vec Ideal S1024x384 .f32) (ix2 r g))
      = Gru.rec (fun q => (X (dr main_v12_6) : Vec Ideal S1024x128 .f32) (ix2 r q)) (fun g q => (X (dr main_v12_3) : Vec Ideal S384x128 .f32) (ix2 g q))
            (fun g => (X (dr main_v12_4) : Vec Ideal S384 .f32) (ix1 g)) := by
    funext g
    rw [st0_v46, hi main_v12_6 (by decide) (by decide), hi main_v12_3 (by decide) (by decide), hi main_v12_4 (by decide) (by decide)]
  rw [gate0_v74, e41, e46, after_of_writes_sub _ _ stOps0_writes (by decide), hi main_v12_6 (by decide) (by decide)]

section Loop0

variable (m : (ℓ : Loc nD τ sig) → Buf (Elt Ideal) ℓ) (c : Dev nD)

/-- The first loop's input gates, recurrent weights and biases, as it is entered. -/
abbrev a0 (l : ℕ) (r : Fin 1024) : Fin 384 → EReal :=
  Gru.gates (fun q => (in0 m c (dr main_v12_0) : Vec Ideal S50x1024x208 .f32) (ix3 ⟨l % 50, Nat.mod_lt _ (by decide)⟩ r q))
    (fun g q => (in0 m c (dr main_v12_1) : Vec Ideal S384x208 .f32) (ix2 g q)) (fun g => (in0 m c (dr main_v12_2) : Vec Ideal S384 .f32) (ix1 g))
abbrev w0 (g : Fin 384) (k : Fin 128) : EReal := (in0 m c (dr main_v12_3) : Vec Ideal S384x128 .f32) (ix2 g k)
abbrev b0 (g : Fin 384) : EReal := (in0 m c (dr main_v12_4) : Vec Ideal S384 .f32) (ix1 g)

/-- Before its `k`-th test the first loop's hidden state is that of `k` steps, and the outputs hold those of the steps done. -/
theorem loop0 (h6 : ∀ r j, (in0 m c (dr main_v12_6) : Vec Ideal S1024x128 .f32) (ix2 r j) = (0 : EReal)) (k : ℕ) (hk : k ≤ 50) :
    (∀ (r : Fin 1024) (j : Fin 128), (trip0 m k c (dr main_v12_6) : Vec Ideal S1024x128 .f32) (ix2 r j) = Gru.hid (a0 m c) (w0 m c) (b0 m c) k r j)
      ∧ ∀ (l : Fin 50), l.val < k → ∀ (r : Fin 1024) (j : Fin 128), (trip0 m k c (dr main_v12_7) : Vec Ideal S50x1024x128 .f32) (ix3 l r j) = Gru.hid (a0 m c) (w0 m c) (b0 m c) (l.val + 1) r j := by
  induction k with
  | zero => exact ⟨h6, fun l h => absurd h (Nat.not_lt_zero _)⟩
  | succ k ih =>
    obtain ⟨i6, i7⟩ := ih (by omega)
    have hlt : k < 50 := by omega
    have h5 : (trip0 m k c (dr main_v12_5) : IVec S_ 32) = fun _ => BitVec.ofNat 32 k := by
      rw [ctr0, iv_eq ⟨k, hlt⟩]
    have ek : (⟨k % 50, Nat.mod_lt _ (by decide)⟩ : Fin 50) = ⟨k, hlt⟩ := Fin.ext (Nat.mod_eq_of_lt hlt)
    have hn (r : Fin 1024) (j : Fin 128) : (after gateOps0 (after stOps0 (after inOps0 (after condOps0 (trip0 m k c)))) (dr main_while0b_v74) : Vec Ideal S1024x128 .f32) (ix2 r j)
        = Gru.hid (a0 m c) (w0 m c) (b0 m c) (k + 1) r j := by
      rw [new0 _ ⟨k, hlt⟩ h5, Gru.hid_succ, a0, ek, ← i6]
      simp only [i6]
      rw [trip0_keep m main_v12_0 (by decide) (by decide) (by decide) (by decide) (by decide), trip0_keep m main_v12_1 (by decide) (by decide) (by decide) (by decide) (by decide),
        trip0_keep m main_v12_2 (by decide) (by decide) (by decide) (by decide) (by decide), trip0_keep m main_v12_3 (by decide) (by decide) (by decide) (by decide) (by decide),
        trip0_keep m main_v12_4 (by decide) (by decide) (by decide) (by decide) (by decide)]
    have hb (b : Ref sig .tc) (hc : b ∉ condOps0W) (hi : b ∉ inOps0W) (hs : b ∉ stOps0W) (hg : b ∉ gateOps0W) :
        after gateOps0 (after stOps0 (after inOps0 (after condOps0 (trip0 m k c)))) (dr b) = trip0 m k c (dr b) :=
      (after_of_writes_sub _ _ gateOps0_writes hg).trans ((after_of_writes_sub _ _ stOps0_writes hs).trans ((after_of_writes_sub _ _ inOps0_writes hi).trans
        (after_of_writes_sub _ _ condOps0_writes hc)))
    rw [trip0_succ]
    refine ⟨fun r j => ?_, fun l hl r j => ?_⟩
    · rw [out0_v12_6, hn]
    · rw [out0_v12_7 _ ⟨k, hlt⟩ ((hb main_v12_5 (by decide) (by decide) (by decide) (by decide)).trans h5)]
      by_cases e : l = ⟨k, hlt⟩
      · subst e
        rw [if_pos rfl, hn]
      · rw [if_neg e, hb main_v12_7 (by decide) (by decide) (by decide) (by decide), i7 l (lt_of_le_of_ne (Nat.lt_succ_iff.mp hl) fun h => e (Fin.ext h))]

end Loop0

/-! ## The second loop -/

/-- The second loop's input gates at trip `k`. -/
theorem in1_v41 (k : Fin 50) (hX : (X (dr main_v15_5) : IVec S_ 32) = fun _ => BitVec.ofNat 32 k.val) (r : Fin 1024) (g : Fin 384) :
    (after inOps1 X (dr main_while1b_v41) : Vec Ideal S1024x384 .f32) (ix2 r g)
      = Gru.gates (fun q => (X (dr main_v15_0) : Vec Ideal S50x1024x208 .f32) (ix3 k r q)) (fun g q => (X (dr main_v15_1) : Vec Ideal S384x208 .f32) (ix2 g q))
          (fun g => (X (dr main_v15_2) : Vec Ideal S384 .f32) (ix1 g)) g := by
  after_results
  simp only [pointwise]
  refine congrArg₂ (· + ·) ((zero_add _).trans (Finset.sum_congr rfl fun q _ => congrArg (· * _) ?_)) rfl
  refine slab_apply _ _ Facts₀.sliceFits_S50x1024x208_S1x1024x208 k ?_ ?_ ?_ r q
  · refine (congrArg BitVec.toInt (?_ : _ = BitVec.ofNat 32 k.val)).trans (toInt_lt k)
    refine Eq.trans ?_ (congrFun hX (Shape.Idx.first Facts₀.h_S_))
    rfl
  · rfl
  · rfl

/-- The second loop's gates of the hidden state. -/
theorem st1_v46 (r : Fin 1024) (g : Fin 384) :
    (after stOps1 X (dr main_while1b_v46) : Vec Ideal S1024x384 .f32) (ix2 r g)
      = Gru.rec (fun q => (X (dr main_v15_6) : Vec Ideal S1024x128 .f32) (ix2 r q)) (fun g q => (X (dr main_v15_3) : Vec Ideal S384x128 .f32) (ix2 g q))
          (fun g => (X (dr main_v15_4) : Vec Ideal S384 .f32) (ix1 g)) g := by
  after_results
  simp only [pointwise]
  exact congrArg (· + _) (zero_add _)

/-- The second loop's new hidden state. -/
theorem gate1_v74 (r : Fin 1024) (j : Fin 128) :
    (after gateOps1 X (dr main_while1b_v74) : Vec Ideal S1024x128 .f32) (ix2 r j)
      = Gru.gate (fun g => (X (dr main_while1b_v41) : Vec Ideal S1024x384 .f32) (ix2 r g)) (fun g => (X (dr main_while1b_v46) : Vec Ideal S1024x384 .f32) (ix2 r g))
          ((X (dr main_v15_6) : Vec Ideal S1024x128 .f32) (ix2 r j)) j := by
  after_results
  simp only [pointwise]
  simp [Gru.gate, Ideal.logistic]

/-- A trip of the second loop carries the new hidden state on, and lays it at its step into the outputs. -/
theorem out1_v15_6 : after outOps1 X (dr main_v15_6) = X (dr main_while1b_v74) := by
  after_results
  rfl

theorem out1_v15_7 (k : Fin 50) (hX : (X (dr main_v15_5) : IVec S_ 32) = fun _ => BitVec.ofNat 32 k.val) (l : Fin 50) (r : Fin 1024) (j : Fin 128) :
    (after outOps1 X (dr main_v15_7) : Vec Ideal S50x1024x128 .f32) (ix3 l r j) =
      if l = k then (X (dr main_while1b_v74) : Vec Ideal S1024x128 .f32) (ix2 r j) else (X (dr main_v15_7) : Vec Ideal S50x1024x128 .f32) (ix3 l r j) := by
  after_results
  refine (laid_apply _ _ _ Facts₀.updateFits_S50x1024x128_S1x1024x128 k ?_ ?_ ?_ l r j).trans ?_
  · refine (congrArg BitVec.toInt (?_ : _ = BitVec.ofNat 32 k.val)).trans (toInt_lt k)
    refine Eq.trans ?_ (congrFun hX (Shape.Idx.first Facts₀.h_S_))
    rfl
  · rfl
  · rfl
  · congr 1
    exact lift_apply _ r j

/-- A trip of the second loop up to the carrying: the new hidden state of the old carried values. -/
theorem new1 (k : Fin 50) (hX : (X (dr main_v15_5) : IVec S_ 32) = fun _ => BitVec.ofNat 32 k.val) (r : Fin 1024) (j : Fin 128) :
    (after gateOps1 (after stOps1 (after inOps1 (after condOps1 X))) (dr main_while1b_v74) : Vec Ideal S1024x128 .f32) (ix2 r j)
      = Gru.gate (Gru.gates (fun q => (X (dr main_v15_0) : Vec Ideal S50x1024x208 .f32) (ix3 k r q)) (fun g q => (X (dr main_v15_1) : Vec Ideal S384x208 .f32) (ix2 g q))
            (fun g => (X (dr main_v15_2) : Vec Ideal S384 .f32) (ix1 g)))
          (Gru.rec (fun q => (X (dr main_v15_6) : Vec Ideal S1024x128 .f32) (ix2 r q)) (fun g q => (X (dr main_v15_3) : Vec Ideal S384x128 .f32) (ix2 g q))
            (fun g => (X (dr main_v15_4) : Vec Ideal S384 .f32) (ix1 g)))
          ((X (dr main_v15_6) : Vec Ideal S1024x128 .f32) (ix2 r j)) j := by
  have hc (b : Ref sig .tc) (hb : b ∉ condOps1W) : after condOps1 X (dr b) = X (dr b) := after_of_writes_sub _ _ condOps1_writes hb
  have hi (b : Ref sig .tc) (hb : b ∉ condOps1W) (hb' : b ∉ inOps1W) : after inOps1 (after condOps1 X) (dr b) = X (dr b) :=
    (after_of_writes_sub _ _ inOps1_writes hb').trans (hc b hb)
  have e41 : (fun g => (after stOps1 (after inOps1 (after condOps1 X)) (dr main_while1b_v41) : Vec Ideal S1024x384 .f32) (ix2 r g))
      = Gru.gates (fun q => (X (dr main_v15_0) : Vec Ideal S50x1024x208 .f32) (ix3 k r q)) (fun g q => (X (dr main_v15_1) : Vec Ideal S384x208 .f32) (ix2 g q))
            (fun g => (X (dr main_v15_2) : Vec Ideal S384 .f32) (ix1 g)) := by
    funext g
    rw [after_of_writes_sub _ _ stOps1_writes (by decide), in1_v41 _ k ((hc main_v15_5 (by decide)).trans hX), hc main_v15_0 (by decide), hc main_v15_1 (by decide), hc main_v15_2 (by decide)]
  have e46 : (fun g => (after stOps1 (after inOps1 (after condOps1 X)) (dr main_while1b_v46) : Vec Ideal S1024x384 .f32) (ix2 r g))
      = Gru.rec (fun q => (X (dr main_v15_6) : Vec Ideal S1024x128 .f32) (ix2 r q)) (fun g q => (X (dr main_v15_3) : Vec Ideal S384x128 .f32) (ix2 g q))
            (fun g => (X (dr main_v15_4) : Vec Ideal S384 .f32) (ix1 g)) := by
    funext g
    rw [st1_v46, hi main_v15_6 (by decide) (by decide), hi main_v15_3 (by decide) (by decide), hi main_v15_4 (by decide) (by decide)]
  rw [gate1_v74, e41, e46, after_of_writes_sub _ _ stOps1_writes (by decide), hi main_v15_6 (by decide) (by decide)]

section Loop1

variable (m : (ℓ : Loc nD τ sig) → Buf (Elt Ideal) ℓ) (c : Dev nD)

/-- The second loop's input gates, recurrent weights and biases, as it is entered. -/
abbrev a1 (l : ℕ) (r : Fin 1024) : Fin 384 → EReal :=
  Gru.gates (fun q => (in1 m c (dr main_v15_0) : Vec Ideal S50x1024x208 .f32) (ix3 ⟨l % 50, Nat.mod_lt _ (by decide)⟩ r q))
    (fun g q => (in1 m c (dr main_v15_1) : Vec Ideal S384x208 .f32) (ix2 g q)) (fun g => (in1 m c (dr main_v15_2) : Vec Ideal S384 .f32) (ix1 g))
abbrev w1 (g : Fin 384) (k : Fin 128) : EReal := (in1 m c (dr main_v15_3) : Vec Ideal S384x128 .f32) (ix2 g k)
abbrev b1 (g : Fin 384) : EReal := (in1 m c (dr main_v15_4) : Vec Ideal S384 .f32) (ix1 g)

/-- Before its `k`-th test the second loop's hidden state is that of `k` steps, and the outputs hold those of the steps done. -/
theorem loop1 (h6 : ∀ r j, (in1 m c (dr main_v15_6) : Vec Ideal S1024x128 .f32) (ix2 r j) = (0 : EReal)) (k : ℕ) (hk : k ≤ 50) :
    (∀ (r : Fin 1024) (j : Fin 128), (trip1 m k c (dr main_v15_6) : Vec Ideal S1024x128 .f32) (ix2 r j) = Gru.hid (a1 m c) (w1 m c) (b1 m c) k r j)
      ∧ ∀ (l : Fin 50), l.val < k → ∀ (r : Fin 1024) (j : Fin 128), (trip1 m k c (dr main_v15_7) : Vec Ideal S50x1024x128 .f32) (ix3 l r j) = Gru.hid (a1 m c) (w1 m c) (b1 m c) (l.val + 1) r j := by
  induction k with
  | zero => exact ⟨h6, fun l h => absurd h (Nat.not_lt_zero _)⟩
  | succ k ih =>
    obtain ⟨i6, i7⟩ := ih (by omega)
    have hlt : k < 50 := by omega
    have h5 : (trip1 m k c (dr main_v15_5) : IVec S_ 32) = fun _ => BitVec.ofNat 32 k := by
      rw [ctr1, iv_eq ⟨k, hlt⟩]
    have ek : (⟨k % 50, Nat.mod_lt _ (by decide)⟩ : Fin 50) = ⟨k, hlt⟩ := Fin.ext (Nat.mod_eq_of_lt hlt)
    have hn (r : Fin 1024) (j : Fin 128) : (after gateOps1 (after stOps1 (after inOps1 (after condOps1 (trip1 m k c)))) (dr main_while1b_v74) : Vec Ideal S1024x128 .f32) (ix2 r j)
        = Gru.hid (a1 m c) (w1 m c) (b1 m c) (k + 1) r j := by
      rw [new1 _ ⟨k, hlt⟩ h5, Gru.hid_succ, a1, ek, ← i6]
      simp only [i6]
      rw [trip1_keep m main_v15_0 (by decide) (by decide) (by decide) (by decide) (by decide), trip1_keep m main_v15_1 (by decide) (by decide) (by decide) (by decide) (by decide),
        trip1_keep m main_v15_2 (by decide) (by decide) (by decide) (by decide) (by decide), trip1_keep m main_v15_3 (by decide) (by decide) (by decide) (by decide) (by decide),
        trip1_keep m main_v15_4 (by decide) (by decide) (by decide) (by decide) (by decide)]
    have hb (b : Ref sig .tc) (hc : b ∉ condOps1W) (hi : b ∉ inOps1W) (hs : b ∉ stOps1W) (hg : b ∉ gateOps1W) :
        after gateOps1 (after stOps1 (after inOps1 (after condOps1 (trip1 m k c)))) (dr b) = trip1 m k c (dr b) :=
      (after_of_writes_sub _ _ gateOps1_writes hg).trans ((after_of_writes_sub _ _ stOps1_writes hs).trans ((after_of_writes_sub _ _ inOps1_writes hi).trans
        (after_of_writes_sub _ _ condOps1_writes hc)))
    rw [trip1_succ]
    refine ⟨fun r j => ?_, fun l hl r j => ?_⟩
    · rw [out1_v15_6, hn]
    · rw [out1_v15_7 _ ⟨k, hlt⟩ ((hb main_v15_5 (by decide) (by decide) (by decide) (by decide)).trans h5)]
      by_cases e : l = ⟨k, hlt⟩
      · subst e
        rw [if_pos rfl, hn]
      · rw [if_neg e, hb main_v15_7 (by decide) (by decide) (by decide) (by decide), i7 l (lt_of_le_of_ne (Nat.lt_succ_iff.mp hl) fun h => e (Fin.ext h))]

end Loop1

end Cert.Proof.Ref

end
-- ==== Proof.RefEmb.lean ====
/-
  What the reference's first stretch makes of its arguments: the embedded inputs by step.
-/
module

public import proofs.«01_k».proof.Proof.RefVal

@[expose] public section

noncomputable section

namespace Cert.Proof.Ref

open Cert.ReferenceIdeal

open Idealize.ShloMosaic Idealize.ShloMosaic.TcCoe Idealize.ShloMosaic.StableHlo

/-- The row of each feature's table that an index names. -/
theorem rows_apply (x : Vec Ideal S26x101x8 .f32) (i : IVec S26x1024x50x1 32) (f : Fin 26) (r : Fin 1024) (l : Fin 50) (c : Fin 8) (n : Fin 101)
    (hn : (i (ix4 f r l 0)).toInt = (n.val : ℤ)) :
    Host.gather gather_S26x101x8_S26x1024x50x1_S26x1024x50x8_3_1_0_0_1_3_118 x i (ix4 f r l c) = x (ix3 f n c) := by
  refine congrArg x (funext fun a => Fin.ext ?_)
  let G := gather_S26x101x8_S26x1024x50x1_S26x1024x50x8_3_1_0_0_1_3_118
  match a with
  | 0 =>
    show G.start (ix4 f r l c) i 0 + G.batchCoord (ix4 f r l c) 0 + G.offCoord (ix4 f r l c) 0 = f.val
    have h1 : G.start (ix4 f r l c) i 0 = 0 := rfl
    have h2 : G.batchCoord (ix4 f r l c) 0 = f.val := rfl
    have h3 : G.offCoord (ix4 f r l c) 0 = 0 := rfl
    omega
  | 1 =>
    show G.start (ix4 f r l c) i 1 + G.batchCoord (ix4 f r l c) 1 + G.offCoord (ix4 f r l c) 1 = n.val
    have hs : G.siIdx (ix4 f r l c) ⟨List.idxOf 1 G.startIndexMap, List.idxOf_lt_length_iff.2 (List.mem_singleton.mpr rfl)⟩ = ix4 f r l 0 := by
      funext b
      refine Fin.ext ?_
      match b with
      | 0 => rfl
      | 1 => rfl
      | 2 => rfl
      | 3 => rfl
    have h1 : G.start (ix4 f r l c) i 1 = min (i (ix4 f r l 0)).toInt.toNat 100 := by
      unfold GatherDims.start
      rw [dif_pos (show (1 : Fin S26x101x8.rank) ∈ G.startIndexMap from List.mem_singleton.mpr rfl), hs]
      rfl
    have h2 : G.batchCoord (ix4 f r l c) 1 = 0 := rfl
    have h3 : G.offCoord (ix4 f r l c) 1 = 0 := rfl
    omega
  | 2 =>
    show G.start (ix4 f r l c) i 2 + G.batchCoord (ix4 f r l c) 2 + G.offCoord (ix4 f r l c) 2 = c.val
    have h1 : G.start (ix4 f r l c) i 2 = 0 := rfl
    have h2 : G.batchCoord (ix4 f r l c) 2 = 0 := rfl
    have h3 : G.offCoord (ix4 f r l c) 2 = c.val := rfl
    omega

/-- An index in the table's range is not negative, so wrapping leaves it. -/
theorem wrap_lt (x : BitVec 32) (h : x.toNat < 100) : (if IntOp.cmpi .slt x 0#32 = 1 then IntOp.addi x 101#32 else x).toInt = (x.toNat : ℤ) := by
  obtain ⟨n, rfl⟩ : ∃ n : Fin 100, x = BitVec.ofNat 32 n.val := ⟨⟨x.toNat, h⟩, by simp⟩
  revert n
  decide

variable (m : (ℓ : Loc nD τ sig) → Buf (Elt Ideal) ℓ) (d : Dev nD)

/-- The arguments by coordinates. -/
abbrev T (f : Fin 26) (v : Fin 101) (c : Fin 8) : EReal := (m ((d : Thread nD τ).loc main_arg1) : Vec Ideal S26x101x8 .f32) (ix3 f v c)
abbrev I (f : Fin 26) (r : Fin 1024) (l : Fin 50) : ℕ := ((m ((d : Thread nD τ).loc main_arg0) : IVec S26x1024x50 32) (ix3 f r l)).toNat

theorem in0_v9 (h : ∀ f r l, I m d f r l < 100) (l : Fin 50) (r : Fin 1024) (k : Fin 208) :
    (in0 m d (dr main_v9) : Vec Ideal S50x1024x208 .f32) (ix3 l r k) = Gru.emb (T m d) (I m d) l.val r k := by
  unfold in0 launchContents
  after_results
  simp only [pointwise]
  have hx := h ⟨k.val / 8, by omega⟩ r l
  rw [rows_apply _ _ _ _ _ _ ⟨I m d ⟨k.val / 8, by omega⟩ r l, by omega⟩ (by
    simp only [pointwise]
    exact wrap_lt _ hx)]
  unfold Gru.emb
  have e1 : (⟨l.val % 50, Nat.mod_lt _ (by decide)⟩ : Fin 50) = l := Fin.ext (Nat.mod_eq_of_lt l.isLt)
  have e2 : (⟨I m d ⟨k.val / 8, by omega⟩ r ⟨l.val % 50, Nat.mod_lt _ (by decide)⟩ % 101, Nat.mod_lt _ (by decide)⟩ : Fin 101) = ⟨I m d ⟨k.val / 8, by omega⟩ r l, by omega⟩ :=
    Fin.ext (by rw [e1]; exact Nat.mod_eq_of_lt (by omega))
  exact (congrArg (fun v => T m d ⟨k.val / 8, by omega⟩ v ⟨k.val % 8, Nat.mod_lt _ (by decide)⟩) e2).symm

/-- The two directions' input gates, of the arguments. -/
abbrev af (l : ℕ) (r : Fin 1024) : Fin 384 → EReal := Gru.gates (Gru.emb (T m d) (I m d) l r)
  (fun g k => (m ((d : Thread nD τ).loc main_arg2) : Vec Ideal S384x208 .f32) (ix2 g k)) (fun g => (m ((d : Thread nD τ).loc main_arg4) : Vec Ideal S384 .f32) (ix1 g))
abbrev ab (l : ℕ) (r : Fin 1024) : Fin 384 → EReal := Gru.gates (Gru.emb (T m d) (I m d) (49 - l) r)
  (fun g k => (m ((d : Thread nD τ).loc main_arg6) : Vec Ideal S384x208 .f32) (ix2 g k)) (fun g => (m ((d : Thread nD τ).loc main_arg8) : Vec Ideal S384 .f32) (ix1 g))

/-! ## What the first loop is entered with -/

theorem in0_id : in0 m d (dr main_v12_0) = in0 m d (dr main_v9) ∧ in0 m d (dr main_v12_1) = m ((d : Thread nD τ).loc main_arg2)
    ∧ in0 m d (dr main_v12_2) = m ((d : Thread nD τ).loc main_arg4) ∧ in0 m d (dr main_v12_3) = m ((d : Thread nD τ).loc main_arg3)
    ∧ in0 m d (dr main_v12_4) = m ((d : Thread nD τ).loc main_arg5) := by
  refine ⟨?_, ?_, ?_, ?_, ?_⟩
  all_goals unfold in0 launchContents; after_results
  all_goals rfl

theorem in0_zero (r : Fin 1024) (j : Fin 128) : (in0 m d (dr main_v12_6) : Vec Ideal S1024x128 .f32) (ix2 r j) = (0 : EReal) := by
  unfold in0
  after_results
  simp only [pointwise, id]

theorem a0_eq (h : ∀ f r l, I m d f r l < 100) (l : ℕ) (hl : l < 50) : a0 m d l = af m d l := by
  obtain ⟨e0, e1, e2, -⟩ := in0_id m d
  funext r
  unfold a0
  rw [e0, e1, e2]
  simp only [in0_v9 m d h, Nat.mod_eq_of_lt hl]

/-! ## What the second loop is entered with -/

theorem in1_arg (b : Ref sig .tc) (hm : b ∉ midOpsW) (hc : b ∉ condOps0W) (hi : b ∉ inOps0W) (hs : b ∉ stOps0W) (hg : b ∉ gateOps0W) (ho : b ∉ outOps0W) :
    in1 m d (dr b) = in0 m d (dr b) := by
  unfold in1 out0
  rw [after_of_writes_sub _ _ midOps_writes hm, after_of_writes_sub _ _ condOps0_writes hc, trip0_keep m b hc hi hs hg ho]

theorem out0_arg (b : Ref sig .tc) (hc : b ∉ condOps0W) (hi : b ∉ inOps0W) (hs : b ∉ stOps0W) (hg : b ∉ gateOps0W) (ho : b ∉ outOps0W) :
    out0 m d (dr b) = in0 m d (dr b) := by
  unfold out0
  rw [after_of_writes_sub _ _ condOps0_writes hc, trip0_keep m b hc hi hs hg ho]

theorem in0_arg (b : Ref sig .tc) (hp : b ∉ preOpsW) : in0 m d (dr b) = m ((d : Thread nD τ).loc b) := by
  unfold in0
  rw [after_of_writes_sub _ _ preOps_writes hp]

theorem mid_id (X : Valuation τ sig (Elt Ideal)) : after midOps X (dr main_v15_0) = Host.reverse [0] (X (dr main_v9) : Vec Ideal S50x1024x208 .f32)
    ∧ after midOps X (dr main_v15_1) = X (dr main_arg6) ∧ after midOps X (dr main_v15_2) = X (dr main_arg8) ∧ after midOps X (dr main_v15_3) = X (dr main_arg7)
    ∧ after midOps X (dr main_v15_4) = X (dr main_arg9) ∧ after midOps X (dr main_v15_6) = X (dr main_v10) := by
  refine ⟨?_, ?_, ?_, ?_, ?_, ?_⟩
  all_goals after_results
  all_goals rfl

theorem in1_id : in1 m d (dr main_v15_0) = Host.reverse [0] (in0 m d (dr main_v9) : Vec Ideal S50x1024x208 .f32) ∧ in1 m d (dr main_v15_1) = m ((d : Thread nD τ).loc main_arg6)
    ∧ in1 m d (dr main_v15_2) = m ((d : Thread nD τ).loc main_arg8) ∧ in1 m d (dr main_v15_3) = m ((d : Thread nD τ).loc main_arg7)
    ∧ in1 m d (dr main_v15_4) = m ((d : Thread nD τ).loc main_arg9) ∧ in1 m d (dr main_v15_6) = in0 m d (dr main_v10) := by
  obtain ⟨e0, e1, e2, e3, e4, e6⟩ := mid_id (out0 m d)
  rw [out0_arg m d main_v9 (by decide) (by decide) (by decide) (by decide) (by decide)] at e0
  rw [out0_arg m d main_arg6 (by decide) (by decide) (by decide) (by decide) (by decide), in0_arg m d main_arg6 (by decide)] at e1
  rw [out0_arg m d main_arg8 (by decide) (by decide) (by decide) (by decide) (by decide), in0_arg m d main_arg8 (by decide)] at e2
  rw [out0_arg m d main_arg7 (by decide) (by decide) (by decide) (by decide) (by decide), in0_arg m d main_arg7 (by decide)] at e3
  rw [out0_arg m d main_arg9 (by decide) (by decide) (by decide) (by decide) (by decide), in0_arg m d main_arg9 (by decide)] at e4
  rw [out0_arg m d main_v10 (by decide) (by decide) (by decide) (by decide) (by decide)] at e6
  exact ⟨e0, e1, e2, e3, e4, e6⟩

theorem in1_zero (r : Fin 1024) (j : Fin 128) : (in1 m d (dr main_v15_6) : Vec Ideal S1024x128 .f32) (ix2 r j) = (0 : EReal) := by
  rw [(in1_id m d).2.2.2.2.2]
  unfold in0
  after_results
  simp only [pointwise]

theorem in1_v15_0 (h : ∀ f r l, I m d f r l < 100) (l : Fin 50) (r : Fin 1024) (k : Fin 208) :
    (in1 m d (dr main_v15_0) : Vec Ideal S50x1024x208 .f32) (ix3 l r k) = Gru.emb (T m d) (I m d) (49 - l.val) r k := by
  rw [(in1_id m d).1, show (49 - l.val) = (⟨49 - l.val, by omega⟩ : Fin 50).val from rfl, ← in0_v9 m d h]
  simp only [pointwise]
  exact congrArg (fun l : Fin 50 => (in0 m d (dr main_v9) : Vec Ideal S50x1024x208 .f32) (ix3 l r k)) (Fin.ext (by
    show 50 - (l.val + 1) = 49 - l.val
    omega))

theorem a1_eq (h : ∀ f r l, I m d f r l < 100) (l : ℕ) (hl : l < 50) : a1 m d l = ab m d l := by
  obtain ⟨-, e1, e2, -⟩ := in1_id m d
  funext r
  unfold a1
  rw [e1, e2]
  simp only [in1_v15_0 m d h, Nat.mod_eq_of_lt hl]

end Cert.Proof.Ref

end
-- ==== Proof.RefAns.lean ====
/-
  The reference's last stretches in numbers, and its result as the network's answer of the argument arrays.
-/
module

public import proofs.«01_k».proof.Proof.RefEmb

@[expose] public section

noncomputable section

namespace Cert.Proof.Ref

open Cert.ReferenceIdeal

open Idealize.ShloMosaic Idealize.ShloMosaic.TcCoe Idealize.ShloMosaic.StableHlo

variable (X : Valuation τ sig (Elt Ideal))

theorem head_v35 (r : Fin 1024) (c : Fin 1) :
    (after headOps X (dr main_v35) : Vec Ideal S1024x1 .f32) (ix2 r c)
      = Gru.head (fun q => (X (dr main_v24) : Vec Ideal S1024x768 .f32) (ix2 r q)) (fun q k => (X (dr main_arg10) : Vec Ideal S32x768 .f32) (ix2 k q))
          (fun k => (X (dr main_arg11) : Vec Ideal S32 .f32) (ix1 k)) (fun k => (X (dr main_arg12) : Vec Ideal S1x32 .f32) (ix2 0 k)) ((X (dr main_arg13) : Vec Ideal S1 .f32) (ix1 0)) := by
  after_results
  simp only [pointwise]
  refine congrArg₂ (· + ·) ((zero_add _).trans (Finset.sum_congr rfl fun k _ => congrArg (· * _) ?_)) rfl
  show maximumf (addf _ _) _ (ix2 r k) = _
  simp only [pointwise]
  refine congrArg₂ max (congrArg (· + _) (zero_add _)) ?_
  show broadcastInDim S1024x32 ![] Facts₀.bcast_S_S1024x32 (constant (F := Ideal) S_ .f32 0x00000000#32) (ix2 r k) = (0 : EReal)
  simp only [pointwise]

/-- The words of minus infinity and of fifty. -/
theorem word_bot : Ideal.ofBits .f32 0xFF800000#32 = ⊥ := by
  simp [Ideal.ofBits, Ideal.ieee]

theorem word_fifty : Ideal.ofBits .f32 0x42480000#32 = ((50 : ℝ) : EReal) := by
  simp [Ideal.ofBits, Ideal.ieee, -EReal.coe_mul]; norm_num

section Pool

variable (a b : Vec Ideal S50x1024x128 .f32) (h h' : Vec Ideal S1024x128 .f32)

/-- The two directions' states side by side, by row and step, the backward ones turned round. -/
def sides : Vec Ideal S1024x50x256 .f32 :=
  transpose S1024x50x256 [1, 0, 2] (concatenate S50x1024x256 2 [⟨S50x1024x128, a⟩, ⟨S50x1024x128, Host.reverse [0] b⟩] Facts₀.concatenates_S50x1024x128_S50x1024x128_S50x1024x256_d2)
    Facts₀.transposes_S50x1024x256_S1024x50x256_1_0_2

/-- Their largest over the steps, and their mean. -/
def largest : Vec Ideal S1024x256 .f32 :=
  Host.reduce (FloatOps.maximumf : Ideal .f32 → Ideal .f32 → Ideal .f32) (sides a b) (constant (F := Ideal) S_ .f32 0xFF800000#32) Facts₀.reducesTo_S1024x50x256_S1024x256_d1 Facts₀.h_S_
def mean : Vec Ideal S1024x256 .f32 :=
  Host.divf (Host.reduceAdd (sides a b) (constant (F := Ideal) S_ .f32 0x00000000#32) Facts₀.reducesTo_S1024x50x256_S1024x256_d1 Facts₀.h_S_)
    (broadcastInDim S1024x256 ![] Facts₀.bcast_S_S1024x256 (constant (F := Ideal) S_ .f32 0x42480000#32))

/-- The last of the pooling's operations lays the others' results side by side. -/
theorem cat_v24 (Y : Valuation τ sig (Elt Ideal)) (op : HloOp τ sig (Elt Ideal))
    (hop : op = StableHlo.nary ![main_v19, main_v20, main_v23] main_v24 (fun u => (concatenate S1024x768 1 [⟨S1024x256, (u 0 : (⟨S1024x256, .f32⟩ : BufTy).Contents (Elt Ideal))⟩,
      ⟨S1024x256, (u 1 : (⟨S1024x256, .f32⟩ : BufTy).Contents (Elt Ideal))⟩, ⟨S1024x256, (u 2 : (⟨S1024x256, .f32⟩ : BufTy).Contents (Elt Ideal))⟩]
        Facts₀.concatenates_S1024x256_S1024x256_S1024x256_S1024x768_d1 : (⟨S1024x768, .f32⟩ : BufTy).Contents (Elt Ideal)))) :
    op.result Y (dr main_v24) = concatenate S1024x768 1 [⟨S1024x256, (op.result Y (dr main_v19) : Vec Ideal S1024x256 .f32)⟩,
      ⟨S1024x256, (op.result Y (dr main_v20) : Vec Ideal S1024x256 .f32)⟩, ⟨S1024x256, (op.result Y (dr main_v23) : Vec Ideal S1024x256 .f32)⟩]
      Facts₀.concatenates_S1024x256_S1024x256_S1024x256_S1024x768_d1 := by
  subst hop
  rw [nary_result_ne _ _ _ _ _ Y (r := main_v19) (by decide), nary_result_ne _ _ _ _ _ Y (r := main_v20) (by decide), nary_result_ne _ _ _ _ _ Y (r := main_v23) (by decide)]
  exact nary_result ..

theorem pool_v19 : after poolOps X (dr main_v19) = concatenate S1024x256 1 [⟨S1024x128, (X (dr main_v12_6) : Vec Ideal S1024x128 .f32)⟩,
    ⟨S1024x128, (X (dr main_v15_6) : Vec Ideal S1024x128 .f32)⟩] Facts₀.concatenates_S1024x128_S1024x128_S1024x256_d1 := by
  after_results

theorem pool_v20 : after poolOps X (dr main_v20) = largest (X (dr main_v12_7)) (X (dr main_v15_7)) := by
  after_results
  rfl

theorem pool_v23 : after poolOps X (dr main_v23) = mean (X (dr main_v12_7)) (X (dr main_v15_7)) := by
  after_results
  rfl

theorem pool_v24 : after poolOps X (dr main_v24) = concatenate S1024x768 1
    [⟨S1024x256, concatenate S1024x256 1 [⟨S1024x128, (X (dr main_v12_6) : Vec Ideal S1024x128 .f32)⟩, ⟨S1024x128, (X (dr main_v15_6) : Vec Ideal S1024x128 .f32)⟩] Facts₀.concatenates_S1024x128_S1024x128_S1024x256_d1⟩,
      ⟨S1024x256, largest (X (dr main_v12_7)) (X (dr main_v15_7))⟩, ⟨S1024x256, mean (X (dr main_v12_7)) (X (dr main_v15_7))⟩]
    Facts₀.concatenates_S1024x256_S1024x256_S1024x256_S1024x768_d1 := by
  rw [← pool_v19, ← pool_v20, ← pool_v23]
  exact cat_v24 _ _ rfl

theorem sides_f (l : Fin 50) (r : Fin 1024) (j : Fin 128) (q : Fin 256) (hq : q.val = j.val) : sides a b (ix3 r l q) = a (ix3 l r j) := by
  have hj := j.isLt
  unfold sides
  simp only [pointwise]
  rw [dif_pos (by omega)]
  exact congrArg (fun j => a (ix3 l r j)) (Fin.ext hq)

theorem sides_b (l : Fin 50) (r : Fin 1024) (j : Fin 128) (q : Fin 256) (hq : q.val = 128 + j.val) : sides a b (ix3 r l q) = b (ix3 l.rev r j) := by
  unfold sides
  simp only [pointwise]
  rw [dif_neg (by omega)]
  simp
  exact congrArg (fun j => b (ix3 l.rev r j)) (Fin.ext (by dsimp only; omega))

theorem largest_apply (r : Fin 1024) (q : Fin 256) : largest a b (ix2 r q) = Finset.univ.sup fun l : Fin 50 => sides a b (ix3 r l q) := by
  unfold largest
  simp only [pointwise]
  rw [word_bot]
  rfl

theorem mean_apply (r : Fin 1024) (q : Fin 256) : mean a b (ix2 r q) = (∑ l : Fin 50, sides a b (ix3 r l q)) * Gru.fiftieth := by
  unfold mean
  simp only [pointwise]
  rw [word_fifty, zero_add, Ideal.div, if_neg (by norm_cast), Gru.fiftieth, EReal.coe_inv]

/-- The largest and the mean of one direction's steps. -/
theorem largest_f (r : Fin 1024) (j : Fin 128) (q : Fin 256) (hq : q.val = j.val) : largest a b (ix2 r q) = Finset.univ.sup fun l : Fin 50 => a (ix3 l r j) := by
  rw [largest_apply]
  exact Finset.sup_congr rfl fun l _ => sides_f a b l r j q hq

theorem largest_b (r : Fin 1024) (j : Fin 128) (q : Fin 256) (hq : q.val = 128 + j.val) : largest a b (ix2 r q) = Finset.univ.sup fun l : Fin 50 => b (ix3 l r j) := by
  rw [largest_apply]
  refine (Finset.sup_congr rfl fun l _ => sides_b a b l r j q hq).trans ?_
  refine le_antisymm (Finset.sup_le fun l _ => Finset.le_sup (f := fun l : Fin 50 => b (ix3 l r j)) (Finset.mem_univ l.rev)) (Finset.sup_le fun l _ => ?_)
  have := Finset.le_sup (f := fun l : Fin 50 => b (ix3 l.rev r j)) (Finset.mem_univ l.rev)
  rwa [Fin.rev_rev] at this

theorem mean_f (r : Fin 1024) (j : Fin 128) (q : Fin 256) (hq : q.val = j.val) : mean a b (ix2 r q) = (∑ l : Fin 50, a (ix3 l r j)) * Gru.fiftieth := by
  rw [mean_apply]
  exact congrArg (· * _) (Finset.sum_congr rfl fun l _ => sides_f a b l r j q hq)

theorem mean_b (r : Fin 1024) (j : Fin 128) (q : Fin 256) (hq : q.val = 128 + j.val) : mean a b (ix2 r q) = (∑ l : Fin 50, b (ix3 l r j)) * Gru.fiftieth := by
  rw [mean_apply]
  refine congrArg (· * _) ((Finset.sum_congr rfl fun l _ => sides_b a b l r j q hq).trans ?_)
  exact Equiv.sum_comp Fin.revPerm fun l : Fin 50 => b (ix3 l r j)

/-- The head's input: the last states, the largest and the means, of the two directions in turn. -/
theorem cat_apply (r : Fin 1024) (q : Fin 768) :
    (concatenate S1024x768 1 [⟨S1024x256, concatenate S1024x256 1 [⟨S1024x128, h⟩, ⟨S1024x128, h'⟩] Facts₀.concatenates_S1024x128_S1024x128_S1024x256_d1⟩,
      ⟨S1024x256, largest a b⟩, ⟨S1024x256, mean a b⟩] Facts₀.concatenates_S1024x256_S1024x256_S1024x256_S1024x768_d1 : Vec Ideal S1024x768 .f32) (ix2 r q)
      = Gru.cat6 (fun j => h (ix2 r j)) (fun j => h' (ix2 r j)) (fun j => Finset.univ.sup fun l : Fin 50 => a (ix3 l r j)) (fun j => Finset.univ.sup fun l : Fin 50 => b (ix3 l r j))
          (fun j => (∑ l : Fin 50, a (ix3 l r j)) * Gru.fiftieth) (fun j => (∑ l : Fin 50, b (ix3 l r j)) * Gru.fiftieth) q := by
  have hq := q.isLt
  simp only [pointwise]
  unfold Gru.cat6
  simp
  by_cases h0 : q.val < 128
  · rw [dif_pos (by omega), dif_pos h0, dif_pos h0]
  rw [dif_neg h0]
  by_cases h1 : q.val - 128 < 128
  · rw [dif_pos (by omega), dif_neg h0, dif_pos h1]
  rw [dif_neg h1, dif_neg (by omega)]
  by_cases h2 : q.val - 128 - 128 < 128
  · rw [dif_pos h2, dif_pos (by omega)]
    exact largest_f a b r _ _ (by dsimp only; omega)
  rw [dif_neg h2]
  by_cases h3 : q.val - 128 - 128 - 128 < 128
  · rw [dif_pos h3, dif_pos (by omega)]
    exact largest_b a b r _ _ (by dsimp only; omega)
  rw [dif_neg h3, dif_neg (by omega)]
  by_cases h4 : q.val - 128 - 128 - 128 - 128 < 128
  · rw [dif_pos h4]
    exact mean_f a b r _ _ (by dsimp only; omega)
  rw [dif_neg h4]
  exact mean_b a b r _ _ (by dsimp only; omega)

end Pool

/-! ## The result -/

theorem sup_fin (f : ℕ → EReal) (n : ℕ) : (Finset.univ.sup fun l : Fin n => f l.val) = (Finset.range n).sup f :=
  le_antisymm (Finset.sup_le fun l _ => Finset.le_sup (f := f) (Finset.mem_range.mpr l.isLt))
    (Finset.sup_le fun l hl => Finset.le_sup (f := fun l : Fin n => f l.val) (Finset.mem_univ (⟨l, Finset.mem_range.mp hl⟩ : Fin n)))

/-- The largest and the sum of one unit's states over the steps. -/
theorem sup_steps (a : Vec Ideal S50x1024x128 .f32) (f : ℕ → EReal) (r : Fin 1024) (j : Fin 128) (h : ∀ l : Fin 50, a (ix3 l r j) = f l.val) :
    (Finset.univ.sup fun l : Fin 50 => a (ix3 l r j)) = (Finset.range 50).sup f :=
  (Finset.sup_congr rfl fun l _ => h l).trans (sup_fin f 50)

theorem sum_steps (a : Vec Ideal S50x1024x128 .f32) (f : ℕ → EReal) (r : Fin 1024) (j : Fin 128) (h : ∀ l : Fin 50, a (ix3 l r j) = f l.val) :
    (∑ l : Fin 50, a (ix3 l r j)) = ∑ l ∈ Finset.range 50, f l :=
  (Finset.sum_congr rfl fun l _ => h l).trans (Finset.sum_range f).symm

variable (m : (ℓ : Loc nD τ sig) → Buf (Elt Ideal) ℓ) (d : Dev nD)

/-- What the second loop does not write it leaves as the first loop did. -/
theorem out1_trip0 (b : Ref sig .tc) (hc : b ∉ condOps1W) (hi : b ∉ inOps1W) (hs : b ∉ stOps1W) (hg : b ∉ gateOps1W) (ho : b ∉ outOps1W)
    (hm : b ∉ midOpsW) (hc' : b ∉ condOps0W) : out1 m d (dr b) = trip0 m 50 d (dr b) := by
  unfold out1
  rw [after_of_writes_sub _ _ condOps1_writes hc, trip1_keep m b hc hi hs hg ho, in1, after_of_writes_sub _ _ midOps_writes hm, out0,
    after_of_writes_sub _ _ condOps0_writes hc']

theorem out1_trip1 (b : Ref sig .tc) (hc : b ∉ condOps1W) : out1 m d (dr b) = trip1 m 50 d (dr b) := by
  unfold out1
  rw [after_of_writes_sub _ _ condOps1_writes hc]

/-- No operation writes an argument. -/
abbrev Kept (b : Ref sig .tc) : Prop := b ∉ headOpsW ∧ b ∉ poolOpsW ∧ b ∉ condOps1W ∧ b ∉ inOps1W ∧ b ∉ stOps1W ∧ b ∉ gateOps1W ∧ b ∉ outOps1W ∧ b ∉ midOpsW
  ∧ b ∉ condOps0W ∧ b ∉ inOps0W ∧ b ∉ stOps0W ∧ b ∉ gateOps0W ∧ b ∉ outOps0W ∧ b ∉ preOpsW

theorem pool_arg (b : Ref sig .tc) (h : Kept b) : after poolOps (out1 m d) (dr b) = m ((d : Thread nD τ).loc b) := by
  obtain ⟨-, hp, hc, hi, hs, hg, ho, hm, hc', hi', hs', hg', ho', hpre⟩ := h
  rw [after_of_writes_sub _ _ poolOps_writes hp, out1_trip0 m d b hc hi hs hg ho hm hc', trip0_keep m b hc' hi' hs' hg' ho', in0_arg m d b hpre]

theorem fin_arg (b : Ref sig .tc) (h : Kept b) : fin m d (dr b) = m ((d : Thread nD τ).loc b) := by
  unfold fin
  rw [after_of_writes_sub _ _ headOps_writes h.1, pool_arg m d b h]

/-- The reference's result is the network's answer. -/
theorem ref_val (h : ∀ f r l, I m d f r l < 100) (r : Fin 1024) (c : Fin 1) :
    (fin m d (dr main_v35) : Vec Ideal S1024x1 .f32) (ix2 r c) = Gru.answer
      (af m d) (fun g k => (m ((d : Thread nD τ).loc main_arg3) : Vec Ideal S384x128 .f32) (ix2 g k)) (fun g => (m ((d : Thread nD τ).loc main_arg5) : Vec Ideal S384 .f32) (ix1 g))
      (ab m d) (fun g k => (m ((d : Thread nD τ).loc main_arg7) : Vec Ideal S384x128 .f32) (ix2 g k)) (fun g => (m ((d : Thread nD τ).loc main_arg9) : Vec Ideal S384 .f32) (ix1 g))
      (fun q k => (m ((d : Thread nD τ).loc main_arg10) : Vec Ideal S32x768 .f32) (ix2 k q)) (fun k => (m ((d : Thread nD τ).loc main_arg11) : Vec Ideal S32 .f32) (ix1 k))
      (fun k => (m ((d : Thread nD τ).loc main_arg12) : Vec Ideal S1x32 .f32) (ix2 0 k)) ((m ((d : Thread nD τ).loc main_arg13) : Vec Ideal S1 .f32) (ix1 0)) r := by
  obtain ⟨f6, f7⟩ := loop0 m d (in0_zero m d) 50 le_rfl
  obtain ⟨g6, g7⟩ := loop1 m d (in1_zero m d) 50 le_rfl
  rw [← Gru.answer_congr _ _ _ _ _ _ _ _ r (fun l hl => a0_eq m d h l hl) (fun l hl => a1_eq m d h l hl)]
  have e3 : w0 m d = fun g k => (m ((d : Thread nD τ).loc main_arg3) : Vec Ideal S384x128 .f32) (ix2 g k) := by
    unfold w0; rw [(in0_id m d).2.2.2.1]
  have e5 : b0 m d = fun g => (m ((d : Thread nD τ).loc main_arg5) : Vec Ideal S384 .f32) (ix1 g) := by
    unfold b0; rw [(in0_id m d).2.2.2.2]
  have e7 : w1 m d = fun g k => (m ((d : Thread nD τ).loc main_arg7) : Vec Ideal S384x128 .f32) (ix2 g k) := by
    unfold w1; rw [(in1_id m d).2.2.2.1]
  have e9 : b1 m d = fun g => (m ((d : Thread nD τ).loc main_arg9) : Vec Ideal S384 .f32) (ix1 g) := by
    unfold b1; rw [(in1_id m d).2.2.2.2.1]
  rw [← e3, ← e5, ← e7, ← e9]
  unfold fin
  rw [head_v35, pool_arg m d main_arg10 (by decide), pool_arg m d main_arg11 (by decide), pool_arg m d main_arg12 (by decide), pool_arg m d main_arg13 (by decide), pool_v24]
  unfold Gru.answer
  refine (congrArg (fun x => Gru.head x _ _ _ _) (funext fun q => cat_apply _ _ _ _ r q)).trans ?_
  rw [out1_trip0 m d main_v12_6 (by decide) (by decide) (by decide) (by decide) (by decide) (by decide) (by decide),
    out1_trip0 m d main_v12_7 (by decide) (by decide) (by decide) (by decide) (by decide) (by decide) (by decide),
    out1_trip1 m d main_v15_6 (by decide), out1_trip1 m d main_v15_7 (by decide)]
  have s7 (j : Fin 128) := sup_steps (trip0 m 50 d (dr main_v12_7)) (fun l => Gru.hid (a0 m d) (w0 m d) (b0 m d) (l + 1) r j) r j fun l => f7 l l.isLt r j
  have s7' (j : Fin 128) := sup_steps (trip1 m 50 d (dr main_v15_7)) (fun l => Gru.hid (a1 m d) (w1 m d) (b1 m d) (l + 1) r j) r j fun l => g7 l l.isLt r j
  have t7 (j : Fin 128) := sum_steps (trip0 m 50 d (dr main_v12_7)) (fun l => Gru.hid (a0 m d) (w0 m d) (b0 m d) (l + 1) r j) r j fun l => f7 l l.isLt r j
  have t7' (j : Fin 128) := sum_steps (trip1 m 50 d (dr main_v15_7)) (fun l => Gru.hid (a1 m d) (w1 m d) (b1 m d) (l + 1) r j) r j fun l => g7 l l.isLt r j
  simp only [f6, g6, s7, s7', t7, t7']
  rfl

end Cert.Proof.Ref

end
-- ==== Proof.RefFrames.lean ====
/-
  The reference's arguments end as they were.
-/
module

public import proofs.«01_k».proof.Proof.RefAns

@[expose] public section

noncomputable section

namespace Cert.Proof.Ref

open Cert.ReferenceIdeal

open Idealize.ShloMosaic Idealize.ShloMosaic.TcCoe

/-- The arguments end as they were. -/
theorem args_of_ends (m : (ℓ : Loc nD τ sig) → Buf (Elt Ideal) ℓ) (r) (h : Ends m r) (c : Dev nD) :
    r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)
        ∧ r.2.mem ((c : Thread nD τ).loc main_arg13) = m ((c : Thread nD τ).loc main_arg13) := by
  have key : ∀ b : Ref sig .tc, (dr b).isScoped = false → Kept b → r.2.mem ((c : Thread nD τ).loc b) = m ((c : Thread nD τ).loc b) :=
    fun b hb hn => (h.1 c b hb).trans (fin_arg m c b hn)
  refine ⟨?_, ?_, ?_, ?_, ?_, ?_, ?_, ?_, ?_, ?_, ?_, ?_, ?_, ?_⟩ <;> exact key _ rfl (by decide)

end Cert.Proof.Ref

end
-- ==== Proof.KernelVal.lean ====
/-
  The kernel's result as the network's answer of the argument arrays.
-/
module

public import proofs.«01_k».proof.Proof.Hidden
public import proofs.«01_k».proof.Proof.Index

@[expose] public section

noncomputable section

namespace Cert.Proof.Sc

open Cert.KernelIdeal Cert.KernelIdeal.Gen

open Idealize.ShloMosaic Idealize.ShloMosaic.TcCoe

variable (m : (ℓ : Loc nD τ sig) → Buf (Elt Ideal) ℓ) (d : Dev nD)

/-! ## The host's arrays -/

theorem V1_v11 : V1 m d (dr main_v11) = transpose S208x768 [1, 0] (concatenate S768x208 0 [⟨S384x208, (m ((d : Thread nD τ).loc main_arg2) : Vec Ideal S384x208 .f32)⟩,
    ⟨S384x208, (m ((d : Thread nD τ).loc main_arg6) : Vec Ideal S384x208 .f32)⟩] concatenates_S384x208_S384x208_S768x208_d0) transposes_S768x208_S208x768_1_0 := by
  unfold V1 ops1 StableHlo.launchContents
  after_results

theorem V1_v13 : V1 m d (dr main_v13) = shapeCast S1x768 (concatenate S768 0 [⟨S384, (m ((d : Thread nD τ).loc main_arg4) : Vec Ideal S384 .f32)⟩,
    ⟨S384, (m ((d : Thread nD τ).loc main_arg8) : Vec Ideal S384 .f32)⟩] concatenates_S384_S384_S768_d0) shapeCasts_S768_S1x768 := by
  unfold V1 ops1 StableHlo.launchContents
  after_results
  rfl

theorem V1_v14 : V1 m d (dr main_v14) = transpose S128x384 [1, 0] (m ((d : Thread nD τ).loc main_arg3) : Vec Ideal S384x128 .f32) transposes_S384x128_S128x384_1_0 := by
  unfold V1 ops1 StableHlo.launchContents
  after_results

theorem V1_v15 : V1 m d (dr main_v15) = transpose S128x384 [1, 0] (m ((d : Thread nD τ).loc main_arg7) : Vec Ideal S384x128 .f32) transposes_S384x128_S128x384_1_0 := by
  unfold V1 ops1 StableHlo.launchContents
  after_results

theorem V1_v16 : V1 m d (dr main_v16) = shapeCast S1x384 (m ((d : Thread nD τ).loc main_arg5) : Vec Ideal S384 .f32) shapeCasts_S384_S1x384 := by
  unfold V1 ops1 StableHlo.launchContents
  after_results
  rfl

theorem V1_v17 : V1 m d (dr main_v17) = shapeCast S1x384 (m ((d : Thread nD τ).loc main_arg9) : Vec Ideal S384 .f32) shapeCasts_S384_S1x384 := by
  unfold V1 ops1 StableHlo.launchContents
  after_results
  rfl

theorem V1_v18 : V1 m d (dr main_v18) = transpose S768x32 [1, 0] (m ((d : Thread nD τ).loc main_arg10) : Vec Ideal S32x768 .f32) transposes_S32x768_S768x32_1_0 := by
  unfold V1 ops1 StableHlo.launchContents
  after_results

theorem V1_v19 : V1 m d (dr main_v19) = shapeCast S1x32 (m ((d : Thread nD τ).loc main_arg11) : Vec Ideal S32 .f32) shapeCasts_S32_S1x32 := by
  unfold V1 ops1 StableHlo.launchContents
  after_results
  rfl

theorem V1_v20 : V1 m d (dr main_v20) = shapeCast S1x1 (m ((d : Thread nD τ).loc main_arg13) : Vec Ideal S1 .f32) shapeCasts_S1_S1x1 := by
  unfold V1 ops1 StableHlo.launchContents
  after_results
  rfl

theorem tab_eq : tab m d = shapeCast S21008 (m ((d : Thread nD τ).loc main_arg1) : Vec Ideal S26x101x8 .f32) shapeCasts_S26x101x8_S21008 := by
  unfold tab V1 ops1 StableHlo.launchContents
  after_results
  rfl

theorem V3_v22 : V3 m d (dr main_v22) = shapeCast S51200x208 (gather (tab m d) (ind m d)) shapeCasts_S10649600_S51200x208 := by
  unfold V3 ops2
  after_results
  unfold V2
  rw [Function.update_self]
  rfl

/-! ## The gathered rows -/

/-- The arguments by coordinates. -/
abbrev T (f : Fin 26) (v : Fin 101) (c : Fin 8) : EReal := (m ((d : Thread nD τ).loc main_arg1) : Vec Ideal S26x101x8 .f32) (ix3 f v c)
abbrev I (f : Fin 26) (r : Fin 1024) (l : Fin 50) : ℕ := (idx m d (ix3 f r l)).toNat

theorem gather_at (X : Vec Ideal S21008 .f32) (J : IVec S1331200 32) (n : ℕ) (hn : n < 10649600) (i : ℕ)
    (hi : (J (at1 (n / 8) (by omega))).toNat = i) (p : ℕ) (hp : p < 21008) (e : (i * 8 + n % 8) % 21008 = p) :
    gather X J (at1 n hn) = X (at1 p hp) := by
  subst hi e
  rfl

/-- Row `l * 1024 + r` of the gathered rows is the embedded input of row `r` at step `l`. -/
theorem rows_apply (h : PreOK m) (l : ℕ) (hl : l < 50) (r : Fin 1024) (k : Fin 208) (q : Fin 51200) (hq : q.val = l * 1024 + r.val) :
    (V3 m d (dr main_v22) : Vec Ideal S51200x208 .f32) (ix2 q k) = Gru.emb (T m d) (I m d) l r k := by
  have hk := k.isLt
  have hr := r.isLt
  have hqq := q.isLt
  rw [V3_v22, shapeCast_apply _ _ (ix2 q k) (at1 (q.val * 208 + k.val) (by omega)) (by rw [Shape.rowMajor_val_two, Shape.rowMajor_val_one]; rfl)]
  have e := ind_toNat m h d ⟨l, hl⟩ r ⟨k.val / 8, by omega⟩ (at1 ((q.val * 208 + k.val) / 8) (by omega)) (by rw [at1_val]; dsimp only; omega)
  have hx : I m d ⟨k.val / 8, by omega⟩ r ⟨l, hl⟩ < 100 := h d (ix3 ⟨k.val / 8, by omega⟩ r ⟨l, hl⟩)
  have e' : (ind m d (at1 ((q.val * 208 + k.val) / 8) (by omega))).toNat = I m d ⟨k.val / 8, by omega⟩ r ⟨l, hl⟩ + 101 * (k.val / 8) := e
  rw [gather_at _ _ _ _ (I m d ⟨k.val / 8, by omega⟩ r ⟨l, hl⟩ + 101 * (k.val / 8)) e'
      ((k.val / 8 * 101 + I m d ⟨k.val / 8, by omega⟩ r ⟨l, hl⟩) * 8 + k.val % 8) (by omega) (by omega),
    tab_eq, shapeCast_apply _ _ _ (ix3 (⟨k.val / 8, by omega⟩ : Fin 26) (⟨I m d ⟨k.val / 8, by omega⟩ r ⟨l, hl⟩, by omega⟩ : Fin 101) (⟨k.val % 8, Nat.mod_lt _ (by decide)⟩ : Fin 8)) (by
    rw [Shape.rowMajor_val_three, Shape.rowMajor_val_one]; rfl)]
  unfold Gru.emb
  have e1 : (⟨l % 50, Nat.mod_lt _ (by decide)⟩ : Fin 50) = ⟨l, hl⟩ := Fin.ext (Nat.mod_eq_of_lt hl)
  have e2 : (⟨I m d ⟨k.val / 8, by omega⟩ r ⟨l % 50, Nat.mod_lt _ (by decide)⟩ % 101, Nat.mod_lt _ (by decide)⟩ : Fin 101) = ⟨I m d ⟨k.val / 8, by omega⟩ r ⟨l, hl⟩, by omega⟩ :=
    Fin.ext (by rw [e1]; exact Nat.mod_eq_of_lt (by omega))
  exact (congrArg (fun v => T m d ⟨k.val / 8, by omega⟩ v ⟨k.val % 8, Nat.mod_lt _ (by decide)⟩) e2).symm

/-! ## The projected rows -/

theorem proj_apply (A : Vec Ideal S51200x208 .f32) (W : Vec Ideal S208x768 .f32) (b : Vec Ideal S1x768 .f32) (q : Fin 51200) (g : Fin 768) :
    R1.proj A W b (ix2 q g) = (∑ k : Fin 208, A (ix2 q k) * W (ix2 k g)) + b (ix2 0 g) := by
  unfold R1.proj
  refine (pay1_apply _ _ _ _ _).trans ?_
  refine congrArg (· + b (ix2 0 g)) (Finset.sum_congr rfl fun k _ => congrArg (· * W (ix2 k g)) ?_)
  unfold R1.rows
  have hq := q.isLt
  have e : (⟨3200 * (q.val / 3200) + q.val % 3200, by omega⟩ : Fin 51200) = q := Fin.ext (by dsimp only; omega)
  exact congrArg (fun q => A (ix2 q k)) e

/-- The input weights and biases by gate: the forward direction's first 384 columns, the backward's last. -/
theorem v11_f (g : Fin 384) (k : Fin 208) : (V1 m d (dr main_v11) : Vec Ideal S208x768 .f32) (ix2 k ⟨g.val, by omega⟩)
    = (m ((d : Thread nD τ).loc main_arg2) : Vec Ideal S384x208 .f32) (ix2 g k) := by
  rw [V1_v11]
  simp only [pointwise]
  simp

theorem v11_b (g : Fin 384) (k : Fin 208) : (V1 m d (dr main_v11) : Vec Ideal S208x768 .f32) (ix2 k ⟨384 + g.val, by omega⟩)
    = (m ((d : Thread nD τ).loc main_arg6) : Vec Ideal S384x208 .f32) (ix2 g k) := by
  rw [V1_v11]
  simp only [pointwise]
  simp

theorem v13_f (g : Fin 384) : (V1 m d (dr main_v13) : Vec Ideal S1x768 .f32) (ix2 0 ⟨g.val, by omega⟩)
    = (m ((d : Thread nD τ).loc main_arg4) : Vec Ideal S384 .f32) (ix1 g) := by
  rw [V1_v13]
  simp only [pointwise]
  simp

theorem v13_b (g : Fin 384) : (V1 m d (dr main_v13) : Vec Ideal S1x768 .f32) (ix2 0 ⟨384 + g.val, by omega⟩)
    = (m ((d : Thread nD τ).loc main_arg8) : Vec Ideal S384 .f32) (ix1 g) := by
  rw [V1_v13]
  simp only [pointwise]
  simp

/-- The gates of the two directions, of the arguments. -/
abbrev af (l : ℕ) (r : Fin 1024) : Fin 384 → EReal := Gru.gates (Gru.emb (T m d) (I m d) l r)
  (fun g k => (m ((d : Thread nD τ).loc main_arg2) : Vec Ideal S384x208 .f32) (ix2 g k)) (fun g => (m ((d : Thread nD τ).loc main_arg4) : Vec Ideal S384 .f32) (ix1 g))
abbrev ab (l : ℕ) (r : Fin 1024) : Fin 384 → EReal := Gru.gates (Gru.emb (T m d) (I m d) (49 - l) r)
  (fun g k => (m ((d : Thread nD τ).loc main_arg6) : Vec Ideal S384x208 .f32) (ix2 g k)) (fun g => (m ((d : Thread nD τ).loc main_arg8) : Vec Ideal S384 .f32) (ix1 g))

theorem V4_v23 : V4 m d (dr main_v23) = R1.proj (V3 m d (dr main_v22)) (V1 m d (dr main_v11)) (V1 m d (dr main_v13)) := by
  unfold V4
  rw [Function.update_self, R1.out_eq]
  unfold vals
  rw [V3_of m d main_v11 (by decide) (by decide), V3_of m d main_v13 (by decide) (by decide)]

theorem gf_eq (h : PreOK m) (l : ℕ) (hl : l < 50) : gf (V4 m d (dr main_v23)) l = af m d l := by
  funext r g
  have hr := r.isLt
  rw [V4_v23]
  refine (proj_apply _ _ _ _ _).trans ?_
  unfold af Gru.gates
  refine congrArg₂ (· + ·) (Finset.sum_congr rfl fun k _ => congrArg₂ (· * ·) (rows_apply m d h l hl r k _ ?_) (v11_f m d g k)) (v13_f m d g)
  show (1024 * l + r.val) % 51200 = l * 1024 + r.val
  omega

theorem gb_eq (h : PreOK m) (l : ℕ) (hl : l < 50) : gb (V4 m d (dr main_v23)) l = ab m d l := by
  funext r g
  have hr := r.isLt
  rw [V4_v23]
  refine (proj_apply _ _ _ _ _).trans ?_
  unfold ab Gru.gates
  refine congrArg₂ (· + ·) (Finset.sum_congr rfl fun k _ => congrArg₂ (· * ·) (rows_apply m d h (49 - l) (by omega) r k _ ?_) (v11_b m d g k)) (v13_b m d g)
  show (1024 * (49 - l) + r.val) % 51200 = (49 - l) * 1024 + r.val
  omega

/-- What the two small kernels read besides is as the operations before the SparseCore call left it. -/
theorem V4_V1 (b : Ref sig .tc) (h : b ≠ main_v23) (h' : b ≠ main_v22) (h'' : b ≠ main_v21) : V4 m d (dr b) = V1 m d (dr b) :=
  (V4_of m d b h).trans (V3_of m d b h' h'')

/-- The kernel's result is the network's answer. -/
theorem kernel_val (h : PreOK m) (r : Fin 1024) (c : Fin 1) :
    (V5 m d (dr main_v24) : Vec Ideal S1024x1 .f32) (ix2 r c) = Gru.answer
      (af m d) (fun g k => (m ((d : Thread nD τ).loc main_arg3) : Vec Ideal S384x128 .f32) (ix2 g k)) (fun g => (m ((d : Thread nD τ).loc main_arg5) : Vec Ideal S384 .f32) (ix1 g))
      (ab m d) (fun g k => (m ((d : Thread nD τ).loc main_arg7) : Vec Ideal S384x128 .f32) (ix2 g k)) (fun g => (m ((d : Thread nD τ).loc main_arg9) : Vec Ideal S384 .f32) (ix1 g))
      (fun q k => (m ((d : Thread nD τ).loc main_arg10) : Vec Ideal S32x768 .f32) (ix2 k q)) (fun k => (m ((d : Thread nD τ).loc main_arg11) : Vec Ideal S32 .f32) (ix1 k))
      (fun k => (m ((d : Thread nD τ).loc main_arg12) : Vec Ideal S1x32 .f32) (ix2 0 k)) ((m ((d : Thread nD τ).loc main_arg13) : Vec Ideal S1 .f32) (ix1 0)) r := by
  rw [← Gru.answer_congr _ _ _ _ _ _ _ _ r (fun l hl => gf_eq m d h l hl) (fun l hl => gb_eq m d h l hl)]
  unfold V5
  rw [Function.update_self, R2.out_eq, R2.headAt, R2.stateAt]
  refine (head_state _ _ _ _ _ _ _ _ _ r c).trans ?_
  unfold vals
  have e3 : wt (V4 m d (dr main_v14)) = fun g k => (m ((d : Thread nD τ).loc main_arg3) : Vec Ideal S384x128 .f32) (ix2 g k) := by
    funext g k; rw [V4_V1 m d _ (by decide) (by decide) (by decide), V1_v14]; simp only [wt, pointwise]
  have e5 : wt (V4 m d (dr main_v15)) = fun g k => (m ((d : Thread nD τ).loc main_arg7) : Vec Ideal S384x128 .f32) (ix2 g k) := by
    funext g k; rw [V4_V1 m d _ (by decide) (by decide) (by decide), V1_v15]; simp only [wt, pointwise]
  have e4 : bs (V4 m d (dr main_v16)) = fun g => (m ((d : Thread nD τ).loc main_arg5) : Vec Ideal S384 .f32) (ix1 g) := by
    funext g; rw [V4_V1 m d _ (by decide) (by decide) (by decide), V1_v16]; simp only [bs, pointwise]
  have e6 : bs (V4 m d (dr main_v17)) = fun g => (m ((d : Thread nD τ).loc main_arg9) : Vec Ideal S384 .f32) (ix1 g) := by
    funext g; rw [V4_V1 m d _ (by decide) (by decide) (by decide), V1_v17]; simp only [bs, pointwise]
  have e7 : (fun (q : Fin 768) (k : Fin 32) => (V4 m d (dr main_v18) : Vec Ideal S768x32 .f32) (ix2 q k)) = fun q k => (m ((d : Thread nD τ).loc main_arg10) : Vec Ideal S32x768 .f32) (ix2 k q) := by
    funext q k; rw [V4_V1 m d _ (by decide) (by decide) (by decide), V1_v18]; simp only [pointwise]
  have e8 : (fun k : Fin 32 => (V4 m d (dr main_v19) : Vec Ideal S1x32 .f32) (ix2 0 k)) = fun k => (m ((d : Thread nD τ).loc main_arg11) : Vec Ideal S32 .f32) (ix1 k) := by
    funext k; rw [V4_V1 m d _ (by decide) (by decide) (by decide), V1_v19]; simp only [pointwise]
  have e9 : V4 m d (dr main_arg12) = m ((d : Thread nD τ).loc main_arg12) :=
    (V4_V1 m d _ (by decide) (by decide) (by decide)).trans (V1_of m d _ (by decide))
  have e10 : (V4 m d (dr main_v20) : Vec Ideal S1x1 .f32) (ix2 0 0) = (m ((d : Thread nD τ).loc main_arg13) : Vec Ideal S1 .f32) (ix1 0) := by
    rw [V4_V1 m d _ (by decide) (by decide) (by decide), V1_v20]; simp only [pointwise]
  rw [e3, e4, e5, e6, e7, e8, e9, e10]

end Cert.Proof.Sc

end
-- ==== Proof.Same.lean ====
/-
  The kernel and the reference give the same result from the same arguments: both give the network's answer.
-/
module

public import proofs.«01_k».proof.Proof.KernelVal
public import proofs.«01_k».proof.Proof.RefAns

@[expose] public section

noncomputable section

namespace Cert.Proof

open Cert.KernelIdeal

open Idealize.ShloMosaic Idealize.ShloMosaic.TcCoe

/-- The network's answer of the fourteen argument arrays. -/
def net (x0 : IVec S26x1024x50 32) (x1 : Vec Ideal S26x101x8 .f32) (x2 : Vec Ideal S384x208 .f32) (x3 : Vec Ideal S384x128 .f32) (x4 x5 : Vec Ideal S384 .f32)
    (x6 : Vec Ideal S384x208 .f32) (x7 : Vec Ideal S384x128 .f32) (x8 x9 : Vec Ideal S384 .f32) (x10 : Vec Ideal S32x768 .f32) (x11 : Vec Ideal S32 .f32)
    (x12 : Vec Ideal S1x32 .f32) (x13 : Vec Ideal S1 .f32) (r : Fin 1024) : EReal :=
  Gru.answer
    (fun l r => Gru.gates (Gru.emb (fun f v c => x1 (ix3 f v c)) (fun f r l => (x0 (ix3 f r l)).toNat) l r) (fun g k => x2 (ix2 g k)) fun g => x4 (ix1 g))
    (fun g k => x3 (ix2 g k)) (fun g => x5 (ix1 g))
    (fun l r => Gru.gates (Gru.emb (fun f v c => x1 (ix3 f v c)) (fun f r l => (x0 (ix3 f r l)).toNat) (49 - l) r) (fun g k => x6 (ix2 g k)) fun g => x8 (ix1 g))
    (fun g k => x7 (ix2 g k)) (fun g => x9 (ix1 g))
    (fun q k => x10 (ix2 k q)) (fun k => x11 (ix1 k)) (fun k => x12 (ix2 0 k)) (x13 (ix1 0)) r

theorem kernel_net (m : (ℓ : Loc nD τ sig) → Buf (Elt Ideal) ℓ) (d : Dev nD) (h : Sc.PreOK m) (r : Fin 1024) (c : Fin 1) :
    (Sc.V5 m d (Sc.dr main_v24) : Vec Ideal S1024x1 .f32) (ix2 r c) = net (m ((d : Thread Cert.KernelIdeal.nD Cert.KernelIdeal.τ).loc Cert.KernelIdeal.main_arg0)) (m ((d : Thread Cert.KernelIdeal.nD Cert.KernelIdeal.τ).loc Cert.KernelIdeal.main_arg1)) (m ((d : Thread Cert.KernelIdeal.nD Cert.KernelIdeal.τ).loc Cert.KernelIdeal.main_arg2)) (m ((d : Thread Cert.KernelIdeal.nD Cert.KernelIdeal.τ).loc Cert.KernelIdeal.main_arg3)) (m ((d : Thread Cert.KernelIdeal.nD Cert.KernelIdeal.τ).loc Cert.KernelIdeal.main_arg4)) (m ((d : Thread Cert.KernelIdeal.nD Cert.KernelIdeal.τ).loc Cert.KernelIdeal.main_arg5)) (m ((d : Thread Cert.KernelIdeal.nD Cert.KernelIdeal.τ).loc Cert.KernelIdeal.main_arg6)) (m ((d : Thread Cert.KernelIdeal.nD Cert.KernelIdeal.τ).loc Cert.KernelIdeal.main_arg7)) (m ((d : Thread Cert.KernelIdeal.nD Cert.KernelIdeal.τ).loc Cert.KernelIdeal.main_arg8)) (m ((d : Thread Cert.KernelIdeal.nD Cert.KernelIdeal.τ).loc Cert.KernelIdeal.main_arg9)) (m ((d : Thread Cert.KernelIdeal.nD Cert.KernelIdeal.τ).loc Cert.KernelIdeal.main_arg10)) (m ((d : Thread Cert.KernelIdeal.nD Cert.KernelIdeal.τ).loc Cert.KernelIdeal.main_arg11)) (m ((d : Thread Cert.KernelIdeal.nD Cert.KernelIdeal.τ).loc Cert.KernelIdeal.main_arg12)) (m ((d : Thread Cert.KernelIdeal.nD Cert.KernelIdeal.τ).loc Cert.KernelIdeal.main_arg13)) r :=
  Sc.kernel_val m d h r c

theorem ref_net (m' : (ℓ : Loc Cert.ReferenceIdeal.nD Cert.ReferenceIdeal.τ Cert.ReferenceIdeal.sig) → Buf (Elt Ideal) ℓ) (d : Dev Cert.ReferenceIdeal.nD)
    (h : ∀ f r l, Ref.I m' d f r l < 100) (r : Fin 1024) (c : Fin 1) :
    (Ref.fin m' d (Ref.dr Cert.ReferenceIdeal.main_v35) : Vec Ideal S1024x1 .f32) (ix2 r c) = net (m' ((d : Thread Cert.ReferenceIdeal.nD Cert.ReferenceIdeal.τ).loc Cert.ReferenceIdeal.main_arg0)) (m' ((d : Thread Cert.ReferenceIdeal.nD Cert.ReferenceIdeal.τ).loc Cert.ReferenceIdeal.main_arg1)) (m' ((d : Thread Cert.ReferenceIdeal.nD Cert.ReferenceIdeal.τ).loc Cert.ReferenceIdeal.main_arg2)) (m' ((d : Thread Cert.ReferenceIdeal.nD Cert.ReferenceIdeal.τ).loc Cert.ReferenceIdeal.main_arg3)) (m' ((d : Thread Cert.ReferenceIdeal.nD Cert.ReferenceIdeal.τ).loc Cert.ReferenceIdeal.main_arg4)) (m' ((d : Thread Cert.ReferenceIdeal.nD Cert.ReferenceIdeal.τ).loc Cert.ReferenceIdeal.main_arg5)) (m' ((d : Thread Cert.ReferenceIdeal.nD Cert.ReferenceIdeal.τ).loc Cert.ReferenceIdeal.main_arg6)) (m' ((d : Thread Cert.ReferenceIdeal.nD Cert.ReferenceIdeal.τ).loc Cert.ReferenceIdeal.main_arg7)) (m' ((d : Thread Cert.ReferenceIdeal.nD Cert.ReferenceIdeal.τ).loc Cert.ReferenceIdeal.main_arg8)) (m' ((d : Thread Cert.ReferenceIdeal.nD Cert.ReferenceIdeal.τ).loc Cert.ReferenceIdeal.main_arg9)) (m' ((d : Thread Cert.ReferenceIdeal.nD Cert.ReferenceIdeal.τ).loc Cert.ReferenceIdeal.main_arg10)) (m' ((d : Thread Cert.ReferenceIdeal.nD Cert.ReferenceIdeal.τ).loc Cert.ReferenceIdeal.main_arg11)) (m' ((d : Thread Cert.ReferenceIdeal.nD Cert.ReferenceIdeal.τ).loc Cert.ReferenceIdeal.main_arg12)) (m' ((d : Thread Cert.ReferenceIdeal.nD Cert.ReferenceIdeal.τ).loc Cert.ReferenceIdeal.main_arg13)) r :=
  Ref.ref_val m' d h r c

/-- From the same arguments, the reference's result is the kernel's. -/
theorem same (m : (ℓ : Loc nD τ sig) → Buf (Elt Ideal) ℓ) (m' : (ℓ : Loc Cert.ReferenceIdeal.nD Cert.ReferenceIdeal.τ Cert.ReferenceIdeal.sig) → Buf (Elt Ideal) ℓ)
    (d : Dev nD) (h : Sc.PreOK m)
    (e0 : m' ((d : Thread Cert.ReferenceIdeal.nD Cert.ReferenceIdeal.τ).loc Cert.ReferenceIdeal.main_arg0) = m ((d : Thread Cert.KernelIdeal.nD Cert.KernelIdeal.τ).loc Cert.KernelIdeal.main_arg0))
    (e1 : m' ((d : Thread Cert.ReferenceIdeal.nD Cert.ReferenceIdeal.τ).loc Cert.ReferenceIdeal.main_arg1) = m ((d : Thread Cert.KernelIdeal.nD Cert.KernelIdeal.τ).loc Cert.KernelIdeal.main_arg1))
    (e2 : m' ((d : Thread Cert.ReferenceIdeal.nD Cert.ReferenceIdeal.τ).loc Cert.ReferenceIdeal.main_arg2) = m ((d : Thread Cert.KernelIdeal.nD Cert.KernelIdeal.τ).loc Cert.KernelIdeal.main_arg2))
    (e3 : m' ((d : Thread Cert.ReferenceIdeal.nD Cert.ReferenceIdeal.τ).loc Cert.ReferenceIdeal.main_arg3) = m ((d : Thread Cert.KernelIdeal.nD Cert.KernelIdeal.τ).loc Cert.KernelIdeal.main_arg3))
    (e4 : m' ((d : Thread Cert.ReferenceIdeal.nD Cert.ReferenceIdeal.τ).loc Cert.ReferenceIdeal.main_arg4) = m ((d : Thread Cert.KernelIdeal.nD Cert.KernelIdeal.τ).loc Cert.KernelIdeal.main_arg4))
    (e5 : m' ((d : Thread Cert.ReferenceIdeal.nD Cert.ReferenceIdeal.τ).loc Cert.ReferenceIdeal.main_arg5) = m ((d : Thread Cert.KernelIdeal.nD Cert.KernelIdeal.τ).loc Cert.KernelIdeal.main_arg5))
    (e6 : m' ((d : Thread Cert.ReferenceIdeal.nD Cert.ReferenceIdeal.τ).loc Cert.ReferenceIdeal.main_arg6) = m ((d : Thread Cert.KernelIdeal.nD Cert.KernelIdeal.τ).loc Cert.KernelIdeal.main_arg6))
    (e7 : m' ((d : Thread Cert.ReferenceIdeal.nD Cert.ReferenceIdeal.τ).loc Cert.ReferenceIdeal.main_arg7) = m ((d : Thread Cert.KernelIdeal.nD Cert.KernelIdeal.τ).loc Cert.KernelIdeal.main_arg7))
    (e8 : m' ((d : Thread Cert.ReferenceIdeal.nD Cert.ReferenceIdeal.τ).loc Cert.ReferenceIdeal.main_arg8) = m ((d : Thread Cert.KernelIdeal.nD Cert.KernelIdeal.τ).loc Cert.KernelIdeal.main_arg8))
    (e9 : m' ((d : Thread Cert.ReferenceIdeal.nD Cert.ReferenceIdeal.τ).loc Cert.ReferenceIdeal.main_arg9) = m ((d : Thread Cert.KernelIdeal.nD Cert.KernelIdeal.τ).loc Cert.KernelIdeal.main_arg9))
    (e10 : m' ((d : Thread Cert.ReferenceIdeal.nD Cert.ReferenceIdeal.τ).loc Cert.ReferenceIdeal.main_arg10) = m ((d : Thread Cert.KernelIdeal.nD Cert.KernelIdeal.τ).loc Cert.KernelIdeal.main_arg10))
    (e11 : m' ((d : Thread Cert.ReferenceIdeal.nD Cert.ReferenceIdeal.τ).loc Cert.ReferenceIdeal.main_arg11) = m ((d : Thread Cert.KernelIdeal.nD Cert.KernelIdeal.τ).loc Cert.KernelIdeal.main_arg11))
    (e12 : m' ((d : Thread Cert.ReferenceIdeal.nD Cert.ReferenceIdeal.τ).loc Cert.ReferenceIdeal.main_arg12) = m ((d : Thread Cert.KernelIdeal.nD Cert.KernelIdeal.τ).loc Cert.KernelIdeal.main_arg12))
    (e13 : m' ((d : Thread Cert.ReferenceIdeal.nD Cert.ReferenceIdeal.τ).loc Cert.ReferenceIdeal.main_arg13) = m ((d : Thread Cert.KernelIdeal.nD Cert.KernelIdeal.τ).loc Cert.KernelIdeal.main_arg13)) :
    (Ref.fin m' d (Ref.dr Cert.ReferenceIdeal.main_v35) : Vec Ideal S1024x1 .f32) = Sc.V5 m d (Sc.dr main_v24) := by
  have h' : ∀ f r l, Ref.I m' d f r l < 100 := fun f r l => by
    unfold Ref.I
    rw [e0]
    exact h d (ix3 f r l)
  funext i
  have hi : i = ix2 (⟨(i 0).val, (i 0).isLt⟩ : Fin 1024) (⟨(i 1).val, (i 1).isLt⟩ : Fin 1) := funext fun a => match a with
    | 0 => rfl
    | 1 => rfl
  rw [hi]
  refine (ref_net m' d h' _ _).trans ?_
  rw [e0, e1, e2, e3, e4, e5, e6, e7, e8, e9, e10, e11, e12, e13]
  exact (kernel_net m d h _ _).symm

end Cert.Proof

end
-- ==== Proof.lean ====
/-
  The certificate: the kernel as printed, the kernel with its constants named and the reference run to their end and leave
  their arguments alone; naming the constants keeps the program; and the named kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocabulary
public import proofs.«01_k».proof.Proof.Vocab
public import proofs.«01_k».proof.Proof.Frames
public import proofs.«01_k».proof.Proof.Printed.Frames
public import proofs.«01_k».proof.Proof.RefFrames
public import proofs.«01_k».proof.Proof.Same

@[expose] public section

noncomputable section

namespace Cert.Proof

open Idealize.ShloMosaic Idealize.SL.Sem

/-- The printed kernel leaves its arguments alone and its semaphores at zero. -/
theorem quiescent_kernel : Cert.quiescent_Kernel := by
  intro m g h
  have hp : Printed.PreOK m := fun d i => vocab _ _ _ _ _ _ _ _ _ _ _ _ _ _ (h d) i
  exact (θ_run _ _ _).mono (fun r hr => ⟨Printed.args_of_ends m r hr, hr.2⟩) (Printed.run_main m g (Printed.ind_lt m hp))

/-- The kernel with its constants named leaves its arguments alone and its semaphores at zero. -/
theorem quiescent_kernelIdeal : Cert.quiescent_KernelIdeal := by
  intro m g h
  have hp : Sc.PreOK m := fun d i => vocab _ _ _ _ _ _ _ _ _ _ _ _ _ _ (h d) i
  exact (θ_run _ _ _).mono (fun r hr => ⟨Sc.args_of_ends m r hr, hr.2⟩) (Sc.run_main m g (Sc.ind_lt m hp))

/-- Each named constant has the value its name says. -/
theorem preserves_kernel : Cert.preserves_Kernel_KernelIdeal :=
  ⟨IdealRules.named_const.statement _ _ _ _ _ rfl, IdealRules.named_const.statement _ _ _ _ _ rfl⟩

/-- The reference leaves its arguments alone and its semaphores at zero, whatever its arguments. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (Ref.Ends m) :=
  Ref.run_ref m g

theorem quiescent_referenceIdeal : Cert.quiescent_ReferenceIdeal := fun m g _ =>
  (θ_run _ _ _).mono (fun r hr => ⟨Ref.args_of_ends m r hr, hr.2⟩) (quiescent_reference m g)

theorem quiescent_referenceIdeal_pre : Cert.quiescent_ReferenceIdeal_pre_in_vocabulary := fun m g _ =>
  (θ_run _ _ _).mono (fun r hr => ⟨Ref.args_of_ends m r hr, hr.2⟩) (quiescent_reference m g)

/-- The kernel's result is the reference's. -/
theorem algebraic_kernel : Cert.algebraic_KernelIdeal_ReferenceIdeal := by
  intro m g m' g' h hargs
  have hp : Sc.PreOK m := fun d i => vocab _ _ _ _ _ _ _ _ _ _ _ _ _ _ (h d) i
  refine ⟨fun c => Sc.V5 m c (Sc.dr Cert.KernelIdeal.main_v24), ?_, ?_⟩
  · exact (θ_run _ _ _).mono (fun r hr c => ⟨hr.1 c _ rfl, Sc.args_of_ends m r hr c⟩) (Sc.run_main m g (Sc.ind_lt m hp))
  · refine (θ_run _ _ _).mono (fun r hr c => ⟨(hr.1 c _ rfl).trans ?_, Ref.args_of_ends m' r hr c⟩) (quiescent_reference m' g')
    obtain ⟨e0, e1, e2, e3, e4, e5, e6, e7, e8, e9, e10, e11, e12, e13⟩ := hargs c
    exact same m m' c hp e0 e1 e2 e3 e4 e5 e6 e7 e8 e9 e10 e11 e12 e13

theorem claim : Cert.Claim :=
  ⟨Cert.Kernel.Gen.facts, Cert.KernelIdeal.Gen.facts, Cert.ReferenceIdeal.Gen.facts, Cert.Pre_in_vocabulary.Gen.facts, quiescent_kernel, quiescent_kernelIdeal,
    quiescent_referenceIdeal, quiescent_referenceIdeal_pre, preserves_kernel, algebraic_kernel⟩

end Cert.Proof

end
